-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v284) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16x128 : Shape := ⟨2, ![16, 128]⟩
abbrev S128x128 : Shape := ⟨2, ![128, 128]⟩
abbrev S128 : Shape := ⟨1, ![128]⟩
abbrev S32768x128 : Shape := ⟨2, ![32768, 128]⟩
abbrev S32768 : Shape := ⟨1, ![32768]⟩
abbrev S4x32 : Shape := ⟨2, ![4, 32]⟩
abbrev S256x128 : Shape := ⟨2, ![256, 128]⟩
abbrev S256 : Shape := ⟨1, ![256]⟩
abbrev S_ : Shape := ⟨0, ![]⟩

class Facts : Prop where
  bcast_S_S16x128 : S_.BroadcastsInDim S16x128 (![] : Fin 0 → Fin S16x128.rank)
  bcast_S_S128x128 : S_.BroadcastsInDim S128x128 (![] : Fin 0 → Fin S128x128.rank)
  bcast_S_S128 : S_.BroadcastsInDim S128 (![] : Fin 0 → Fin S128.rank)
  bcast_S_S32768x128 : S_.BroadcastsInDim S32768x128 (![] : Fin 0 → Fin S32768x128.rank)
  bcast_S_S32768 : S_.BroadcastsInDim S32768 (![] : Fin 0 → Fin S32768.rank)
  bcast_S_S256x128 : S_.BroadcastsInDim S256x128 (![] : Fin 0 → Fin S256x128.rank)
  bcast_S_S256 : S_.BroadcastsInDim S256 (![] : Fin 0 → Fin S256.rank)

variable [Facts]

def fn_part1 {F : FTy → Type} [FloatOps F] (main_arg6 : FVec F S32768 .f32) (main_arg7 : FVec F S128x128 .f32) (main_arg10 : FVec F S128 .f32) (main_arg11 : FVec F S256x128 .f32) (main_arg12 : FVec F S256 .f32) (main_v2 : IVec S16x128 1) (main_v5 : IVec S128x128 1) (main_v8 : IVec S128 1) (main_v11 : IVec S128x128 1) (main_v14 : IVec S128 1) (main_v17 : IVec S32768x128 1) : IVec S16x128 1 × IVec S128x128 1 × IVec S128 1 × IVec S128x128 1 × IVec S128 1 × IVec S32768x128 1 × IVec S32768 1 × IVec S128x128 1 × IVec S128 1 × IVec S256x128 1 × IVec S256 1 :=
  let main_v18 : FVec F S32768 .f32 := Host.absf main_arg6
  let main_cst_5 : FVec F S_ .f32 := constant S_ .f32 0x7F800000#32
  let main_v19 : FVec F S32768 .f32 := broadcastInDim S32768 ![] bcast_S_S32768 main_cst_5
  let main_v20 : IVec S32768 1 := cmpf .olt main_v18 main_v19
  let main_v21 : FVec F S128x128 .f32 := Host.absf main_arg7
  let main_cst_6 : FVec F S_ .f32 := constant S_ .f32 0x7F800000#32
  let main_v22 : FVec F S128x128 .f32 := broadcastInDim S128x128 ![] bcast_S_S128x128 main_cst_6
  let main_v23 : IVec S128x128 1 := cmpf .olt main_v21 main_v22
  let main_v24 : FVec F S128 .f32 := Host.absf main_arg10
  let main_cst_7 : FVec F S_ .f32 := constant S_ .f32 0x7F800000#32
  let main_v25 : FVec F S128 .f32 := broadcastInDim S128 ![] bcast_S_S128 main_cst_7
  let main_v26 : IVec S128 1 := cmpf .olt main_v24 main_v25
  let main_v27 : FVec F S256x128 .f32 := Host.absf main_arg11
  let main_cst_8 : FVec F S_ .f32 := constant S_ .f32 0x7F800000#32
  let main_v28 : FVec F S256x128 .f32 := broadcastInDim S256x128 ![] bcast_S_S256x128 main_cst_8
  let main_v29 : IVec S256x128 1 := cmpf .olt main_v27 main_v28
  let main_v30 : FVec F S256 .f32 := Host.absf main_arg12
  let main_cst_9 : FVec F S_ .f32 := constant S_ .f32 0x7F800000#32
  let main_v31 : FVec F S256 .f32 := broadcastInDim S256 ![] bcast_S_S256 main_cst_9
  let main_v32 : IVec S256 1 := cmpf .olt main_v30 main_v31
  (main_v2, main_v5, main_v8, main_v11, main_v14, main_v17, main_v20, main_v23, main_v26, main_v29, main_v32)

def fn {F : FTy → Type} [FloatOps F] (main_arg0 : FVec F S16x128 .f32) (main_arg1 : FVec F S128x128 .f32) (main_arg2 : FVec F S128 .f32) (main_arg3 : FVec F S128x128 .f32) (main_arg4 : FVec F S128 .f32) (main_arg5 : FVec F S32768x128 .f32) (main_arg6 : FVec F S32768 .f32) (main_arg7 : FVec F S128x128 .f32) (main_arg8 : FVec F S4x32 .f32) (main_arg9 : FVec F S4x32 .f32) (main_arg10 : FVec F S128 .f32) (main_arg11 : FVec F S256x128 .f32) (main_arg12 : FVec F S256 .f32) : IVec S16x128 1 × IVec S128x128 1 × IVec S128 1 × IVec S128x128 1 × IVec S128 1 × IVec S32768x128 1 × IVec S32768 1 × IVec S128x128 1 × IVec S128 1 × IVec S256x128 1 × IVec S256 1 :=
  let main_v0 : FVec F S16x128 .f32 := Host.absf main_arg0
  let main_cst : FVec F S_ .f32 := constant S_ .f32 0x7F800000#32
  let main_v1 : FVec F S16x128 .f32 := broadcastInDim S16x128 ![] bcast_S_S16x128 main_cst
  let main_v2 : IVec S16x128 1 := cmpf .olt main_v0 main_v1
  let main_v3 : FVec F S128x128 .f32 := Host.absf main_arg1
  let main_cst_0 : FVec F S_ .f32 := constant S_ .f32 0x7F800000#32
  let main_v4 : FVec F S128x128 .f32 := broadcastInDim S128x128 ![] bcast_S_S128x128 main_cst_0
  let main_v5 : IVec S128x128 1 := cmpf .olt main_v3 main_v4
  let main_v6 : FVec F S128 .f32 := Host.absf main_arg2
  let main_cst_1 : FVec F S_ .f32 := constant S_ .f32 0x7F800000#32
  let main_v7 : FVec F S128 .f32 := broadcastInDim S128 ![] bcast_S_S128 main_cst_1
  let main_v8 : IVec S128 1 := cmpf .olt main_v6 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_v12 : FVec F S128 .f32 := Host.absf main_arg4
  let main_cst_3 : FVec F S_ .f32 := constant S_ .f32 0x7F800000#32
  let main_v13 : FVec F S128 .f32 := broadcastInDim S128 ![] bcast_S_S128 main_cst_3
  let main_v14 : IVec S128 1 := cmpf .olt main_v12 main_v13
  let main_v15 : FVec F S32768x128 .f32 := Host.absf main_arg5
  let main_cst_4 : FVec F S_ .f32 := constant S_ .f32 0x7F800000#32
  let main_v16 : FVec F S32768x128 .f32 := broadcastInDim S32768x128 ![] bcast_S_S32768x128 main_cst_4
  let main_v17 : IVec S32768x128 1 := cmpf .olt main_v15 main_v16
  fn_part1 (F := F) main_arg6 main_arg7 main_arg10 main_arg11 main_arg12 main_v2 main_v5 main_v8 main_v11 main_v14 main_v17
-- ==== Kernel.lean ====
abbrev S16x128 : Shape := ⟨2, ![16, 128]⟩
abbrev S128x128 : Shape := ⟨2, ![128, 128]⟩
abbrev S128 : Shape := ⟨1, ![128]⟩
abbrev S32768x128 : Shape := ⟨2, ![32768, 128]⟩
abbrev S32768 : Shape := ⟨1, ![32768]⟩
abbrev S4x32 : Shape := ⟨2, ![4, 32]⟩
abbrev S256x128 : Shape := ⟨2, ![256, 128]⟩
abbrev S256 : Shape := ⟨1, ![256]⟩
abbrev S256x128x128 : Shape := ⟨3, ![256, 128, 128]⟩
abbrev S4x4 : Shape := ⟨2, ![4, 4]⟩
abbrev S_ : Shape := ⟨0, ![]⟩
abbrev S4x1x4 : Shape := ⟨3, ![4, 1, 4]⟩
abbrev S4x32x1 : Shape := ⟨3, ![4, 32, 1]⟩
abbrev S4x32x4 : Shape := ⟨3, ![4, 32, 4]⟩
abbrev S128x4 : Shape := ⟨2, ![128, 4]⟩
abbrev S128x8 : Shape := ⟨2, ![128, 8]⟩
abbrev S1048576 : Shape := ⟨1, ![1048576]⟩
abbrev S16x256x256 : Shape := ⟨3, ![16, 256, 256]⟩
abbrev S1x128 : Shape := ⟨2, ![1, 128]⟩
abbrev S1x256 : Shape := ⟨2, ![1, 256]⟩
abbrev S32x128x128 : Shape := ⟨3, ![32, 128, 128]⟩
abbrev S32x128 : Shape := ⟨2, ![32, 128]⟩
abbrev S8x256x256 : Shape := ⟨3, ![8, 256, 256]⟩
abbrev S8x16x32x128 : Shape := ⟨4, ![8, 16, 32, 128]⟩
abbrev S16x32x128 : Shape := ⟨3, ![16, 32, 128]⟩
abbrev S1x32x128 : Shape := ⟨3, ![1, 32, 128]⟩
abbrev S1x16x32x128 : Shape := ⟨4, ![1, 16, 32, 128]⟩
abbrev S1x1x32x128 : Shape := ⟨4, ![1, 1, 32, 128]⟩
abbrev S256x8 : Shape := ⟨2, ![256, 8]⟩
abbrev S8x256 : Shape := ⟨2, ![8, 256]⟩
abbrev S128x256 : Shape := ⟨2, ![128, 256]⟩
abbrev S256x1 : Shape := ⟨2, ![256, 1]⟩
abbrev S128x1 : Shape := ⟨2, ![128, 1]⟩
abbrev S256x32 : Shape := ⟨2, ![256, 32]⟩
abbrev S256x33 : Shape := ⟨2, ![256, 33]⟩
abbrev S128x33 : Shape := ⟨2, ![128, 33]⟩
abbrev S256x256 : Shape := ⟨2, ![256, 256]⟩
abbrev S1x256x256 : Shape := ⟨3, ![1, 256, 256]⟩

abbrev nBuf : Space → Nat
  | .hbm => 297
  | .vmem => 19
  | .smem => 0
  | _ => 0

abbrev hbmTy0_0 (i : Nat) : BufTy := match i % 128 with
  | 0 => ⟨S16x128, .f32⟩
  | 1 => ⟨S128x128, .f32⟩
  | 2 => ⟨S128, .f32⟩
  | 3 => ⟨S128x128, .f32⟩
  | 4 => ⟨S128, .f32⟩
  | 5 => ⟨S32768x128, .f32⟩
  | 6 => ⟨S32768, .f32⟩
  | 7 => ⟨S128x128, .f32⟩
  | 8 => ⟨S4x32, .f32⟩
  | 9 => ⟨S4x32, .f32⟩
  | 10 => ⟨S128, .f32⟩
  | 11 => ⟨S256x128, .f32⟩
  | 12 => ⟨S256, .f32⟩
  | 13 => ⟨S256x128x128, .f32⟩
  | 14 => ⟨S256x128, .f32⟩
  | 15 => ⟨S4x4, .i32⟩
  | 16 => ⟨S4x4, .i32⟩
  | 17 => ⟨S_, .i32⟩
  | 18 => ⟨S4x4, .i32⟩
  | 19 => ⟨S4x4, .i32⟩
  | 20 => ⟨S4x4, .i1⟩
  | 21 => ⟨S4x4, .f32⟩
  | 22 => ⟨S4x1x4, .f32⟩
  | 23 => ⟨S4x32x1, .f32⟩
  | 24 => ⟨S4x32x4, .f32⟩
  | 25 => ⟨S4x32x4, .f32⟩
  | 26 => ⟨S4x32x4, .f32⟩
  | 27 => ⟨S128x4, .f32⟩
  | 28 => ⟨S4x1x4, .f32⟩
  | 29 => ⟨S4x32x1, .f32⟩
  | 30 => ⟨S4x32x4, .f32⟩
  | 31 => ⟨S4x32x4, .f32⟩
  | 32 => ⟨S4x32x4, .f32⟩
  | 33 => ⟨S128x4, .f32⟩
  | 34 => ⟨S128x8, .f32⟩
  | 35 => ⟨S1048576, .i32⟩
  | 36 => ⟨S_, .i32⟩
  | 37 => ⟨S1048576, .i32⟩
  | 38 => ⟨S_, .i32⟩
  | 39 => ⟨S1048576, .i32⟩
  | 40 => ⟨S1048576, .i32⟩
  | 41 => ⟨S_, .i32⟩
  | 42 => ⟨S1048576, .i32⟩
  | 43 => ⟨S1048576, .i32⟩
  | 44 => ⟨S1048576, .i32⟩
  | 45 => ⟨S_, .i32⟩
  | 46 => ⟨S1048576, .i32⟩
  | 47 => ⟨S1048576, .i32⟩
  | 48 => ⟨S_, .i32⟩
  | 49 => ⟨S1048576, .i32⟩
  | 50 => ⟨S1048576, .i32⟩
  | 51 => ⟨S1048576, .i32⟩
  | 52 => ⟨S1048576, .i32⟩
  | 53 => ⟨S1048576, .i32⟩
  | 54 => ⟨S_, .i32⟩
  | 55 => ⟨S1048576, .i32⟩
  | 56 => ⟨S1048576, .i32⟩
  | 57 => ⟨S_, .i32⟩
  | 58 => ⟨S1048576, .i32⟩
  | 59 => ⟨S1048576, .i32⟩
  | 60 => ⟨S1048576, .i32⟩
  | 61 => ⟨S1048576, .i32⟩
  | 62 => ⟨S1048576, .i32⟩
  | 63 => ⟨S_, .i32⟩
  | 64 => ⟨S1048576, .i32⟩
  | 65 => ⟨S1048576, .i32⟩
  | 66 => ⟨S_, .i32⟩
  | 67 => ⟨S1048576, .i32⟩
  | 68 => ⟨S1048576, .i32⟩
  | 69 => ⟨S1048576, .i32⟩
  | 70 => ⟨S1048576, .i32⟩
  | 71 => ⟨S1048576, .i32⟩
  | 72 => ⟨S_, .i32⟩
  | 73 => ⟨S1048576, .i32⟩
  | 74 => ⟨S1048576, .i32⟩
  | 75 => ⟨S_, .i32⟩
  | 76 => ⟨S1048576, .i32⟩
  | 77 => ⟨S1048576, .i32⟩
  | 78 => ⟨S1048576, .i32⟩
  | 79 => ⟨S1048576, .i32⟩
  | 80 => ⟨S_, .i32⟩
  | 81 => ⟨S1048576, .i32⟩
  | 82 => ⟨S1048576, .i32⟩
  | 83 => ⟨S_, .i32⟩
  | 84 => ⟨S1048576, .i32⟩
  | 85 => ⟨S1048576, .i32⟩
  | 86 => ⟨S_, .i32⟩
  | 87 => ⟨S1048576, .i32⟩
  | 88 => ⟨S1048576, .i32⟩
  | 89 => ⟨S1048576, .i32⟩
  | 90 => ⟨S_, .i32⟩
  | 91 => ⟨S1048576, .i32⟩
  | 92 => ⟨S1048576, .i32⟩
  | 93 => ⟨S_, .i32⟩
  | 94 => ⟨S1048576, .i32⟩
  | 95 => ⟨S1048576, .i32⟩
  | 96 => ⟨S1048576, .i32⟩
  | 97 => ⟨S1048576, .i32⟩
  | 98 => ⟨S1048576, .i32⟩
  | 99 => ⟨S_, .i32⟩
  | 100 => ⟨S1048576, .i32⟩
  | 101 => ⟨S1048576, .i32⟩
  | 102 => ⟨S_, .i32⟩
  | 103 => ⟨S1048576, .i32⟩
  | 104 => ⟨S1048576, .i32⟩
  | 105 => ⟨S1048576, .i32⟩
  | 106 => ⟨S1048576, .i32⟩
  | 107 => ⟨S1048576, .i32⟩
  | 108 => ⟨S_, .i32⟩
  | 109 => ⟨S1048576, .i32⟩
  | 110 => ⟨S1048576, .i32⟩
  | 111 => ⟨S_, .i32⟩
  | 112 => ⟨S1048576, .i32⟩
  | 113 => ⟨S1048576, .i32⟩
  | 114 => ⟨S1048576, .i32⟩
  | 115 => ⟨S1048576, .i32⟩
  | 116 => ⟨S1048576, .i32⟩
  | 117 => ⟨S_, .i32⟩
  | 118 => ⟨S1048576, .i32⟩
  | 119 => ⟨S1048576, .i32⟩
  | 120 => ⟨S_, .i32⟩
  | 121 => ⟨S1048576, .i32⟩
  | 122 => ⟨S1048576, .i32⟩
  | 123 => ⟨S1048576, .i32⟩
  | 124 => ⟨S1048576, .i32⟩
  | 125 => ⟨S_, .i32⟩
  | 126 => ⟨S1048576, .i32⟩
  | 127 => ⟨S1048576, .i32⟩
  | _ => ⟨S16x128, .f32⟩

abbrev hbmTy0_1 (i : Nat) : BufTy := match i % 128 with
  | 0 => ⟨S_, .i32⟩
  | 1 => ⟨S1048576, .i32⟩
  | 2 => ⟨S1048576, .i32⟩
  | 3 => ⟨S_, .i32⟩
  | 4 => ⟨S1048576, .i32⟩
  | 5 => ⟨S1048576, .i32⟩
  | 6 => ⟨S1048576, .i32⟩
  | 7 => ⟨S_, .i32⟩
  | 8 => ⟨S1048576, .i32⟩
  | 9 => ⟨S1048576, .i32⟩
  | 10 => ⟨S_, .i32⟩
  | 11 => ⟨S1048576, .i32⟩
  | 12 => ⟨S1048576, .i32⟩
  | 13 => ⟨S1048576, .i32⟩
  | 14 => ⟨S1048576, .i32⟩
  | 15 => ⟨S1048576, .i32⟩
  | 16 => ⟨S_, .i32⟩
  | 17 => ⟨S1048576, .i32⟩
  | 18 => ⟨S1048576, .i32⟩
  | 19 => ⟨S_, .i32⟩
  | 20 => ⟨S1048576, .i32⟩
  | 21 => ⟨S1048576, .i32⟩
  | 22 => ⟨S1048576, .i32⟩
  | 23 => ⟨S1048576, .i32⟩
  | 24 => ⟨S1048576, .i32⟩
  | 25 => ⟨S_, .i32⟩
  | 26 => ⟨S1048576, .i32⟩
  | 27 => ⟨S1048576, .i32⟩
  | 28 => ⟨S_, .i32⟩
  | 29 => ⟨S1048576, .i32⟩
  | 30 => ⟨S1048576, .i32⟩
  | 31 => ⟨S1048576, .i32⟩
  | 32 => ⟨S1048576, .i32⟩
  | 33 => ⟨S1048576, .i32⟩
  | 34 => ⟨S_, .i32⟩
  | 35 => ⟨S1048576, .i32⟩
  | 36 => ⟨S1048576, .i32⟩
  | 37 => ⟨S_, .i32⟩
  | 38 => ⟨S1048576, .i32⟩
  | 39 => ⟨S1048576, .i32⟩
  | 40 => ⟨S1048576, .i32⟩
  | 41 => ⟨S1048576, .i32⟩
  | 42 => ⟨S_, .i32⟩
  | 43 => ⟨S1048576, .i32⟩
  | 44 => ⟨S1048576, .i32⟩
  | 45 => ⟨S_, .i32⟩
  | 46 => ⟨S1048576, .i32⟩
  | 47 => ⟨S1048576, .i32⟩
  | 48 => ⟨S_, .i32⟩
  | 49 => ⟨S1048576, .i32⟩
  | 50 => ⟨S1048576, .i32⟩
  | 51 => ⟨S1048576, .i32⟩
  | 52 => ⟨S_, .i32⟩
  | 53 => ⟨S1048576, .i32⟩
  | 54 => ⟨S1048576, .i32⟩
  | 55 => ⟨S_, .i32⟩
  | 56 => ⟨S1048576, .i32⟩
  | 57 => ⟨S1048576, .i32⟩
  | 58 => ⟨S1048576, .i32⟩
  | 59 => ⟨S1048576, .i32⟩
  | 60 => ⟨S1048576, .i32⟩
  | 61 => ⟨S_, .i32⟩
  | 62 => ⟨S1048576, .i32⟩
  | 63 => ⟨S1048576, .i32⟩
  | 64 => ⟨S_, .i32⟩
  | 65 => ⟨S1048576, .i32⟩
  | 66 => ⟨S1048576, .i32⟩
  | 67 => ⟨S1048576, .i32⟩
  | 68 => ⟨S1048576, .i32⟩
  | 69 => ⟨S1048576, .i32⟩
  | 70 => ⟨S_, .i32⟩
  | 71 => ⟨S1048576, .i32⟩
  | 72 => ⟨S1048576, .i32⟩
  | 73 => ⟨S_, .i32⟩
  | 74 => ⟨S1048576, .i32⟩
  | 75 => ⟨S1048576, .i32⟩
  | 76 => ⟨S1048576, .i32⟩
  | 77 => ⟨S1048576, .i32⟩
  | 78 => ⟨S1048576, .i32⟩
  | 79 => ⟨S_, .i32⟩
  | 80 => ⟨S1048576, .i32⟩
  | 81 => ⟨S1048576, .i32⟩
  | 82 => ⟨S_, .i32⟩
  | 83 => ⟨S1048576, .i32⟩
  | 84 => ⟨S1048576, .i32⟩
  | 85 => ⟨S1048576, .i32⟩
  | 86 => ⟨S1048576, .i32⟩
  | 87 => ⟨S_, .i32⟩
  | 88 => ⟨S1048576, .i32⟩
  | 89 => ⟨S1048576, .i32⟩
  | 90 => ⟨S_, .i32⟩
  | 91 => ⟨S1048576, .i32⟩
  | 92 => ⟨S1048576, .i32⟩
  | 93 => ⟨S_, .i32⟩
  | 94 => ⟨S1048576, .i32⟩
  | 95 => ⟨S1048576, .i32⟩
  | 96 => ⟨S1048576, .i32⟩
  | 97 => ⟨S_, .i32⟩
  | 98 => ⟨S1048576, .i32⟩
  | 99 => ⟨S1048576, .i32⟩
  | 100 => ⟨S_, .i32⟩
  | 101 => ⟨S1048576, .i32⟩
  | 102 => ⟨S1048576, .i32⟩
  | 103 => ⟨S1048576, .i32⟩
  | 104 => ⟨S1048576, .i32⟩
  | 105 => ⟨S1048576, .i32⟩
  | 106 => ⟨S_, .i32⟩
  | 107 => ⟨S1048576, .i32⟩
  | 108 => ⟨S1048576, .i32⟩
  | 109 => ⟨S_, .i32⟩
  | 110 => ⟨S1048576, .i32⟩
  | 111 => ⟨S1048576, .i32⟩
  | 112 => ⟨S1048576, .i32⟩
  | 113 => ⟨S1048576, .i32⟩
  | 114 => ⟨S1048576, .i32⟩
  | 115 => ⟨S_, .i32⟩
  | 116 => ⟨S1048576, .i32⟩
  | 117 => ⟨S1048576, .i32⟩
  | 118 => ⟨S_, .i32⟩
  | 119 => ⟨S1048576, .i32⟩
  | 120 => ⟨S1048576, .i32⟩
  | 121 => ⟨S1048576, .i32⟩
  | 122 => ⟨S1048576, .i32⟩
  | 123 => ⟨S1048576, .i32⟩
  | 124 => ⟨S_, .i32⟩
  | 125 => ⟨S1048576, .i32⟩
  | 126 => ⟨S1048576, .i32⟩
  | 127 => ⟨S_, .i32⟩
  | _ => ⟨S16x128, .f32⟩

abbrev hbmTy0_2 (i : Nat) : BufTy := match i % 128 with
  | 0 => ⟨S1048576, .i32⟩
  | 1 => ⟨S1048576, .i32⟩
  | 2 => ⟨S1048576, .i32⟩
  | 3 => ⟨S1048576, .i32⟩
  | 4 => ⟨S_, .i32⟩
  | 5 => ⟨S1048576, .i32⟩
  | 6 => ⟨S1048576, .i32⟩
  | 7 => ⟨S_, .i32⟩
  | 8 => ⟨S1048576, .i32⟩
  | 9 => ⟨S1048576, .i32⟩
  | 10 => ⟨S_, .i32⟩
  | 11 => ⟨S1048576, .i32⟩
  | 12 => ⟨S1048576, .i32⟩
  | 13 => ⟨S1048576, .i32⟩
  | 14 => ⟨S_, .i32⟩
  | 15 => ⟨S1048576, .i32⟩
  | 16 => ⟨S1048576, .i32⟩
  | 17 => ⟨S1048576, .i32⟩
  | 18 => ⟨S1048576, .f32⟩
  | 19 => ⟨S_, .f32⟩
  | 20 => ⟨S1048576, .f32⟩
  | 21 => ⟨S1048576, .f32⟩
  | 22 => ⟨S_, .f32⟩
  | 23 => ⟨S1048576, .f32⟩
  | 24 => ⟨S1048576, .f32⟩
  | 25 => ⟨S_, .f32⟩
  | 26 => ⟨S1048576, .f32⟩
  | 27 => ⟨S1048576, .f32⟩
  | 28 => ⟨S_, .f32⟩
  | 29 => ⟨S1048576, .f32⟩
  | 30 => ⟨S1048576, .f32⟩
  | 31 => ⟨S16x256x256, .f32⟩
  | 32 => ⟨S16x256x256, .f32⟩
  | 33 => ⟨S16x256x256, .f32⟩
  | 34 => ⟨S16x256x256, .f32⟩
  | 35 => ⟨S16x256x256, .f32⟩
  | 36 => ⟨S1x128, .f32⟩
  | 37 => ⟨S1x128, .f32⟩
  | 38 => ⟨S1x128, .f32⟩
  | 39 => ⟨S1x256, .f32⟩
  | 40 => ⟨S16x256x256, .f32⟩
  | _ => ⟨S16x128, .f32⟩

abbrev hbmTy (i : Nat) : BufTy := match i / 128 with
  | 0 => hbmTy0_0 i
  | 1 => hbmTy0_1 i
  | 2 => hbmTy0_2 i
  | _ => ⟨S16x128, .f32⟩

abbrev bufTy : (tb : Table) → Fin (tcTables nBuf tb) → BufTy
  | .hbm, ⟨i, _⟩ => hbmTy i
  | .local _ .vmem, ⟨0, _⟩ => ⟨S16x128, .f32⟩
  | .local _ .vmem, ⟨1, _⟩ => ⟨S128x128, .f32⟩
  | .local _ .vmem, ⟨2, _⟩ => ⟨S1x128, .f32⟩
  | .local _ .vmem, ⟨3, _⟩ => ⟨S128x128, .f32⟩
  | .local _ .vmem, ⟨4, _⟩ => ⟨S1x128, .f32⟩
  | .local _ .vmem, ⟨5, _⟩ => ⟨S32x128x128, .f32⟩
  | .local _ .vmem, ⟨6, _⟩ => ⟨S32x128x128, .f32⟩
  | .local _ .vmem, ⟨7, _⟩ => ⟨S32x128, .f32⟩
  | .local _ .vmem, ⟨8, _⟩ => ⟨S32x128, .f32⟩
  | .local _ .vmem, ⟨9, _⟩ => ⟨S128x128, .f32⟩
  | .local _ .vmem, ⟨10, _⟩ => ⟨S128x8, .f32⟩
  | .local _ .vmem, ⟨11, _⟩ => ⟨S1x128, .f32⟩
  | .local _ .vmem, ⟨12, _⟩ => ⟨S256x128, .f32⟩
  | .local _ .vmem, ⟨13, _⟩ => ⟨S1x256, .f32⟩
  | .local _ .vmem, ⟨14, _⟩ => ⟨S8x256x256, .f32⟩
  | .local _ .vmem, ⟨15, _⟩ => ⟨S8x256x256, .f32⟩
  | .local _ .vmem, ⟨16, _⟩ => ⟨S8x256x256, .f32⟩
  | .local _ .vmem, ⟨17, _⟩ => ⟨S8x256x256, .f32⟩
  | .local _ .vmem, ⟨18, _⟩ => ⟨S8x16x32x128, .f32⟩
  | _, _ => ⟨S16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_c : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_v15 : Ref sig .tc := ⟨.hbm, 29, rfl⟩
abbrev main_call0_v16 : Ref sig .tc := ⟨.hbm, 30, rfl⟩
abbrev main_call0_v17 : Ref sig .tc := ⟨.hbm, 31, rfl⟩
abbrev main_call0_v18 : Ref sig .tc := ⟨.hbm, 32, rfl⟩
abbrev main_call0_v19 : Ref sig .tc := ⟨.hbm, 33, rfl⟩
abbrev main_call0_v20 : Ref sig .tc := ⟨.hbm, 34, rfl⟩
abbrev main_call0_v21 : Ref sig .tc := ⟨.hbm, 35, rfl⟩
abbrev main_call0_c_0 : Ref sig .tc := ⟨.hbm, 36, rfl⟩
abbrev main_call0_v22 : Ref sig .tc := ⟨.hbm, 37, rfl⟩
abbrev main_call0_c_1 : Ref sig .tc := ⟨.hbm, 38, rfl⟩
abbrev main_call0_v23 : Ref sig .tc := ⟨.hbm, 39, rfl⟩
abbrev main_call0_v24 : Ref sig .tc := ⟨.hbm, 40, rfl⟩
abbrev main_call0_c_2 : Ref sig .tc := ⟨.hbm, 41, rfl⟩
abbrev main_call0_v25 : Ref sig .tc := ⟨.hbm, 42, rfl⟩
abbrev main_call0_v26 : Ref sig .tc := ⟨.hbm, 43, rfl⟩
abbrev main_call0_v27 : Ref sig .tc := ⟨.hbm, 44, rfl⟩
abbrev main_call0_c_3 : Ref sig .tc := ⟨.hbm, 45, rfl⟩
abbrev main_call0_v28 : Ref sig .tc := ⟨.hbm, 46, rfl⟩
abbrev main_call0_v29 : Ref sig .tc := ⟨.hbm, 47, rfl⟩
abbrev main_call0_c_4 : Ref sig .tc := ⟨.hbm, 48, rfl⟩
abbrev main_call0_v30 : Ref sig .tc := ⟨.hbm, 49, rfl⟩
abbrev main_call0_v31 : Ref sig .tc := ⟨.hbm, 50, rfl⟩
abbrev main_call0_v32 : Ref sig .tc := ⟨.hbm, 51, rfl⟩
abbrev main_call0_v33 : Ref sig .tc := ⟨.hbm, 52, rfl⟩
abbrev main_call0_v34 : Ref sig .tc := ⟨.hbm, 53, rfl⟩
abbrev main_call0_c_5 : Ref sig .tc := ⟨.hbm, 54, rfl⟩
abbrev main_call0_v35 : Ref sig .tc := ⟨.hbm, 55, rfl⟩
abbrev main_call0_v36 : Ref sig .tc := ⟨.hbm, 56, rfl⟩
abbrev main_call0_c_6 : Ref sig .tc := ⟨.hbm, 57, rfl⟩
abbrev main_call0_v37 : Ref sig .tc := ⟨.hbm, 58, rfl⟩
abbrev main_call0_v38 : Ref sig .tc := ⟨.hbm, 59, rfl⟩
abbrev main_call0_v39 : Ref sig .tc := ⟨.hbm, 60, rfl⟩
abbrev main_call0_v40 : Ref sig .tc := ⟨.hbm, 61, rfl⟩
abbrev main_call0_v41 : Ref sig .tc := ⟨.hbm, 62, rfl⟩
abbrev main_call0_c_7 : Ref sig .tc := ⟨.hbm, 63, rfl⟩
abbrev main_call0_v42 : Ref sig .tc := ⟨.hbm, 64, rfl⟩
abbrev main_call0_v43 : Ref sig .tc := ⟨.hbm, 65, rfl⟩
abbrev main_call0_c_8 : Ref sig .tc := ⟨.hbm, 66, rfl⟩
abbrev main_call0_v44 : Ref sig .tc := ⟨.hbm, 67, rfl⟩
abbrev main_call0_v45 : Ref sig .tc := ⟨.hbm, 68, rfl⟩
abbrev main_call0_v46 : Ref sig .tc := ⟨.hbm, 69, rfl⟩
abbrev main_call0_v47 : Ref sig .tc := ⟨.hbm, 70, rfl⟩
abbrev main_call0_v48 : Ref sig .tc := ⟨.hbm, 71, rfl⟩
abbrev main_call0_c_9 : Ref sig .tc := ⟨.hbm, 72, rfl⟩
abbrev main_call0_v49 : Ref sig .tc := ⟨.hbm, 73, rfl⟩
abbrev main_call0_v50 : Ref sig .tc := ⟨.hbm, 74, rfl⟩
abbrev main_call0_c_10 : Ref sig .tc := ⟨.hbm, 75, rfl⟩
abbrev main_call0_v51 : Ref sig .tc := ⟨.hbm, 76, rfl⟩
abbrev main_call0_v52 : Ref sig .tc := ⟨.hbm, 77, rfl⟩
abbrev main_call0_v53 : Ref sig .tc := ⟨.hbm, 78, rfl⟩
abbrev main_call0_v54 : Ref sig .tc := ⟨.hbm, 79, rfl⟩
abbrev main_call0_c_11 : Ref sig .tc := ⟨.hbm, 80, rfl⟩
abbrev main_call0_v55 : Ref sig .tc := ⟨.hbm, 81, rfl⟩
abbrev main_call0_v56 : Ref sig .tc := ⟨.hbm, 82, rfl⟩
abbrev main_call0_c_12 : Ref sig .tc := ⟨.hbm, 83, rfl⟩
abbrev main_call0_v57 : Ref sig .tc := ⟨.hbm, 84, rfl⟩
abbrev main_call0_v58 : Ref sig .tc := ⟨.hbm, 85, rfl⟩
abbrev main_call0_c_13 : Ref sig .tc := ⟨.hbm, 86, rfl⟩
abbrev main_call0_v59 : Ref sig .tc := ⟨.hbm, 87, rfl⟩
abbrev main_call0_v60 : Ref sig .tc := ⟨.hbm, 88, rfl⟩
abbrev main_call0_v61 : Ref sig .tc := ⟨.hbm, 89, rfl⟩
abbrev main_call0_c_14 : Ref sig .tc := ⟨.hbm, 90, rfl⟩
abbrev main_call0_v62 : Ref sig .tc := ⟨.hbm, 91, rfl⟩
abbrev main_call0_v63 : Ref sig .tc := ⟨.hbm, 92, rfl⟩
abbrev main_call0_c_15 : Ref sig .tc := ⟨.hbm, 93, rfl⟩
abbrev main_call0_v64 : Ref sig .tc := ⟨.hbm, 94, rfl⟩
abbrev main_call0_v65 : Ref sig .tc := ⟨.hbm, 95, rfl⟩
abbrev main_call0_v66 : Ref sig .tc := ⟨.hbm, 96, rfl⟩
abbrev main_call0_v67 : Ref sig .tc := ⟨.hbm, 97, rfl⟩
abbrev main_call0_v68 : Ref sig .tc := ⟨.hbm, 98, rfl⟩
abbrev main_call0_c_16 : Ref sig .tc := ⟨.hbm, 99, rfl⟩
abbrev main_call0_v69 : Ref sig .tc := ⟨.hbm, 100, rfl⟩
abbrev main_call0_v70 : Ref sig .tc := ⟨.hbm, 101, rfl⟩
abbrev main_call0_c_17 : Ref sig .tc := ⟨.hbm, 102, rfl⟩
abbrev main_call0_v71 : Ref sig .tc := ⟨.hbm, 103, rfl⟩
abbrev main_call0_v72 : Ref sig .tc := ⟨.hbm, 104, rfl⟩
abbrev main_call0_v73 : Ref sig .tc := ⟨.hbm, 105, rfl⟩
abbrev main_call0_v74 : Ref sig .tc := ⟨.hbm, 106, rfl⟩
abbrev main_call0_v75 : Ref sig .tc := ⟨.hbm, 107, rfl⟩
abbrev main_call0_c_18 : Ref sig .tc := ⟨.hbm, 108, rfl⟩
abbrev main_call0_v76 : Ref sig .tc := ⟨.hbm, 109, rfl⟩
abbrev main_call0_v77 : Ref sig .tc := ⟨.hbm, 110, rfl⟩
abbrev main_call0_c_19 : Ref sig .tc := ⟨.hbm, 111, rfl⟩
abbrev main_call0_v78 : Ref sig .tc := ⟨.hbm, 112, rfl⟩
abbrev main_call0_v79 : Ref sig .tc := ⟨.hbm, 113, rfl⟩
abbrev main_call0_v80 : Ref sig .tc := ⟨.hbm, 114, rfl⟩
abbrev main_call0_v81 : Ref sig .tc := ⟨.hbm, 115, rfl⟩
abbrev main_call0_v82 : Ref sig .tc := ⟨.hbm, 116, rfl⟩
abbrev main_call0_c_20 : Ref sig .tc := ⟨.hbm, 117, rfl⟩
abbrev main_call0_v83 : Ref sig .tc := ⟨.hbm, 118, rfl⟩
abbrev main_call0_v84 : Ref sig .tc := ⟨.hbm, 119, rfl⟩
abbrev main_call0_c_21 : Ref sig .tc := ⟨.hbm, 120, rfl⟩
abbrev main_call0_v85 : Ref sig .tc := ⟨.hbm, 121, rfl⟩
abbrev main_call0_v86 : Ref sig .tc := ⟨.hbm, 122, rfl⟩
abbrev main_call0_v87 : Ref sig .tc := ⟨.hbm, 123, rfl⟩
abbrev main_call0_v88 : Ref sig .tc := ⟨.hbm, 124, rfl⟩
abbrev main_call0_c_22 : Ref sig .tc := ⟨.hbm, 125, rfl⟩
abbrev main_call0_v89 : Ref sig .tc := ⟨.hbm, 126, rfl⟩
abbrev main_call0_v90 : Ref sig .tc := ⟨.hbm, 127, rfl⟩
abbrev main_call0_c_23 : Ref sig .tc := ⟨.hbm, 128, rfl⟩
abbrev main_call0_v91 : Ref sig .tc := ⟨.hbm, 129, rfl⟩
abbrev main_call0_v92 : Ref sig .tc := ⟨.hbm, 130, rfl⟩
abbrev main_call0_c_24 : Ref sig .tc := ⟨.hbm, 131, rfl⟩
abbrev main_call0_v93 : Ref sig .tc := ⟨.hbm, 132, rfl⟩
abbrev main_call0_v94 : Ref sig .tc := ⟨.hbm, 133, rfl⟩
abbrev main_call0_v95 : Ref sig .tc := ⟨.hbm, 134, rfl⟩
abbrev main_call0_c_25 : Ref sig .tc := ⟨.hbm, 135, rfl⟩
abbrev main_call0_v96 : Ref sig .tc := ⟨.hbm, 136, rfl⟩
abbrev main_call0_v97 : Ref sig .tc := ⟨.hbm, 137, rfl⟩
abbrev main_call0_c_26 : Ref sig .tc := ⟨.hbm, 138, rfl⟩
abbrev main_call0_v98 : Ref sig .tc := ⟨.hbm, 139, rfl⟩
abbrev main_call0_v99 : Ref sig .tc := ⟨.hbm, 140, rfl⟩
abbrev main_call0_v100 : Ref sig .tc := ⟨.hbm, 141, rfl⟩
abbrev main_call0_v101 : Ref sig .tc := ⟨.hbm, 142, rfl⟩
abbrev main_call0_v102 : Ref sig .tc := ⟨.hbm, 143, rfl⟩
abbrev main_call0_c_27 : Ref sig .tc := ⟨.hbm, 144, rfl⟩
abbrev main_call0_v103 : Ref sig .tc := ⟨.hbm, 145, rfl⟩
abbrev main_call0_v104 : Ref sig .tc := ⟨.hbm, 146, rfl⟩
abbrev main_call0_c_28 : Ref sig .tc := ⟨.hbm, 147, rfl⟩
abbrev main_call0_v105 : Ref sig .tc := ⟨.hbm, 148, rfl⟩
abbrev main_call0_v106 : Ref sig .tc := ⟨.hbm, 149, rfl⟩
abbrev main_call0_v107 : Ref sig .tc := ⟨.hbm, 150, rfl⟩
abbrev main_call0_v108 : Ref sig .tc := ⟨.hbm, 151, rfl⟩
abbrev main_call0_v109 : Ref sig .tc := ⟨.hbm, 152, rfl⟩
abbrev main_call0_c_29 : Ref sig .tc := ⟨.hbm, 153, rfl⟩
abbrev main_call0_v110 : Ref sig .tc := ⟨.hbm, 154, rfl⟩
abbrev main_call0_v111 : Ref sig .tc := ⟨.hbm, 155, rfl⟩
abbrev main_call0_c_30 : Ref sig .tc := ⟨.hbm, 156, rfl⟩
abbrev main_call0_v112 : Ref sig .tc := ⟨.hbm, 157, rfl⟩
abbrev main_call0_v113 : Ref sig .tc := ⟨.hbm, 158, rfl⟩
abbrev main_call0_v114 : Ref sig .tc := ⟨.hbm, 159, rfl⟩
abbrev main_call0_v115 : Ref sig .tc := ⟨.hbm, 160, rfl⟩
abbrev main_call0_v116 : Ref sig .tc := ⟨.hbm, 161, rfl⟩
abbrev main_call0_c_31 : Ref sig .tc := ⟨.hbm, 162, rfl⟩
abbrev main_call0_v117 : Ref sig .tc := ⟨.hbm, 163, rfl⟩
abbrev main_call0_v118 : Ref sig .tc := ⟨.hbm, 164, rfl⟩
abbrev main_call0_c_32 : Ref sig .tc := ⟨.hbm, 165, rfl⟩
abbrev main_call0_v119 : Ref sig .tc := ⟨.hbm, 166, rfl⟩
abbrev main_call0_v120 : Ref sig .tc := ⟨.hbm, 167, rfl⟩
abbrev main_call0_v121 : Ref sig .tc := ⟨.hbm, 168, rfl⟩
abbrev main_call0_v122 : Ref sig .tc := ⟨.hbm, 169, rfl⟩
abbrev main_call0_c_33 : Ref sig .tc := ⟨.hbm, 170, rfl⟩
abbrev main_call0_v123 : Ref sig .tc := ⟨.hbm, 171, rfl⟩
abbrev main_call0_v124 : Ref sig .tc := ⟨.hbm, 172, rfl⟩
abbrev main_call0_c_34 : Ref sig .tc := ⟨.hbm, 173, rfl⟩
abbrev main_call0_v125 : Ref sig .tc := ⟨.hbm, 174, rfl⟩
abbrev main_call0_v126 : Ref sig .tc := ⟨.hbm, 175, rfl⟩
abbrev main_call0_c_35 : Ref sig .tc := ⟨.hbm, 176, rfl⟩
abbrev main_call0_v127 : Ref sig .tc := ⟨.hbm, 177, rfl⟩
abbrev main_call0_v128 : Ref sig .tc := ⟨.hbm, 178, rfl⟩
abbrev main_call0_v129 : Ref sig .tc := ⟨.hbm, 179, rfl⟩
abbrev main_call0_c_36 : Ref sig .tc := ⟨.hbm, 180, rfl⟩
abbrev main_call0_v130 : Ref sig .tc := ⟨.hbm, 181, rfl⟩
abbrev main_call0_v131 : Ref sig .tc := ⟨.hbm, 182, rfl⟩
abbrev main_call0_c_37 : Ref sig .tc := ⟨.hbm, 183, rfl⟩
abbrev main_call0_v132 : Ref sig .tc := ⟨.hbm, 184, rfl⟩
abbrev main_call0_v133 : Ref sig .tc := ⟨.hbm, 185, rfl⟩
abbrev main_call0_v134 : Ref sig .tc := ⟨.hbm, 186, rfl⟩
abbrev main_call0_v135 : Ref sig .tc := ⟨.hbm, 187, rfl⟩
abbrev main_call0_v136 : Ref sig .tc := ⟨.hbm, 188, rfl⟩
abbrev main_call0_c_38 : Ref sig .tc := ⟨.hbm, 189, rfl⟩
abbrev main_call0_v137 : Ref sig .tc := ⟨.hbm, 190, rfl⟩
abbrev main_call0_v138 : Ref sig .tc := ⟨.hbm, 191, rfl⟩
abbrev main_call0_c_39 : Ref sig .tc := ⟨.hbm, 192, rfl⟩
abbrev main_call0_v139 : Ref sig .tc := ⟨.hbm, 193, rfl⟩
abbrev main_call0_v140 : Ref sig .tc := ⟨.hbm, 194, rfl⟩
abbrev main_call0_v141 : Ref sig .tc := ⟨.hbm, 195, rfl⟩
abbrev main_call0_v142 : Ref sig .tc := ⟨.hbm, 196, rfl⟩
abbrev main_call0_v143 : Ref sig .tc := ⟨.hbm, 197, rfl⟩
abbrev main_call0_c_40 : Ref sig .tc := ⟨.hbm, 198, rfl⟩
abbrev main_call0_v144 : Ref sig .tc := ⟨.hbm, 199, rfl⟩
abbrev main_call0_v145 : Ref sig .tc := ⟨.hbm, 200, rfl⟩
abbrev main_call0_c_41 : Ref sig .tc := ⟨.hbm, 201, rfl⟩
abbrev main_call0_v146 : Ref sig .tc := ⟨.hbm, 202, rfl⟩
abbrev main_call0_v147 : Ref sig .tc := ⟨.hbm, 203, rfl⟩
abbrev main_call0_v148 : Ref sig .tc := ⟨.hbm, 204, rfl⟩
abbrev main_call0_v149 : Ref sig .tc := ⟨.hbm, 205, rfl⟩
abbrev main_call0_v150 : Ref sig .tc := ⟨.hbm, 206, rfl⟩
abbrev main_call0_c_42 : Ref sig .tc := ⟨.hbm, 207, rfl⟩
abbrev main_call0_v151 : Ref sig .tc := ⟨.hbm, 208, rfl⟩
abbrev main_call0_v152 : Ref sig .tc := ⟨.hbm, 209, rfl⟩
abbrev main_call0_c_43 : Ref sig .tc := ⟨.hbm, 210, rfl⟩
abbrev main_call0_v153 : Ref sig .tc := ⟨.hbm, 211, rfl⟩
abbrev main_call0_v154 : Ref sig .tc := ⟨.hbm, 212, rfl⟩
abbrev main_call0_v155 : Ref sig .tc := ⟨.hbm, 213, rfl⟩
abbrev main_call0_v156 : Ref sig .tc := ⟨.hbm, 214, rfl⟩
abbrev main_call0_c_44 : Ref sig .tc := ⟨.hbm, 215, rfl⟩
abbrev main_call0_v157 : Ref sig .tc := ⟨.hbm, 216, rfl⟩
abbrev main_call0_v158 : Ref sig .tc := ⟨.hbm, 217, rfl⟩
abbrev main_call0_c_45 : Ref sig .tc := ⟨.hbm, 218, rfl⟩
abbrev main_call0_v159 : Ref sig .tc := ⟨.hbm, 219, rfl⟩
abbrev main_call0_v160 : Ref sig .tc := ⟨.hbm, 220, rfl⟩
abbrev main_call0_c_46 : Ref sig .tc := ⟨.hbm, 221, rfl⟩
abbrev main_call0_v161 : Ref sig .tc := ⟨.hbm, 222, rfl⟩
abbrev main_call0_v162 : Ref sig .tc := ⟨.hbm, 223, rfl⟩
abbrev main_call0_v163 : Ref sig .tc := ⟨.hbm, 224, rfl⟩
abbrev main_call0_c_47 : Ref sig .tc := ⟨.hbm, 225, rfl⟩
abbrev main_call0_v164 : Ref sig .tc := ⟨.hbm, 226, rfl⟩
abbrev main_call0_v165 : Ref sig .tc := ⟨.hbm, 227, rfl⟩
abbrev main_call0_c_48 : Ref sig .tc := ⟨.hbm, 228, rfl⟩
abbrev main_call0_v166 : Ref sig .tc := ⟨.hbm, 229, rfl⟩
abbrev main_call0_v167 : Ref sig .tc := ⟨.hbm, 230, rfl⟩
abbrev main_call0_v168 : Ref sig .tc := ⟨.hbm, 231, rfl⟩
abbrev main_call0_v169 : Ref sig .tc := ⟨.hbm, 232, rfl⟩
abbrev main_call0_v170 : Ref sig .tc := ⟨.hbm, 233, rfl⟩
abbrev main_call0_c_49 : Ref sig .tc := ⟨.hbm, 234, rfl⟩
abbrev main_call0_v171 : Ref sig .tc := ⟨.hbm, 235, rfl⟩
abbrev main_call0_v172 : Ref sig .tc := ⟨.hbm, 236, rfl⟩
abbrev main_call0_c_50 : Ref sig .tc := ⟨.hbm, 237, rfl⟩
abbrev main_call0_v173 : Ref sig .tc := ⟨.hbm, 238, rfl⟩
abbrev main_call0_v174 : Ref sig .tc := ⟨.hbm, 239, rfl⟩
abbrev main_call0_v175 : Ref sig .tc := ⟨.hbm, 240, rfl⟩
abbrev main_call0_v176 : Ref sig .tc := ⟨.hbm, 241, rfl⟩
abbrev main_call0_v177 : Ref sig .tc := ⟨.hbm, 242, rfl⟩
abbrev main_call0_c_51 : Ref sig .tc := ⟨.hbm, 243, rfl⟩
abbrev main_call0_v178 : Ref sig .tc := ⟨.hbm, 244, rfl⟩
abbrev main_call0_v179 : Ref sig .tc := ⟨.hbm, 245, rfl⟩
abbrev main_call0_c_52 : Ref sig .tc := ⟨.hbm, 246, rfl⟩
abbrev main_call0_v180 : Ref sig .tc := ⟨.hbm, 247, rfl⟩
abbrev main_call0_v181 : Ref sig .tc := ⟨.hbm, 248, rfl⟩
abbrev main_call0_v182 : Ref sig .tc := ⟨.hbm, 249, rfl⟩
abbrev main_call0_v183 : Ref sig .tc := ⟨.hbm, 250, rfl⟩
abbrev main_call0_v184 : Ref sig .tc := ⟨.hbm, 251, rfl⟩
abbrev main_call0_c_53 : Ref sig .tc := ⟨.hbm, 252, rfl⟩
abbrev main_call0_v185 : Ref sig .tc := ⟨.hbm, 253, rfl⟩
abbrev main_call0_v186 : Ref sig .tc := ⟨.hbm, 254, rfl⟩
abbrev main_call0_c_54 : Ref sig .tc := ⟨.hbm, 255, rfl⟩
abbrev main_call0_v187 : Ref sig .tc := ⟨.hbm, 256, rfl⟩
abbrev main_call0_v188 : Ref sig .tc := ⟨.hbm, 257, rfl⟩
abbrev main_call0_v189 : Ref sig .tc := ⟨.hbm, 258, rfl⟩
abbrev main_call0_v190 : Ref sig .tc := ⟨.hbm, 259, rfl⟩
abbrev main_call0_c_55 : Ref sig .tc := ⟨.hbm, 260, rfl⟩
abbrev main_call0_v191 : Ref sig .tc := ⟨.hbm, 261, rfl⟩
abbrev main_call0_v192 : Ref sig .tc := ⟨.hbm, 262, rfl⟩
abbrev main_call0_c_56 : Ref sig .tc := ⟨.hbm, 263, rfl⟩
abbrev main_call0_v193 : Ref sig .tc := ⟨.hbm, 264, rfl⟩
abbrev main_call0_v194 : Ref sig .tc := ⟨.hbm, 265, rfl⟩
abbrev main_call0_c_57 : Ref sig .tc := ⟨.hbm, 266, rfl⟩
abbrev main_call0_v195 : Ref sig .tc := ⟨.hbm, 267, rfl⟩
abbrev main_call0_v196 : Ref sig .tc := ⟨.hbm, 268, rfl⟩
abbrev main_call0_v197 : Ref sig .tc := ⟨.hbm, 269, rfl⟩
abbrev main_call0_c_58 : Ref sig .tc := ⟨.hbm, 270, rfl⟩
abbrev main_call0_v198 : Ref sig .tc := ⟨.hbm, 271, rfl⟩
abbrev main_call0_v199 : Ref sig .tc := ⟨.hbm, 272, rfl⟩
abbrev main_call0_v200 : Ref sig .tc := ⟨.hbm, 273, rfl⟩
abbrev main_call0_v201 : Ref sig .tc := ⟨.hbm, 274, rfl⟩
abbrev main_call0_cst : Ref sig .tc := ⟨.hbm, 275, rfl⟩
abbrev main_call0_v202 : Ref sig .tc := ⟨.hbm, 276, rfl⟩
abbrev main_call0_v203 : Ref sig .tc := ⟨.hbm, 277, rfl⟩
abbrev main_call0_cst_59 : Ref sig .tc := ⟨.hbm, 278, rfl⟩
abbrev main_call0_v204 : Ref sig .tc := ⟨.hbm, 279, rfl⟩
abbrev main_call0_v205 : Ref sig .tc := ⟨.hbm, 280, rfl⟩
abbrev main_call0_cst_60 : Ref sig .tc := ⟨.hbm, 281, rfl⟩
abbrev main_call0_v206 : Ref sig .tc := ⟨.hbm, 282, rfl⟩
abbrev main_call0_v207 : Ref sig .tc := ⟨.hbm, 283, rfl⟩
abbrev main_call0_cst_61 : Ref sig .tc := ⟨.hbm, 284, rfl⟩
abbrev main_call0_v208 : Ref sig .tc := ⟨.hbm, 285, rfl⟩
abbrev main_call0_v209 : Ref sig .tc := ⟨.hbm, 286, rfl⟩
abbrev main_call0_v210 : Ref sig .tc := ⟨.hbm, 287, rfl⟩
abbrev main_call0_v211 : Ref sig .tc := ⟨.hbm, 288, rfl⟩
abbrev main_call0_v212 : Ref sig .tc := ⟨.hbm, 289, rfl⟩
abbrev main_call0_v213 : Ref sig .tc := ⟨.hbm, 290, rfl⟩
abbrev main_call0_v214 : Ref sig .tc := ⟨.hbm, 291, rfl⟩
abbrev main_call0_v215 : Ref sig .tc := ⟨.hbm, 292, rfl⟩
abbrev main_call0_v216 : Ref sig .tc := ⟨.hbm, 293, rfl⟩
abbrev main_call0_v217 : Ref sig .tc := ⟨.hbm, 294, rfl⟩
abbrev main_call0_v218 : Ref sig .tc := ⟨.hbm, 295, rfl⟩
abbrev main_v0 : Ref sig .tc := ⟨.hbm, 296, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_scratch0 : Ref sig .tc := ⟨.vmem, 18, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15
abbrev cc0_sem13_0 : DmaSem sig := 16
abbrev cc0_sem13_1 : DmaSem sig := 17

abbrev nD : Nat := 1
abbrev τ : Topo := Topo.v7x

variable {F : FTy → Type} [FloatOps F]

abbrev grid0 : Pipeline.Grid := ⟨1, ![10], ![false]⟩

def k0_cond1 (i : grid0.Coords) : BitVec 1 :=
  let arg0 : BitVec 32 := BitVec.ofNat 32 (i 0).val
  let c8_i32 : BitVec 32 := 8#32
  let v0 : BitVec 1 := Scalar.cmpi .slt arg0 c8_i32
  let v1 : BitVec 32 := Scalar.extui v0
  let c0_i32 : BitVec 32 := 0#32
  let v2 : BitVec 1 := Scalar.cmpi .ne v1 c0_i32
  v2

def k0_off1 (i : grid0.Coords) : Fin 4 → Nat :=
  let arg0 : BitVec 32 := BitVec.ofNat 32 (i 0).val
  let v33 : Index := Scalar.indexCast arg0
  let c0_23 : Index := 0#32
  let c0_24 : Index := 0#32
  let c0_25 : Index := 0#32
  ![v33.toNat, 0, 0, 0]
def k0_cond2 (i : grid0.Coords) : BitVec 1 :=
  let arg0 : BitVec 32 := BitVec.ofNat 32 (i 0).val
  let c8_i32_0 : BitVec 32 := 8#32
  let v3 : BitVec 1 := Scalar.cmpi .sge arg0 c8_i32_0
  let v4 : BitVec 32 := Scalar.extui v3
  let c0_i32_1 : BitVec 32 := 0#32
  let v5 : BitVec 1 := Scalar.cmpi .ne v4 c0_i32_1
  v5

def k0_off2 (i : grid0.Coords) (c0_i32_4 : BitVec 32) : Fin 4 → Nat :=
  let c0 : Index := 0#32
  let arg0 : BitVec 32 := BitVec.ofNat 32 (i 0).val
  let c8_i32_2 : BitVec 32 := 8#32
  let v6 : BitVec 32 := Scalar.subi arg0 c8_i32_2
  let c8_i32_3 : BitVec 32 := 8#32
  let v7 : BitVec 32 := Scalar.muli v6 c8_i32_3
  let v8 : BitVec 32 := Scalar.addi v7 c0_i32_4
  let v9 : Index := Scalar.indexCast v8
  let c0_5 : Index := 0#32
  let c0_6 : Index := 0#32
  ![0, v9.toNat, 0, 0]
def k0_off3 (i : grid0.Coords) (c0_i32_8 : BitVec 32) : Fin 4 → Nat :=
  let c1 : Index := 1#32
  let arg0 : BitVec 32 := BitVec.ofNat 32 (i 0).val
  let c8_i32_2 : BitVec 32 := 8#32
  let v6 : BitVec 32 := Scalar.subi arg0 c8_i32_2
  let c8_i32_7 : BitVec 32 := 8#32
  let v12 : BitVec 32 := Scalar.muli v6 c8_i32_7
  let v13 : BitVec 32 := Scalar.addi v12 c0_i32_8
  let v14 : Index := Scalar.indexCast v13
  let c0_9 : Index := 0#32
  let c0_10 : Index := 0#32
  ![1, v14.toNat, 0, 0]
def k0_off4 (i : grid0.Coords) (c0_i32_12 : BitVec 32) : Fin 4 → Nat :=
  let c2 : Index := 2#32
  let arg0 : BitVec 32 := BitVec.ofNat 32 (i 0).val
  let c8_i32_2 : BitVec 32 := 8#32
  let v6 : BitVec 32 := Scalar.subi arg0 c8_i32_2
  let c8_i32_11 : BitVec 32 := 8#32
  let v17 : BitVec 32 := Scalar.muli v6 c8_i32_11
  let v18 : BitVec 32 := Scalar.addi v17 c0_i32_12
  let v19 : Index := Scalar.indexCast v18
  let c0_13 : Index := 0#32
  let c0_14 : Index := 0#32
  ![2, v19.toNat, 0, 0]
def k0_off5 (i : grid0.Coords) (c0_i32_16 : BitVec 32) : Fin 4 → Nat :=
  let c3 : Index := 3#32
  let arg0 : BitVec 32 := BitVec.ofNat 32 (i 0).val
  let c8_i32_2 : BitVec 32 := 8#32
  let v6 : BitVec 32 := Scalar.subi arg0 c8_i32_2
  let c8_i32_15 : BitVec 32 := 8#32
  let v22 : BitVec 32 := Scalar.muli v6 c8_i32_15
  let v23 : BitVec 32 := Scalar.addi v22 c0_i32_16
  let v24 : Index := Scalar.indexCast v23
  let c0_17 : Index := 0#32
  let c0_18 : Index := 0#32
  ![3, v24.toNat, 0, 0]
def k0_off6 (i : grid0.Coords) (c0_i32_20 : BitVec 32) : Fin 4 → Nat :=
  let c4 : Index := 4#32
  let arg0 : BitVec 32 := BitVec.ofNat 32 (i 0).val
  let c8_i32_2 : BitVec 32 := 8#32
  let v6 : BitVec 32 := Scalar.subi arg0 c8_i32_2
  let c8_i32_19 : BitVec 32 := 8#32
  let v27 : BitVec 32 := Scalar.muli v6 c8_i32_19
  let v28 : BitVec 32 := Scalar.addi v27 c0_i32_20
  let v29 : Index := Scalar.indexCast v28
  let c0_21 : Index := 0#32
  let c0_22 : Index := 0#32
  ![4, v29.toNat, 0, 0]
def k0_off7 (i : grid0.Coords) (c0_i32_24 : BitVec 32) : Fin 4 → Nat :=
  let c5 : Index := 5#32
  let arg0 : BitVec 32 := BitVec.ofNat 32 (i 0).val
  let c8_i32_2 : BitVec 32 := 8#32
  let v6 : BitVec 32 := Scalar.subi arg0 c8_i32_2
  let c8_i32_23 : BitVec 32 := 8#32
  let v32 : BitVec 32 := Scalar.muli v6 c8_i32_23
  let v33 : BitVec 32 := Scalar.addi v32 c0_i32_24
  let v34 : Index := Scalar.indexCast v33
  let c0_25 : Index := 0#32
  let c0_26 : Index := 0#32
  ![5, v34.toNat, 0, 0]
def k0_off8 (i : grid0.Coords) (c0_i32_28 : BitVec 32) : Fin 4 → Nat :=
  let c6 : Index := 6#32
  let arg0 : BitVec 32 := BitVec.ofNat 32 (i 0).val
  let c8_i32_2 : BitVec 32 := 8#32
  let v6 : BitVec 32 := Scalar.subi arg0 c8_i32_2
  let c8_i32_27 : BitVec 32 := 8#32
  let v37 : BitVec 32 := Scalar.muli v6 c8_i32_27
  let v38 : BitVec 32 := Scalar.addi v37 c0_i32_28
  let v39 : Index := Scalar.indexCast v38
  let c0_29 : Index := 0#32
  let c0_30 : Index := 0#32
  ![6, v39.toNat, 0, 0]
def k0_off9 (i : grid0.Coords) (c0_i32_32 : BitVec 32) : Fin 4 → Nat :=
  let c7 : Index := 7#32
  let arg0 : BitVec 32 := BitVec.ofNat 32 (i 0).val
  let c8_i32_2 : BitVec 32 := 8#32
  let v6 : BitVec 32 := Scalar.subi arg0 c8_i32_2
  let c8_i32_31 : BitVec 32 := 8#32
  let v42 : BitVec 32 := Scalar.muli v6 c8_i32_31
  let v43 : BitVec 32 := Scalar.addi v42 c0_i32_32
  let v44 : Index := Scalar.indexCast v43
  let c0_33 : Index := 0#32
  let c0_34 : Index := 0#32
  ![7, v44.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  let c0_i32_1 : BitVec 32 := 0#32
  ![v0.toNat, c0_i32.toNat, c0_i32_0.toNat]

def cc0_transform_6 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_13 (i : grid0.Coords) : Fin 3 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

abbrev stage0_0 : Fin 1 → Memref sig .tc .vmem S16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S32x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S8x256x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S8x256x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ReferenceIdeal.lean ====
abbrev S16x128 : Shape := ⟨2, ![16, 128]⟩
abbrev S128x128 : Shape := ⟨2, ![128, 128]⟩
abbrev S128 : Shape := ⟨1, ![128]⟩
abbrev S32768x128 : Shape := ⟨2, ![32768, 128]⟩
abbrev S32768 : Shape := ⟨1, ![32768]⟩
abbrev S4x32 : Shape := ⟨2, ![4, 32]⟩
abbrev S256x128 : Shape := ⟨2, ![256, 128]⟩
abbrev S256 : Shape := ⟨1, ![256]⟩
abbrev S1x128 : Shape := ⟨2, ![1, 128]⟩
abbrev S_ : Shape := ⟨0, ![]⟩
abbrev S128x32768 : Shape := ⟨2, ![128, 32768]⟩
abbrev S16x32768 : Shape := ⟨2, ![16, 32768]⟩
abbrev S1x32768 : Shape := ⟨2, ![1, 32768]⟩
abbrev S4096x128 : Shape := ⟨2, ![4096, 128]⟩
abbrev S16x256x4x32 : Shape := ⟨4, ![16, 256, 4, 32]⟩
abbrev S1x1x4x32 : Shape := ⟨4, ![1, 1, 4, 32]⟩
abbrev S16x256x4 : Shape := ⟨3, ![16, 256, 4]⟩
abbrev S16x256x1x4 : Shape := ⟨4, ![16, 256, 1, 4]⟩
abbrev S16x1x256x4 : Shape := ⟨4, ![16, 1, 256, 4]⟩
abbrev S16x256x256x4 : Shape := ⟨4, ![16, 256, 256, 4]⟩
abbrev S256x1 : Shape := ⟨2, ![256, 1]⟩
abbrev S1x256 : Shape := ⟨2, ![1, 256]⟩
abbrev S256x256 : Shape := ⟨2, ![256, 256]⟩
abbrev S1x256x256x1 : Shape := ⟨4, ![1, 256, 256, 1]⟩
abbrev S16x256x1x4x32 : Shape := ⟨5, ![16, 256, 1, 4, 32]⟩
abbrev S16x256x256x4x1 : Shape := ⟨5, ![16, 256, 256, 4, 1]⟩
abbrev S16x256x256x4x32 : Shape := ⟨5, ![16, 256, 256, 4, 32]⟩
abbrev S16x256x128 : Shape := ⟨3, ![16, 256, 128]⟩
abbrev S1x1x128 : Shape := ⟨3, ![1, 1, 128]⟩
abbrev S128x256 : Shape := ⟨2, ![128, 256]⟩
abbrev S16x256x256 : Shape := ⟨3, ![16, 256, 256]⟩
abbrev S1x1x256 : Shape := ⟨3, ![1, 1, 256]⟩
abbrev S1048576 : Shape := ⟨1, ![1048576]⟩
abbrev S16x256 : Shape := ⟨2, ![16, 256]⟩
abbrev S16x256x1 : Shape := ⟨3, ![16, 256, 1]⟩

abbrev nBuf : Space → Nat
  | .hbm => 416
  | .vmem => 0
  | .smem => 0
  | _ => 0

abbrev hbmTy0_0 (i : Nat) : BufTy := match i % 128 with
  | 0 => ⟨S16x128, .f32⟩
  | 1 => ⟨S128x128, .f32⟩
  | 2 => ⟨S128, .f32⟩
  | 3 => ⟨S128x128, .f32⟩
  | 4 => ⟨S128, .f32⟩
  | 5 => ⟨S32768x128, .f32⟩
  | 6 => ⟨S32768, .f32⟩
  | 7 => ⟨S128x128, .f32⟩
  | 8 => ⟨S4x32, .f32⟩
  | 9 => ⟨S4x32, .f32⟩
  | 10 => ⟨S128, .f32⟩
  | 11 => ⟨S256x128, .f32⟩
  | 12 => ⟨S256, .f32⟩
  | 13 => ⟨S128x128, .f32⟩
  | 14 => ⟨S16x128, .f32⟩
  | 15 => ⟨S1x128, .f32⟩
  | 16 => ⟨S16x128, .f32⟩
  | 17 => ⟨S16x128, .f32⟩
  | 18 => ⟨S_, .f32⟩
  | 19 => ⟨S16x128, .f32⟩
  | 20 => ⟨S16x128, .f32⟩
  | 21 => ⟨S128x128, .f32⟩
  | 22 => ⟨S16x128, .f32⟩
  | 23 => ⟨S1x128, .f32⟩
  | 24 => ⟨S16x128, .f32⟩
  | 25 => ⟨S16x128, .f32⟩
  | 26 => ⟨S_, .f32⟩
  | 27 => ⟨S16x128, .f32⟩
  | 28 => ⟨S16x128, .f32⟩
  | 29 => ⟨S128x32768, .f32⟩
  | 30 => ⟨S16x32768, .f32⟩
  | 31 => ⟨S1x32768, .f32⟩
  | 32 => ⟨S16x32768, .f32⟩
  | 33 => ⟨S16x32768, .f32⟩
  | 34 => ⟨S4096x128, .f32⟩
  | 35 => ⟨S128x128, .f32⟩
  | 36 => ⟨S4096x128, .f32⟩
  | 37 => ⟨S16x256x4x32, .f32⟩
  | 38 => ⟨S1x1x4x32, .f32⟩
  | 39 => ⟨S16x256x4x32, .f32⟩
  | 40 => ⟨S16x256x4x32, .f32⟩
  | 41 => ⟨S_, .f32⟩
  | 42 => ⟨S16x256x4, .f32⟩
  | 43 => ⟨S1x1x4x32, .f32⟩
  | 44 => ⟨S16x256x4x32, .f32⟩
  | 45 => ⟨S16x256x4x32, .f32⟩
  | 46 => ⟨S_, .f32⟩
  | 47 => ⟨S16x256x4, .f32⟩
  | 48 => ⟨S16x256x1x4, .f32⟩
  | 49 => ⟨S16x1x256x4, .f32⟩
  | 50 => ⟨S16x256x256x4, .f32⟩
  | 51 => ⟨S16x256x256x4, .f32⟩
  | 52 => ⟨S16x256x256x4, .f32⟩
  | 53 => ⟨S_, .f32⟩
  | 54 => ⟨S_, .f32⟩
  | 55 => ⟨S16x256x256x4, .f32⟩
  | 56 => ⟨S16x256x256x4, .i1⟩
  | 57 => ⟨S_, .f32⟩
  | 58 => ⟨S16x256x256x4, .f32⟩
  | 59 => ⟨S16x256x256x4, .f32⟩
  | 60 => ⟨S16x256x256x4, .f32⟩
  | 61 => ⟨S256, .i32⟩
  | 62 => ⟨S256x1, .i32⟩
  | 63 => ⟨S1x256, .i32⟩
  | 64 => ⟨S256x256, .i32⟩
  | 65 => ⟨S256x256, .i32⟩
  | 66 => ⟨S256x256, .i1⟩
  | 67 => ⟨S1x256x256x1, .i1⟩
  | 68 => ⟨S_, .f32⟩
  | 69 => ⟨S_, .f32⟩
  | 70 => ⟨S16x256x256x4, .i1⟩
  | 71 => ⟨S16x256x256x4, .f32⟩
  | 72 => ⟨S16x256x256x4, .f32⟩
  | 73 => ⟨S_, .f32⟩
  | 74 => ⟨S16x256x4, .f32⟩
  | 75 => ⟨S16x1x256x4, .f32⟩
  | 76 => ⟨S16x256x256x4, .f32⟩
  | 77 => ⟨S16x256x256x4, .f32⟩
  | 78 => ⟨S16x256x256x4, .f32⟩
  | 79 => ⟨S_, .f32⟩
  | 80 => ⟨S16x256x4, .f32⟩
  | 81 => ⟨S16x1x256x4, .f32⟩
  | 82 => ⟨S_, .f32⟩
  | 83 => ⟨S16x1x256x4, .f32⟩
  | 84 => ⟨S16x1x256x4, .f32⟩
  | 85 => ⟨S16x256x256x4, .f32⟩
  | 86 => ⟨S16x256x256x4, .f32⟩
  | 87 => ⟨S16x256x1x4x32, .f32⟩
  | 88 => ⟨S16x256x256x4x1, .f32⟩
  | 89 => ⟨S16x256x256x4x32, .f32⟩
  | 90 => ⟨S16x256x256x4x32, .f32⟩
  | 91 => ⟨S16x256x256x4x32, .f32⟩
  | 92 => ⟨S_, .f32⟩
  | 93 => ⟨S16x256x4x32, .f32⟩
  | 94 => ⟨S16x256x128, .f32⟩
  | 95 => ⟨S1x1x128, .f32⟩
  | 96 => ⟨S16x256x128, .f32⟩
  | 97 => ⟨S16x256x128, .f32⟩
  | 98 => ⟨S_, .f32⟩
  | 99 => ⟨S16x256x128, .f32⟩
  | 100 => ⟨S16x256x128, .i1⟩
  | 101 => ⟨S_, .f32⟩
  | 102 => ⟨S16x256x128, .f32⟩
  | 103 => ⟨S16x256x128, .i1⟩
  | 104 => ⟨S_, .f32⟩
  | 105 => ⟨S_, .f32⟩
  | 106 => ⟨S16x256x128, .f32⟩
  | 107 => ⟨S16x256x128, .f32⟩
  | 108 => ⟨S16x256x128, .f32⟩
  | 109 => ⟨S_, .f32⟩
  | 110 => ⟨S16x256x128, .f32⟩
  | 111 => ⟨S16x256x128, .f32⟩
  | 112 => ⟨S16x256x128, .f32⟩
  | 113 => ⟨S128x256, .f32⟩
  | 114 => ⟨S16x256x256, .f32⟩
  | 115 => ⟨S1x1x256, .f32⟩
  | 116 => ⟨S16x256x256, .f32⟩
  | 117 => ⟨S16x256x256, .f32⟩
  | 118 => ⟨S_, .i32⟩
  | 119 => ⟨S16x256x256, .i32⟩
  | 120 => ⟨S_, .i32⟩
  | 121 => ⟨S16x256x256, .i32⟩
  | 122 => ⟨S16x256x256, .i32⟩
  | 123 => ⟨S1048576, .i32⟩
  | 124 => ⟨S16x256x256, .i32⟩
  | 125 => ⟨S_, .i32⟩
  | 126 => ⟨S16x256x256, .i32⟩
  | 127 => ⟨S16x256x256, .i32⟩
  | _ => ⟨S16x128, .f32⟩

abbrev hbmTy0_1 (i : Nat) : BufTy := match i % 128 with
  | 0 => ⟨S16x256x256, .i32⟩
  | 1 => ⟨S_, .i32⟩
  | 2 => ⟨S16x256x256, .i32⟩
  | 3 => ⟨S16x256x256, .i32⟩
  | 4 => ⟨S_, .i32⟩
  | 5 => ⟨S16x256x256, .i32⟩
  | 6 => ⟨S16x256x256, .i32⟩
  | 7 => ⟨S16x256x256, .i32⟩
  | 8 => ⟨S16x256x256, .i32⟩
  | 9 => ⟨S16x256x256, .i32⟩
  | 10 => ⟨S_, .i32⟩
  | 11 => ⟨S16x256x256, .i32⟩
  | 12 => ⟨S16x256x256, .i32⟩
  | 13 => ⟨S_, .i32⟩
  | 14 => ⟨S16x256x256, .i32⟩
  | 15 => ⟨S16x256x256, .i32⟩
  | 16 => ⟨S16x256x256, .i32⟩
  | 17 => ⟨S16x256x256, .i32⟩
  | 18 => ⟨S16x256x256, .i32⟩
  | 19 => ⟨S_, .i32⟩
  | 20 => ⟨S16x256x256, .i32⟩
  | 21 => ⟨S16x256x256, .i32⟩
  | 22 => ⟨S_, .i32⟩
  | 23 => ⟨S16x256x256, .i32⟩
  | 24 => ⟨S16x256x256, .i32⟩
  | 25 => ⟨S16x256x256, .i32⟩
  | 26 => ⟨S16x256x256, .i32⟩
  | 27 => ⟨S16x256x256, .i32⟩
  | 28 => ⟨S_, .i32⟩
  | 29 => ⟨S16x256x256, .i32⟩
  | 30 => ⟨S16x256x256, .i32⟩
  | 31 => ⟨S_, .i32⟩
  | 32 => ⟨S16x256x256, .i32⟩
  | 33 => ⟨S16x256x256, .i32⟩
  | 34 => ⟨S16x256x256, .i32⟩
  | 35 => ⟨S16x256x256, .i32⟩
  | 36 => ⟨S_, .i32⟩
  | 37 => ⟨S16x256x256, .i32⟩
  | 38 => ⟨S16x256x256, .i32⟩
  | 39 => ⟨S_, .i32⟩
  | 40 => ⟨S16x256x256, .i32⟩
  | 41 => ⟨S16x256x256, .i32⟩
  | 42 => ⟨S_, .i32⟩
  | 43 => ⟨S16x256x256, .i32⟩
  | 44 => ⟨S16x256x256, .i32⟩
  | 45 => ⟨S16x256x256, .i32⟩
  | 46 => ⟨S_, .i32⟩
  | 47 => ⟨S16x256x256, .i32⟩
  | 48 => ⟨S16x256x256, .i32⟩
  | 49 => ⟨S_, .i32⟩
  | 50 => ⟨S16x256x256, .i32⟩
  | 51 => ⟨S16x256x256, .i32⟩
  | 52 => ⟨S16x256x256, .i32⟩
  | 53 => ⟨S16x256x256, .i32⟩
  | 54 => ⟨S16x256x256, .i32⟩
  | 55 => ⟨S_, .i32⟩
  | 56 => ⟨S16x256x256, .i32⟩
  | 57 => ⟨S16x256x256, .i32⟩
  | 58 => ⟨S_, .i32⟩
  | 59 => ⟨S16x256x256, .i32⟩
  | 60 => ⟨S16x256x256, .i32⟩
  | 61 => ⟨S16x256x256, .i32⟩
  | 62 => ⟨S16x256x256, .i32⟩
  | 63 => ⟨S16x256x256, .i32⟩
  | 64 => ⟨S_, .i32⟩
  | 65 => ⟨S16x256x256, .i32⟩
  | 66 => ⟨S16x256x256, .i32⟩
  | 67 => ⟨S_, .i32⟩
  | 68 => ⟨S16x256x256, .i32⟩
  | 69 => ⟨S16x256x256, .i32⟩
  | 70 => ⟨S16x256x256, .i32⟩
  | 71 => ⟨S16x256x256, .i32⟩
  | 72 => ⟨S16x256x256, .i32⟩
  | 73 => ⟨S_, .i32⟩
  | 74 => ⟨S16x256x256, .i32⟩
  | 75 => ⟨S16x256x256, .i32⟩
  | 76 => ⟨S_, .i32⟩
  | 77 => ⟨S16x256x256, .i32⟩
  | 78 => ⟨S16x256x256, .i32⟩
  | 79 => ⟨S16x256x256, .i32⟩
  | 80 => ⟨S16x256x256, .i32⟩
  | 81 => ⟨S_, .i32⟩
  | 82 => ⟨S16x256x256, .i32⟩
  | 83 => ⟨S16x256x256, .i32⟩
  | 84 => ⟨S_, .i32⟩
  | 85 => ⟨S16x256x256, .i32⟩
  | 86 => ⟨S16x256x256, .i32⟩
  | 87 => ⟨S_, .i32⟩
  | 88 => ⟨S16x256x256, .i32⟩
  | 89 => ⟨S16x256x256, .i32⟩
  | 90 => ⟨S16x256x256, .i32⟩
  | 91 => ⟨S_, .i32⟩
  | 92 => ⟨S16x256x256, .i32⟩
  | 93 => ⟨S16x256x256, .i32⟩
  | 94 => ⟨S_, .i32⟩
  | 95 => ⟨S16x256x256, .i32⟩
  | 96 => ⟨S16x256x256, .i32⟩
  | 97 => ⟨S16x256x256, .i32⟩
  | 98 => ⟨S16x256x256, .i32⟩
  | 99 => ⟨S16x256x256, .i32⟩
  | 100 => ⟨S_, .i32⟩
  | 101 => ⟨S16x256x256, .i32⟩
  | 102 => ⟨S16x256x256, .i32⟩
  | 103 => ⟨S_, .i32⟩
  | 104 => ⟨S16x256x256, .i32⟩
  | 105 => ⟨S16x256x256, .i32⟩
  | 106 => ⟨S16x256x256, .i32⟩
  | 107 => ⟨S16x256x256, .i32⟩
  | 108 => ⟨S16x256x256, .i32⟩
  | 109 => ⟨S_, .i32⟩
  | 110 => ⟨S16x256x256, .i32⟩
  | 111 => ⟨S16x256x256, .i32⟩
  | 112 => ⟨S_, .i32⟩
  | 113 => ⟨S16x256x256, .i32⟩
  | 114 => ⟨S16x256x256, .i32⟩
  | 115 => ⟨S16x256x256, .i32⟩
  | 116 => ⟨S16x256x256, .i32⟩
  | 117 => ⟨S16x256x256, .i32⟩
  | 118 => ⟨S_, .i32⟩
  | 119 => ⟨S16x256x256, .i32⟩
  | 120 => ⟨S16x256x256, .i32⟩
  | 121 => ⟨S_, .i32⟩
  | 122 => ⟨S16x256x256, .i32⟩
  | 123 => ⟨S16x256x256, .i32⟩
  | 124 => ⟨S16x256x256, .i32⟩
  | 125 => ⟨S16x256x256, .i32⟩
  | 126 => ⟨S_, .i32⟩
  | 127 => ⟨S16x256x256, .i32⟩
  | _ => ⟨S16x128, .f32⟩

abbrev hbmTy0_2 (i : Nat) : BufTy := match i % 128 with
  | 0 => ⟨S16x256x256, .i32⟩
  | 1 => ⟨S_, .i32⟩
  | 2 => ⟨S16x256x256, .i32⟩
  | 3 => ⟨S16x256x256, .i32⟩
  | 4 => ⟨S_, .i32⟩
  | 5 => ⟨S16x256x256, .i32⟩
  | 6 => ⟨S16x256x256, .i32⟩
  | 7 => ⟨S16x256x256, .i32⟩
  | 8 => ⟨S_, .i32⟩
  | 9 => ⟨S16x256x256, .i32⟩
  | 10 => ⟨S16x256x256, .i32⟩
  | 11 => ⟨S_, .i32⟩
  | 12 => ⟨S16x256x256, .i32⟩
  | 13 => ⟨S16x256x256, .i32⟩
  | 14 => ⟨S16x256x256, .i32⟩
  | 15 => ⟨S16x256x256, .i32⟩
  | 16 => ⟨S16x256x256, .i32⟩
  | 17 => ⟨S_, .i32⟩
  | 18 => ⟨S16x256x256, .i32⟩
  | 19 => ⟨S16x256x256, .i32⟩
  | 20 => ⟨S_, .i32⟩
  | 21 => ⟨S16x256x256, .i32⟩
  | 22 => ⟨S16x256x256, .i32⟩
  | 23 => ⟨S16x256x256, .i32⟩
  | 24 => ⟨S16x256x256, .i32⟩
  | 25 => ⟨S16x256x256, .i32⟩
  | 26 => ⟨S_, .i32⟩
  | 27 => ⟨S16x256x256, .i32⟩
  | 28 => ⟨S16x256x256, .i32⟩
  | 29 => ⟨S_, .i32⟩
  | 30 => ⟨S16x256x256, .i32⟩
  | 31 => ⟨S16x256x256, .i32⟩
  | 32 => ⟨S16x256x256, .i32⟩
  | 33 => ⟨S16x256x256, .i32⟩
  | 34 => ⟨S16x256x256, .i32⟩
  | 35 => ⟨S_, .i32⟩
  | 36 => ⟨S16x256x256, .i32⟩
  | 37 => ⟨S16x256x256, .i32⟩
  | 38 => ⟨S_, .i32⟩
  | 39 => ⟨S16x256x256, .i32⟩
  | 40 => ⟨S16x256x256, .i32⟩
  | 41 => ⟨S16x256x256, .i32⟩
  | 42 => ⟨S16x256x256, .i32⟩
  | 43 => ⟨S_, .i32⟩
  | 44 => ⟨S16x256x256, .i32⟩
  | 45 => ⟨S16x256x256, .i32⟩
  | 46 => ⟨S_, .i32⟩
  | 47 => ⟨S16x256x256, .i32⟩
  | 48 => ⟨S16x256x256, .i32⟩
  | 49 => ⟨S_, .i32⟩
  | 50 => ⟨S16x256x256, .i32⟩
  | 51 => ⟨S16x256x256, .i32⟩
  | 52 => ⟨S16x256x256, .i32⟩
  | 53 => ⟨S_, .i32⟩
  | 54 => ⟨S16x256x256, .i32⟩
  | 55 => ⟨S16x256x256, .i32⟩
  | 56 => ⟨S_, .i32⟩
  | 57 => ⟨S16x256x256, .i32⟩
  | 58 => ⟨S16x256x256, .i32⟩
  | 59 => ⟨S16x256x256, .i32⟩
  | 60 => ⟨S16x256x256, .i32⟩
  | 61 => ⟨S16x256x256, .i32⟩
  | 62 => ⟨S_, .i32⟩
  | 63 => ⟨S16x256x256, .i32⟩
  | 64 => ⟨S16x256x256, .i32⟩
  | 65 => ⟨S_, .i32⟩
  | 66 => ⟨S16x256x256, .i32⟩
  | 67 => ⟨S16x256x256, .i32⟩
  | 68 => ⟨S16x256x256, .i32⟩
  | 69 => ⟨S16x256x256, .i32⟩
  | 70 => ⟨S16x256x256, .i32⟩
  | 71 => ⟨S_, .i32⟩
  | 72 => ⟨S16x256x256, .i32⟩
  | 73 => ⟨S16x256x256, .i32⟩
  | 74 => ⟨S_, .i32⟩
  | 75 => ⟨S16x256x256, .i32⟩
  | 76 => ⟨S16x256x256, .i32⟩
  | 77 => ⟨S16x256x256, .i32⟩
  | 78 => ⟨S16x256x256, .i32⟩
  | 79 => ⟨S16x256x256, .i32⟩
  | 80 => ⟨S_, .i32⟩
  | 81 => ⟨S16x256x256, .i32⟩
  | 82 => ⟨S16x256x256, .i32⟩
  | 83 => ⟨S_, .i32⟩
  | 84 => ⟨S16x256x256, .i32⟩
  | 85 => ⟨S16x256x256, .i32⟩
  | 86 => ⟨S16x256x256, .i32⟩
  | 87 => ⟨S16x256x256, .i32⟩
  | 88 => ⟨S_, .i32⟩
  | 89 => ⟨S16x256x256, .i32⟩
  | 90 => ⟨S16x256x256, .i32⟩
  | 91 => ⟨S_, .i32⟩
  | 92 => ⟨S16x256x256, .i32⟩
  | 93 => ⟨S16x256x256, .i32⟩
  | 94 => ⟨S_, .i32⟩
  | 95 => ⟨S16x256x256, .i32⟩
  | 96 => ⟨S16x256x256, .i32⟩
  | 97 => ⟨S16x256x256, .i32⟩
  | 98 => ⟨S_, .i32⟩
  | 99 => ⟨S16x256x256, .i32⟩
  | 100 => ⟨S16x256x256, .i32⟩
  | 101 => ⟨S16x256x256, .i32⟩
  | 102 => ⟨S16x256x256, .f32⟩
  | 103 => ⟨S_, .f32⟩
  | 104 => ⟨S16x256x256, .f32⟩
  | 105 => ⟨S16x256x256, .f32⟩
  | 106 => ⟨S_, .f32⟩
  | 107 => ⟨S16x256x256, .f32⟩
  | 108 => ⟨S16x256x256, .f32⟩
  | 109 => ⟨S_, .f32⟩
  | 110 => ⟨S16x256x256, .f32⟩
  | 111 => ⟨S16x256x256, .f32⟩
  | 112 => ⟨S_, .f32⟩
  | 113 => ⟨S16x256x256, .f32⟩
  | 114 => ⟨S16x256x256, .f32⟩
  | 115 => ⟨S16x256x256, .f32⟩
  | 116 => ⟨S16x256x256, .f32⟩
  | 117 => ⟨S16x256x256, .f32⟩
  | 118 => ⟨S16x256x256, .f32⟩
  | 119 => ⟨S16x256x256, .f32⟩
  | 120 => ⟨S_, .f32⟩
  | 121 => ⟨S16x256x256, .f32⟩
  | 122 => ⟨S16x256x256, .f32⟩
  | 123 => ⟨S_, .f32⟩
  | 124 => ⟨S16x256, .f32⟩
  | 125 => ⟨S_, .f32⟩
  | 126 => ⟨S16x256, .f32⟩
  | 127 => ⟨S16x256, .f32⟩
  | _ => ⟨S16x128, .f32⟩

abbrev hbmTy0_3 (i : Nat) : BufTy := match i % 128 with
  | 0 => ⟨S16x256x1, .f32⟩
  | 1 => ⟨S16x256x256, .f32⟩
  | 2 => ⟨S16x256x256, .f32⟩
  | 3 => ⟨S16x256x256, .f32⟩
  | 4 => ⟨S_, .f32⟩
  | 5 => ⟨S16x256, .f32⟩
  | 6 => ⟨S16x256x1, .f32⟩
  | 7 => ⟨S16x256x256, .f32⟩
  | 8 => ⟨S16x256x256, .f32⟩
  | 9 => ⟨S16x256x256, .i32⟩
  | 10 => ⟨S_, .f32⟩
  | 11 => ⟨S_, .i32⟩
  | 12 => ⟨S16x256, .f32⟩
  | 13 => ⟨S16x256, .i32⟩
  | 14 => ⟨S16x256x1, .i32⟩
  | 15 => ⟨S1x1x256, .i32⟩
  | 16 => ⟨S16x256x256, .i32⟩
  | 17 => ⟨S16x256x256, .i32⟩
  | 18 => ⟨S16x256x256, .i1⟩
  | 19 => ⟨S16x256x256, .f32⟩
  | 20 => ⟨S16x256x256, .f32⟩
  | 21 => ⟨S16x256x256, .f32⟩
  | 22 => ⟨S16x256x256, .f32⟩
  | 23 => ⟨S16x256x256, .f32⟩
  | 24 => ⟨S_, .f32⟩
  | 25 => ⟨S_, .f32⟩
  | 26 => ⟨S_, .f32⟩
  | 27 => ⟨S16x256x256, .f32⟩
  | 28 => ⟨S16x256x256, .f32⟩
  | 29 => ⟨S_, .f32⟩
  | 30 => ⟨S16x256x256, .f32⟩
  | 31 => ⟨S16x256x256, .f32⟩
  | _ => ⟨S16x128, .f32⟩

abbrev hbmTy (i : Nat) : BufTy := match i / 128 with
  | 0 => hbmTy0_0 i
  | 1 => hbmTy0_1 i
  | 2 => hbmTy0_2 i
  | 3 => hbmTy0_3 i
  | _ => ⟨S16x128, .f32⟩

abbrev bufTy : (tb : Table) → Fin (tcTables nBuf tb) → BufTy
  | .hbm, ⟨i, _⟩ => hbmTy i
  | _, _ => ⟨S16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_call0_cst : Ref sig .tc := ⟨.hbm, 18, rfl⟩
abbrev main_call0_v0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_call1_cst : Ref sig .tc := ⟨.hbm, 26, rfl⟩
abbrev main_call1_v0 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_0 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_1 : Ref sig .tc := ⟨.hbm, 53, rfl⟩
abbrev main_call2_cst : Ref sig .tc := ⟨.hbm, 54, rfl⟩
abbrev main_call2_v0 : Ref sig .tc := ⟨.hbm, 55, rfl⟩
abbrev main_call2_v1 : Ref sig .tc := ⟨.hbm, 56, rfl⟩
abbrev main_call2_v2 : Ref sig .tc := ⟨.hbm, 57, rfl⟩
abbrev main_call2_v3 : Ref sig .tc := ⟨.hbm, 58, rfl⟩
abbrev main_call2_v4 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_2 : Ref sig .tc := ⟨.hbm, 68, rfl⟩
abbrev main_call3_v0 : Ref sig .tc := ⟨.hbm, 69, rfl⟩
abbrev main_call3_v1 : Ref sig .tc := ⟨.hbm, 70, rfl⟩
abbrev main_call3_v2 : Ref sig .tc := ⟨.hbm, 71, rfl⟩
abbrev main_v42 : Ref sig .tc := ⟨.hbm, 72, rfl⟩
abbrev main_cst_3 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_cst_4 : Ref sig .tc := ⟨.hbm, 79, rfl⟩
abbrev main_v48 : Ref sig .tc := ⟨.hbm, 80, rfl⟩
abbrev main_v49 : Ref sig .tc := ⟨.hbm, 81, rfl⟩
abbrev main_cst_5 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_cst_6 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_call4_cst : Ref sig .tc := ⟨.hbm, 98, rfl⟩
abbrev main_call4_v0 : Ref sig .tc := ⟨.hbm, 99, rfl⟩
abbrev main_call4_v1 : Ref sig .tc := ⟨.hbm, 100, rfl⟩
abbrev main_call4_cst_0 : Ref sig .tc := ⟨.hbm, 101, rfl⟩
abbrev main_call4_v2 : Ref sig .tc := ⟨.hbm, 102, rfl⟩
abbrev main_call4_v3 : Ref sig .tc := ⟨.hbm, 103, rfl⟩
abbrev main_call4_cst_1 : Ref sig .tc := ⟨.hbm, 104, rfl⟩
abbrev main_call4_call0_v0 : Ref sig .tc := ⟨.hbm, 105, rfl⟩
abbrev main_call4_call0_v1 : Ref sig .tc := ⟨.hbm, 106, rfl⟩
abbrev main_call4_v4 : Ref sig .tc := ⟨.hbm, 107, rfl⟩
abbrev main_call4_v5 : Ref sig .tc := ⟨.hbm, 108, rfl⟩
abbrev main_call4_cst_2 : Ref sig .tc := ⟨.hbm, 109, rfl⟩
abbrev main_call4_v6 : Ref sig .tc := ⟨.hbm, 110, rfl⟩
abbrev main_call4_v7 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_c : Ref sig .tc := ⟨.hbm, 118, rfl⟩
abbrev main_v70 : Ref sig .tc := ⟨.hbm, 119, rfl⟩
abbrev main_c_7 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_c_8 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_c_9 : Ref sig .tc := ⟨.hbm, 129, rfl⟩
abbrev main_v78 : Ref sig .tc := ⟨.hbm, 130, rfl⟩
abbrev main_v79 : Ref sig .tc := ⟨.hbm, 131, rfl⟩
abbrev main_c_10 : Ref sig .tc := ⟨.hbm, 132, rfl⟩
abbrev main_v80 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_c_11 : Ref sig .tc := ⟨.hbm, 138, rfl⟩
abbrev main_v85 : Ref sig .tc := ⟨.hbm, 139, rfl⟩
abbrev main_v86 : Ref sig .tc := ⟨.hbm, 140, rfl⟩
abbrev main_c_12 : Ref sig .tc := ⟨.hbm, 141, rfl⟩
abbrev main_v87 : Ref sig .tc := ⟨.hbm, 142, rfl⟩
abbrev main_v88 : Ref sig .tc := ⟨.hbm, 143, rfl⟩
abbrev main_v89 : Ref sig .tc := ⟨.hbm, 144, rfl⟩
abbrev main_v90 : Ref sig .tc := ⟨.hbm, 145, rfl⟩
abbrev main_v91 : Ref sig .tc := ⟨.hbm, 146, rfl⟩
abbrev main_c_13 : Ref sig .tc := ⟨.hbm, 147, rfl⟩
abbrev main_v92 : Ref sig .tc := ⟨.hbm, 148, rfl⟩
abbrev main_v93 : Ref sig .tc := ⟨.hbm, 149, rfl⟩
abbrev main_c_14 : Ref sig .tc := ⟨.hbm, 150, rfl⟩
abbrev main_v94 : Ref sig .tc := ⟨.hbm, 151, rfl⟩
abbrev main_v95 : Ref sig .tc := ⟨.hbm, 152, rfl⟩
abbrev main_v96 : Ref sig .tc := ⟨.hbm, 153, rfl⟩
abbrev main_v97 : Ref sig .tc := ⟨.hbm, 154, rfl⟩
abbrev main_v98 : Ref sig .tc := ⟨.hbm, 155, rfl⟩
abbrev main_c_15 : Ref sig .tc := ⟨.hbm, 156, rfl⟩
abbrev main_v99 : Ref sig .tc := ⟨.hbm, 157, rfl⟩
abbrev main_v100 : Ref sig .tc := ⟨.hbm, 158, rfl⟩
abbrev main_c_16 : Ref sig .tc := ⟨.hbm, 159, rfl⟩
abbrev main_v101 : Ref sig .tc := ⟨.hbm, 160, rfl⟩
abbrev main_v102 : Ref sig .tc := ⟨.hbm, 161, rfl⟩
abbrev main_v103 : Ref sig .tc := ⟨.hbm, 162, rfl⟩
abbrev main_v104 : Ref sig .tc := ⟨.hbm, 163, rfl⟩
abbrev main_c_17 : Ref sig .tc := ⟨.hbm, 164, rfl⟩
abbrev main_v105 : Ref sig .tc := ⟨.hbm, 165, rfl⟩
abbrev main_v106 : Ref sig .tc := ⟨.hbm, 166, rfl⟩
abbrev main_c_18 : Ref sig .tc := ⟨.hbm, 167, rfl⟩
abbrev main_v107 : Ref sig .tc := ⟨.hbm, 168, rfl⟩
abbrev main_v108 : Ref sig .tc := ⟨.hbm, 169, rfl⟩
abbrev main_c_19 : Ref sig .tc := ⟨.hbm, 170, rfl⟩
abbrev main_v109 : Ref sig .tc := ⟨.hbm, 171, rfl⟩
abbrev main_v110 : Ref sig .tc := ⟨.hbm, 172, rfl⟩
abbrev main_v111 : Ref sig .tc := ⟨.hbm, 173, rfl⟩
abbrev main_c_20 : Ref sig .tc := ⟨.hbm, 174, rfl⟩
abbrev main_v112 : Ref sig .tc := ⟨.hbm, 175, rfl⟩
abbrev main_v113 : Ref sig .tc := ⟨.hbm, 176, rfl⟩
abbrev main_c_21 : Ref sig .tc := ⟨.hbm, 177, rfl⟩
abbrev main_v114 : Ref sig .tc := ⟨.hbm, 178, rfl⟩
abbrev main_v115 : Ref sig .tc := ⟨.hbm, 179, rfl⟩
abbrev main_v116 : Ref sig .tc := ⟨.hbm, 180, rfl⟩
abbrev main_v117 : Ref sig .tc := ⟨.hbm, 181, rfl⟩
abbrev main_v118 : Ref sig .tc := ⟨.hbm, 182, rfl⟩
abbrev main_c_22 : Ref sig .tc := ⟨.hbm, 183, rfl⟩
abbrev main_v119 : Ref sig .tc := ⟨.hbm, 184, rfl⟩
abbrev main_v120 : Ref sig .tc := ⟨.hbm, 185, rfl⟩
abbrev main_c_23 : Ref sig .tc := ⟨.hbm, 186, rfl⟩
abbrev main_v121 : Ref sig .tc := ⟨.hbm, 187, rfl⟩
abbrev main_v122 : Ref sig .tc := ⟨.hbm, 188, rfl⟩
abbrev main_v123 : Ref sig .tc := ⟨.hbm, 189, rfl⟩
abbrev main_v124 : Ref sig .tc := ⟨.hbm, 190, rfl⟩
abbrev main_v125 : Ref sig .tc := ⟨.hbm, 191, rfl⟩
abbrev main_c_24 : Ref sig .tc := ⟨.hbm, 192, rfl⟩
abbrev main_v126 : Ref sig .tc := ⟨.hbm, 193, rfl⟩
abbrev main_v127 : Ref sig .tc := ⟨.hbm, 194, rfl⟩
abbrev main_c_25 : Ref sig .tc := ⟨.hbm, 195, rfl⟩
abbrev main_v128 : Ref sig .tc := ⟨.hbm, 196, rfl⟩
abbrev main_v129 : Ref sig .tc := ⟨.hbm, 197, rfl⟩
abbrev main_v130 : Ref sig .tc := ⟨.hbm, 198, rfl⟩
abbrev main_v131 : Ref sig .tc := ⟨.hbm, 199, rfl⟩
abbrev main_v132 : Ref sig .tc := ⟨.hbm, 200, rfl⟩
abbrev main_c_26 : Ref sig .tc := ⟨.hbm, 201, rfl⟩
abbrev main_v133 : Ref sig .tc := ⟨.hbm, 202, rfl⟩
abbrev main_v134 : Ref sig .tc := ⟨.hbm, 203, rfl⟩
abbrev main_c_27 : Ref sig .tc := ⟨.hbm, 204, rfl⟩
abbrev main_v135 : Ref sig .tc := ⟨.hbm, 205, rfl⟩
abbrev main_v136 : Ref sig .tc := ⟨.hbm, 206, rfl⟩
abbrev main_v137 : Ref sig .tc := ⟨.hbm, 207, rfl⟩
abbrev main_v138 : Ref sig .tc := ⟨.hbm, 208, rfl⟩
abbrev main_c_28 : Ref sig .tc := ⟨.hbm, 209, rfl⟩
abbrev main_v139 : Ref sig .tc := ⟨.hbm, 210, rfl⟩
abbrev main_v140 : Ref sig .tc := ⟨.hbm, 211, rfl⟩
abbrev main_c_29 : Ref sig .tc := ⟨.hbm, 212, rfl⟩
abbrev main_v141 : Ref sig .tc := ⟨.hbm, 213, rfl⟩
abbrev main_v142 : Ref sig .tc := ⟨.hbm, 214, rfl⟩
abbrev main_c_30 : Ref sig .tc := ⟨.hbm, 215, rfl⟩
abbrev main_v143 : Ref sig .tc := ⟨.hbm, 216, rfl⟩
abbrev main_v144 : Ref sig .tc := ⟨.hbm, 217, rfl⟩
abbrev main_v145 : Ref sig .tc := ⟨.hbm, 218, rfl⟩
abbrev main_c_31 : Ref sig .tc := ⟨.hbm, 219, rfl⟩
abbrev main_v146 : Ref sig .tc := ⟨.hbm, 220, rfl⟩
abbrev main_v147 : Ref sig .tc := ⟨.hbm, 221, rfl⟩
abbrev main_c_32 : Ref sig .tc := ⟨.hbm, 222, rfl⟩
abbrev main_v148 : Ref sig .tc := ⟨.hbm, 223, rfl⟩
abbrev main_v149 : Ref sig .tc := ⟨.hbm, 224, rfl⟩
abbrev main_v150 : Ref sig .tc := ⟨.hbm, 225, rfl⟩
abbrev main_v151 : Ref sig .tc := ⟨.hbm, 226, rfl⟩
abbrev main_v152 : Ref sig .tc := ⟨.hbm, 227, rfl⟩
abbrev main_c_33 : Ref sig .tc := ⟨.hbm, 228, rfl⟩
abbrev main_v153 : Ref sig .tc := ⟨.hbm, 229, rfl⟩
abbrev main_v154 : Ref sig .tc := ⟨.hbm, 230, rfl⟩
abbrev main_c_34 : Ref sig .tc := ⟨.hbm, 231, rfl⟩
abbrev main_v155 : Ref sig .tc := ⟨.hbm, 232, rfl⟩
abbrev main_v156 : Ref sig .tc := ⟨.hbm, 233, rfl⟩
abbrev main_v157 : Ref sig .tc := ⟨.hbm, 234, rfl⟩
abbrev main_v158 : Ref sig .tc := ⟨.hbm, 235, rfl⟩
abbrev main_v159 : Ref sig .tc := ⟨.hbm, 236, rfl⟩
abbrev main_c_35 : Ref sig .tc := ⟨.hbm, 237, rfl⟩
abbrev main_v160 : Ref sig .tc := ⟨.hbm, 238, rfl⟩
abbrev main_v161 : Ref sig .tc := ⟨.hbm, 239, rfl⟩
abbrev main_c_36 : Ref sig .tc := ⟨.hbm, 240, rfl⟩
abbrev main_v162 : Ref sig .tc := ⟨.hbm, 241, rfl⟩
abbrev main_v163 : Ref sig .tc := ⟨.hbm, 242, rfl⟩
abbrev main_v164 : Ref sig .tc := ⟨.hbm, 243, rfl⟩
abbrev main_v165 : Ref sig .tc := ⟨.hbm, 244, rfl⟩
abbrev main_v166 : Ref sig .tc := ⟨.hbm, 245, rfl⟩
abbrev main_c_37 : Ref sig .tc := ⟨.hbm, 246, rfl⟩
abbrev main_v167 : Ref sig .tc := ⟨.hbm, 247, rfl⟩
abbrev main_v168 : Ref sig .tc := ⟨.hbm, 248, rfl⟩
abbrev main_c_38 : Ref sig .tc := ⟨.hbm, 249, rfl⟩
abbrev main_v169 : Ref sig .tc := ⟨.hbm, 250, rfl⟩
abbrev main_v170 : Ref sig .tc := ⟨.hbm, 251, rfl⟩
abbrev main_v171 : Ref sig .tc := ⟨.hbm, 252, rfl⟩
abbrev main_v172 : Ref sig .tc := ⟨.hbm, 253, rfl⟩
abbrev main_c_39 : Ref sig .tc := ⟨.hbm, 254, rfl⟩
abbrev main_v173 : Ref sig .tc := ⟨.hbm, 255, rfl⟩
abbrev main_v174 : Ref sig .tc := ⟨.hbm, 256, rfl⟩
abbrev main_c_40 : Ref sig .tc := ⟨.hbm, 257, rfl⟩
abbrev main_v175 : Ref sig .tc := ⟨.hbm, 258, rfl⟩
abbrev main_v176 : Ref sig .tc := ⟨.hbm, 259, rfl⟩
abbrev main_c_41 : Ref sig .tc := ⟨.hbm, 260, rfl⟩
abbrev main_v177 : Ref sig .tc := ⟨.hbm, 261, rfl⟩
abbrev main_v178 : Ref sig .tc := ⟨.hbm, 262, rfl⟩
abbrev main_v179 : Ref sig .tc := ⟨.hbm, 263, rfl⟩
abbrev main_c_42 : Ref sig .tc := ⟨.hbm, 264, rfl⟩
abbrev main_v180 : Ref sig .tc := ⟨.hbm, 265, rfl⟩
abbrev main_v181 : Ref sig .tc := ⟨.hbm, 266, rfl⟩
abbrev main_c_43 : Ref sig .tc := ⟨.hbm, 267, rfl⟩
abbrev main_v182 : Ref sig .tc := ⟨.hbm, 268, rfl⟩
abbrev main_v183 : Ref sig .tc := ⟨.hbm, 269, rfl⟩
abbrev main_v184 : Ref sig .tc := ⟨.hbm, 270, rfl⟩
abbrev main_v185 : Ref sig .tc := ⟨.hbm, 271, rfl⟩
abbrev main_v186 : Ref sig .tc := ⟨.hbm, 272, rfl⟩
abbrev main_c_44 : Ref sig .tc := ⟨.hbm, 273, rfl⟩
abbrev main_v187 : Ref sig .tc := ⟨.hbm, 274, rfl⟩
abbrev main_v188 : Ref sig .tc := ⟨.hbm, 275, rfl⟩
abbrev main_c_45 : Ref sig .tc := ⟨.hbm, 276, rfl⟩
abbrev main_v189 : Ref sig .tc := ⟨.hbm, 277, rfl⟩
abbrev main_v190 : Ref sig .tc := ⟨.hbm, 278, rfl⟩
abbrev main_v191 : Ref sig .tc := ⟨.hbm, 279, rfl⟩
abbrev main_v192 : Ref sig .tc := ⟨.hbm, 280, rfl⟩
abbrev main_v193 : Ref sig .tc := ⟨.hbm, 281, rfl⟩
abbrev main_c_46 : Ref sig .tc := ⟨.hbm, 282, rfl⟩
abbrev main_v194 : Ref sig .tc := ⟨.hbm, 283, rfl⟩
abbrev main_v195 : Ref sig .tc := ⟨.hbm, 284, rfl⟩
abbrev main_c_47 : Ref sig .tc := ⟨.hbm, 285, rfl⟩
abbrev main_v196 : Ref sig .tc := ⟨.hbm, 286, rfl⟩
abbrev main_v197 : Ref sig .tc := ⟨.hbm, 287, rfl⟩
abbrev main_v198 : Ref sig .tc := ⟨.hbm, 288, rfl⟩
abbrev main_v199 : Ref sig .tc := ⟨.hbm, 289, rfl⟩
abbrev main_v200 : Ref sig .tc := ⟨.hbm, 290, rfl⟩
abbrev main_c_48 : Ref sig .tc := ⟨.hbm, 291, rfl⟩
abbrev main_v201 : Ref sig .tc := ⟨.hbm, 292, rfl⟩
abbrev main_v202 : Ref sig .tc := ⟨.hbm, 293, rfl⟩
abbrev main_c_49 : Ref sig .tc := ⟨.hbm, 294, rfl⟩
abbrev main_v203 : Ref sig .tc := ⟨.hbm, 295, rfl⟩
abbrev main_v204 : Ref sig .tc := ⟨.hbm, 296, rfl⟩
abbrev main_v205 : Ref sig .tc := ⟨.hbm, 297, rfl⟩
abbrev main_v206 : Ref sig .tc := ⟨.hbm, 298, rfl⟩
abbrev main_c_50 : Ref sig .tc := ⟨.hbm, 299, rfl⟩
abbrev main_v207 : Ref sig .tc := ⟨.hbm, 300, rfl⟩
abbrev main_v208 : Ref sig .tc := ⟨.hbm, 301, rfl⟩
abbrev main_c_51 : Ref sig .tc := ⟨.hbm, 302, rfl⟩
abbrev main_v209 : Ref sig .tc := ⟨.hbm, 303, rfl⟩
abbrev main_v210 : Ref sig .tc := ⟨.hbm, 304, rfl⟩
abbrev main_c_52 : Ref sig .tc := ⟨.hbm, 305, rfl⟩
abbrev main_v211 : Ref sig .tc := ⟨.hbm, 306, rfl⟩
abbrev main_v212 : Ref sig .tc := ⟨.hbm, 307, rfl⟩
abbrev main_v213 : Ref sig .tc := ⟨.hbm, 308, rfl⟩
abbrev main_c_53 : Ref sig .tc := ⟨.hbm, 309, rfl⟩
abbrev main_v214 : Ref sig .tc := ⟨.hbm, 310, rfl⟩
abbrev main_v215 : Ref sig .tc := ⟨.hbm, 311, rfl⟩
abbrev main_c_54 : Ref sig .tc := ⟨.hbm, 312, rfl⟩
abbrev main_v216 : Ref sig .tc := ⟨.hbm, 313, rfl⟩
abbrev main_v217 : Ref sig .tc := ⟨.hbm, 314, rfl⟩
abbrev main_v218 : Ref sig .tc := ⟨.hbm, 315, rfl⟩
abbrev main_v219 : Ref sig .tc := ⟨.hbm, 316, rfl⟩
abbrev main_v220 : Ref sig .tc := ⟨.hbm, 317, rfl⟩
abbrev main_c_55 : Ref sig .tc := ⟨.hbm, 318, rfl⟩
abbrev main_v221 : Ref sig .tc := ⟨.hbm, 319, rfl⟩
abbrev main_v222 : Ref sig .tc := ⟨.hbm, 320, rfl⟩
abbrev main_c_56 : Ref sig .tc := ⟨.hbm, 321, rfl⟩
abbrev main_v223 : Ref sig .tc := ⟨.hbm, 322, rfl⟩
abbrev main_v224 : Ref sig .tc := ⟨.hbm, 323, rfl⟩
abbrev main_v225 : Ref sig .tc := ⟨.hbm, 324, rfl⟩
abbrev main_v226 : Ref sig .tc := ⟨.hbm, 325, rfl⟩
abbrev main_v227 : Ref sig .tc := ⟨.hbm, 326, rfl⟩
abbrev main_c_57 : Ref sig .tc := ⟨.hbm, 327, rfl⟩
abbrev main_v228 : Ref sig .tc := ⟨.hbm, 328, rfl⟩
abbrev main_v229 : Ref sig .tc := ⟨.hbm, 329, rfl⟩
abbrev main_c_58 : Ref sig .tc := ⟨.hbm, 330, rfl⟩
abbrev main_v230 : Ref sig .tc := ⟨.hbm, 331, rfl⟩
abbrev main_v231 : Ref sig .tc := ⟨.hbm, 332, rfl⟩
abbrev main_v232 : Ref sig .tc := ⟨.hbm, 333, rfl⟩
abbrev main_v233 : Ref sig .tc := ⟨.hbm, 334, rfl⟩
abbrev main_v234 : Ref sig .tc := ⟨.hbm, 335, rfl⟩
abbrev main_c_59 : Ref sig .tc := ⟨.hbm, 336, rfl⟩
abbrev main_v235 : Ref sig .tc := ⟨.hbm, 337, rfl⟩
abbrev main_v236 : Ref sig .tc := ⟨.hbm, 338, rfl⟩
abbrev main_c_60 : Ref sig .tc := ⟨.hbm, 339, rfl⟩
abbrev main_v237 : Ref sig .tc := ⟨.hbm, 340, rfl⟩
abbrev main_v238 : Ref sig .tc := ⟨.hbm, 341, rfl⟩
abbrev main_v239 : Ref sig .tc := ⟨.hbm, 342, rfl⟩
abbrev main_v240 : Ref sig .tc := ⟨.hbm, 343, rfl⟩
abbrev main_c_61 : Ref sig .tc := ⟨.hbm, 344, rfl⟩
abbrev main_v241 : Ref sig .tc := ⟨.hbm, 345, rfl⟩
abbrev main_v242 : Ref sig .tc := ⟨.hbm, 346, rfl⟩
abbrev main_c_62 : Ref sig .tc := ⟨.hbm, 347, rfl⟩
abbrev main_v243 : Ref sig .tc := ⟨.hbm, 348, rfl⟩
abbrev main_v244 : Ref sig .tc := ⟨.hbm, 349, rfl⟩
abbrev main_c_63 : Ref sig .tc := ⟨.hbm, 350, rfl⟩
abbrev main_v245 : Ref sig .tc := ⟨.hbm, 351, rfl⟩
abbrev main_v246 : Ref sig .tc := ⟨.hbm, 352, rfl⟩
abbrev main_v247 : Ref sig .tc := ⟨.hbm, 353, rfl⟩
abbrev main_c_64 : Ref sig .tc := ⟨.hbm, 354, rfl⟩
abbrev main_v248 : Ref sig .tc := ⟨.hbm, 355, rfl⟩
abbrev main_v249 : Ref sig .tc := ⟨.hbm, 356, rfl⟩
abbrev main_v250 : Ref sig .tc := ⟨.hbm, 357, rfl⟩
abbrev main_v251 : Ref sig .tc := ⟨.hbm, 358, rfl⟩
abbrev main_cst_65 : Ref sig .tc := ⟨.hbm, 359, rfl⟩
abbrev main_v252 : Ref sig .tc := ⟨.hbm, 360, rfl⟩
abbrev main_v253 : Ref sig .tc := ⟨.hbm, 361, rfl⟩
abbrev main_cst_66 : Ref sig .tc := ⟨.hbm, 362, rfl⟩
abbrev main_v254 : Ref sig .tc := ⟨.hbm, 363, rfl⟩
abbrev main_v255 : Ref sig .tc := ⟨.hbm, 364, rfl⟩
abbrev main_cst_67 : Ref sig .tc := ⟨.hbm, 365, rfl⟩
abbrev main_v256 : Ref sig .tc := ⟨.hbm, 366, rfl⟩
abbrev main_v257 : Ref sig .tc := ⟨.hbm, 367, rfl⟩
abbrev main_cst_68 : Ref sig .tc := ⟨.hbm, 368, rfl⟩
abbrev main_v258 : Ref sig .tc := ⟨.hbm, 369, rfl⟩
abbrev main_v259 : Ref sig .tc := ⟨.hbm, 370, rfl⟩
abbrev main_v260 : Ref sig .tc := ⟨.hbm, 371, rfl⟩
abbrev main_v261 : Ref sig .tc := ⟨.hbm, 372, rfl⟩
abbrev main_v262 : Ref sig .tc := ⟨.hbm, 373, rfl⟩
abbrev main_v263 : Ref sig .tc := ⟨.hbm, 374, rfl⟩
abbrev main_v264 : Ref sig .tc := ⟨.hbm, 375, rfl⟩
abbrev main_cst_69 : Ref sig .tc := ⟨.hbm, 376, rfl⟩
abbrev main_v265 : Ref sig .tc := ⟨.hbm, 377, rfl⟩
abbrev main_v266 : Ref sig .tc := ⟨.hbm, 378, rfl⟩
abbrev main_cst_70 : Ref sig .tc := ⟨.hbm, 379, rfl⟩
abbrev main_v267 : Ref sig .tc := ⟨.hbm, 380, rfl⟩
abbrev main_cst_71 : Ref sig .tc := ⟨.hbm, 381, rfl⟩
abbrev main_v268 : Ref sig .tc := ⟨.hbm, 382, rfl⟩
abbrev main_v269 : Ref sig .tc := ⟨.hbm, 383, rfl⟩
abbrev main_v270 : Ref sig .tc := ⟨.hbm, 384, rfl⟩
abbrev main_v271 : Ref sig .tc := ⟨.hbm, 385, rfl⟩
abbrev main_v272 : Ref sig .tc := ⟨.hbm, 386, rfl⟩
abbrev main_v273 : Ref sig .tc := ⟨.hbm, 387, rfl⟩
abbrev main_cst_72 : Ref sig .tc := ⟨.hbm, 388, rfl⟩
abbrev main_v274 : Ref sig .tc := ⟨.hbm, 389, rfl⟩
abbrev main_v275 : Ref sig .tc := ⟨.hbm, 390, rfl⟩
abbrev main_v276 : Ref sig .tc := ⟨.hbm, 391, rfl⟩
abbrev main_v277 : Ref sig .tc := ⟨.hbm, 392, rfl⟩
abbrev main_call5_v0 : Ref sig .tc := ⟨.hbm, 393, rfl⟩
abbrev main_call5_cst : Ref sig .tc := ⟨.hbm, 394, rfl⟩
abbrev main_call5_c : Ref sig .tc := ⟨.hbm, 395, rfl⟩
abbrev main_call5_v1_0 : Ref sig .tc := ⟨.hbm, 396, rfl⟩
abbrev main_v278 : Ref sig .tc := ⟨.hbm, 397, rfl⟩
abbrev main_call6_v0 : Ref sig .tc := ⟨.hbm, 398, rfl⟩
abbrev main_call6_v1 : Ref sig .tc := ⟨.hbm, 399, rfl⟩
abbrev main_call6_v2 : Ref sig .tc := ⟨.hbm, 400, rfl⟩
abbrev main_call6_v3 : Ref sig .tc := ⟨.hbm, 401, rfl⟩
abbrev main_call6_v4 : Ref sig .tc := ⟨.hbm, 402, rfl⟩
abbrev main_v279 : Ref sig .tc := ⟨.hbm, 403, rfl⟩
abbrev main_v280 : Ref sig .tc := ⟨.hbm, 404, rfl⟩
abbrev main_v281 : Ref sig .tc := ⟨.hbm, 405, rfl⟩
abbrev main_v282 : Ref sig .tc := ⟨.hbm, 406, rfl⟩
abbrev main_v283 : Ref sig .tc := ⟨.hbm, 407, rfl⟩
abbrev main_cst_73 : Ref sig .tc := ⟨.hbm, 408, rfl⟩
abbrev main_cst_74 : Ref sig .tc := ⟨.hbm, 409, rfl⟩
abbrev main_call7_v0 : Ref sig .tc := ⟨.hbm, 410, rfl⟩
abbrev main_call7_v1 : Ref sig .tc := ⟨.hbm, 411, rfl⟩
abbrev main_call7_v2 : Ref sig .tc := ⟨.hbm, 412, rfl⟩
abbrev main_call7_v3 : Ref sig .tc := ⟨.hbm, 413, rfl⟩
abbrev main_call7_v4 : Ref sig .tc := ⟨.hbm, 414, rfl⟩
abbrev main_v284 : Ref sig .tc := ⟨.hbm, 415, rfl⟩

abbrev nD : Nat := 1
abbrev τ : Topo := Topo.v7x

variable {F : FTy → Type} [FloatOps F]
-- ==== Proof.RunBase.lean ====
module

public import proofs.«01_k».proof.Proof.Gen.KernelIdeal.Frame
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := k0_cond1 i = 1#1
/-- It holds at the points before point 8 — decided over the grid. -/
theorem hcond0_0 : ∀ t : Fin cfg0.N, cond0_0 (grid0.coords t) ↔ t.val < 8 :=
  (by decide +kernel : ∀ t : Fin grid0.N, cond0_0 (grid0.coords t) ↔ t.val < 8)

/-- The condition of the body's `scf.if` 1 (`k0_h2`), from the grid coordinates (the skeleton's scalar
    chain substituted). -/
abbrev cond0_1 (i : grid0.Coords) : Prop := k0_cond2 i = 1#1
/-- It holds at the points from point 8 on — decided over the grid. -/
theorem hcond0_1 : ∀ t : Fin cfg0.N, cond0_1 (grid0.coords t) ↔ 8 ≤ t.val :=
  (by decide +kernel : ∀ t : Fin grid0.N, cond0_1 (grid0.coords t) ↔ 8 ≤ t.val)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 9 is never idle (an input). -/
theorem liveAt0_9 : ∀ t : Fin cfg0.N, cfg0.idle 9 (grid0.coords t) = false := fun _ => rfl
/-- Window 10 is never idle (an input). -/
theorem liveAt0_10 : ∀ t : Fin cfg0.N, cfg0.idle 10 (grid0.coords t) = false := fun _ => rfl
/-- Window 11 is never idle (an input). -/
theorem liveAt0_11 : ∀ t : Fin cfg0.N, cfg0.idle 11 (grid0.coords t) = false := fun _ => rfl
/-- Window 12 is never idle (an input). -/
theorem liveAt0_12 : ∀ t : Fin cfg0.N, cfg0.idle 12 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S16x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S32x128x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S32x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S128x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S128x8 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S256x128 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x256 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S8x256x256 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S8x256x256 .f32 := win0_13.stage (cfg0.slots t 13)
abbrev hs0_13 (t : Fin cfg0.N) : (ms0_13 t).IsWhole := hstage0_13 ((cfg0.slots t 13).cast nbuf0_13)
/-- The scratch operands: whole scoped buffers of the kernel's own, passed beside the windows. -/
abbrev scM0_0 : Memref sig .tc .vmem S8x16x32x128 .f32 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp (MT nD τ sig Unit (Elt F) ℕ (UR sig nD τ) ℕ))
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Hand

end
-- ==== Proof.GraphDef.lean ====
module

public import proofs.«01_k».proof.Proof.Gen.KernelIdeal.Skeleton

@[expose] public section

noncomputable section

/-! What the kernel computes from its blocks, written once: one head of one graph, one whole graph. Any float type. -/

namespace Cert.KernelIdeal.Hand

open Idealize.ShloMosaic Idealize.ShloMosaic.TcCoe
open Cert.KernelIdeal.Gen

variable {F : FTy → Type} [FloatOps F]

/-- The mask of a diagonal block: zero on and above the diagonal, minus infinity below it. -/
def triMask : FVec F S128x128 .f32 :=
  select (cmpi .sle (iota .tc S128x128 32 [0] iota_S128x128_d0_w32) (iota .tc S128x128 32 [1] iota_S128x128_d1_w32))
    (broadcast S128x128 (Scalar.ofBits .f32 0x00000000#32)) (broadcast S128x128 (Scalar.ofBits .f32 0xFF800000#32))

/-- The mask of the upper half of the rows: the diagonal block's, then zeros. -/
def loMask : FVec F S128x256 .f32 :=
  concatenate S128x256 1 [⟨S128x128, triMask (F := F)⟩, ⟨S128x128, broadcast S128x128 (Scalar.ofBits .f32 0x00000000#32)⟩]
    concatenates_S128x128_S128x128_S128x256_d1

/-- The masked scores of sources 0 to 127. -/
def scoreLo (cl : FVec F S128x1 .f32) (ar : FVec F S1x256 .f32) : FVec F S128x256 .f32 :=
  have s := addf (broadcastTo S128x256 cl broadcasts_S128x1_S128x256) (broadcastTo S128x256 ar broadcasts_S1x256_S128x256)
  addf (select (cmpf .oge s (broadcast S128x256 (Scalar.ofBits .f32 0x00000000#32))) s
    (mulf (broadcast S128x256 (Scalar.ofBits .f32 0x3E4CCCCD#32)) s)) loMask

/-- The masked scores of sources 128 to 255, at targets 128 to 255. -/
def scoreHi (ch : FVec F S128x1 .f32) (ar : FVec F S1x256 .f32) : FVec F S128x128 .f32 :=
  have s := addf (broadcastTo S128x128 ch broadcasts_S128x1_S128x128)
    (broadcastTo S128x128 (extractStridedSlice S1x128 ![0, 128] ar slices_S1x256_o0_128_S1x128) broadcasts_S1x128_S128x128)
  addf (select (cmpf .oge s (broadcast S128x128 (Scalar.ofBits .f32 0x00000000#32))) s
    (mulf (broadcast S128x128 (Scalar.ofBits .f32 0x3E4CCCCD#32)) s)) triMask

/-- Each target's largest score. -/
def colMax (lo : FVec F S128x256 .f32) (hi : FVec F S128x128 .f32) : FVec F S1x256 .f32 :=
  have cl := shapeCast S1x256 (multiReduction .maximumf [0] S256 lo 0xFF800000#32 reduces_S128x256_S256 (.inl rfl) rfl) shapeCasts_S256_S1x256
  have ch := shapeCast S1x128 (multiReduction .maximumf [0] S128 hi 0xFF800000#32 reduces_S128x128_S128 (.inl rfl) rfl) shapeCasts_S128_S1x128
  concatenate S1x256 1 [⟨S1x128, extractStridedSlice S1x128 ![0, 0] cl slices_S1x256_o0_0_S1x128⟩,
    ⟨S1x128, maximumf (extractStridedSlice S1x128 ![0, 128] cl slices_S1x256_o0_128_S1x128) ch⟩] concatenates_S1x128_S1x128_S1x256_d1

/-- The features of a head with a last column of ones. -/
def withOnes (xhh : FVec F S256x32 .f32) : FVec F S256x33 .f32 :=
  concatenate S256x33 1 [⟨S256x32, xhh⟩, ⟨S256x1, broadcast S256x1 (Scalar.ofBits .f32 0x3F800000#32)⟩] concatenates_S256x32_S256x1_S256x33_d1

/-- The sums over the sources of the exponentials times the features (and times one, in the last column). -/
def headSum (lo : FVec F S128x256 .f32) (hi : FVec F S128x128 .f32) (mx : FVec F S1x256 .f32) (xo : FVec F S256x33 .f32) : FVec F S256x33 .f32 :=
  have a := matmul dot_S128x256_S128x33_S256x33_0_0_1_1_n_n (some .fp32)
    (exp (subf lo (broadcastTo S128x256 mx broadcasts_S1x256_S128x256)))
    (extractStridedSlice S128x33 ![0, 0] xo slices_S256x33_o0_0_S128x33) (constant S256x33 .f32 0x00000000#32)
  have b := matmul dot_S128x128_S128x33_S128x33_0_0_1_1_n_n (some .fp32)
    (exp (subf hi (broadcastTo S128x128 (extractStridedSlice S1x128 ![0, 128] mx slices_S1x256_o0_128_S1x128) broadcasts_S1x128_S128x128)))
    (extractStridedSlice S128x33 ![128, 0] xo slices_S256x33_o128_0_S128x33) (constant S128x33 .f32 0x00000000#32)
  addf a (concatenate S256x33 0 [⟨S128x33, broadcast S128x33 (Scalar.ofBits .f32 0x00000000#32)⟩, ⟨S128x33, b⟩] concatenates_S128x33_S128x33_S256x33_d0)

/-- The sums divided by their last column. -/
def headNorm (s : FVec F S256x33 .f32) : FVec F S256x32 .f32 :=
  mulf (extractStridedSlice S256x32 ![0, 0] s slices_S256x33_o0_0_S256x32)
    (broadcastTo S256x32 (divf (broadcast S256x1 (Scalar.ofBits .f32 0x3F800000#32))
      (addf (extractStridedSlice S256x1 ![0, 32] s slices_S256x33_o0_32_S256x1) (broadcast S256x1 (Scalar.ofBits .f32 0x24E69595#32))))
      broadcasts_S256x1_S256x32)

/-- One head of one graph. -/
def headOut (xhh : FVec F S256x32 .f32) (cl ch : FVec F S128x1 .f32) (ar : FVec F S1x256 .f32) : FVec F S256x32 .f32 :=
  have lo := scoreLo cl ar
  have hi := scoreHi ch ar
  headNorm (headSum lo hi (colMax lo hi) (withOnes xhh))

/-- The eight slices of a graph's features, one below the other. -/
def graphX (s0 s1 s2 s3 s4 s5 s6 s7 : Vec F S1x1x32x128 .f32) : FVec F S256x128 .f32 :=
  concatenate S256x128 0 [⟨S32x128, shapeCast S32x128 s0 shapeCasts_S1x1x32x128_S32x128⟩, ⟨S32x128, shapeCast S32x128 s1 shapeCasts_S1x1x32x128_S32x128⟩,
    ⟨S32x128, shapeCast S32x128 s2 shapeCasts_S1x1x32x128_S32x128⟩, ⟨S32x128, shapeCast S32x128 s3 shapeCasts_S1x1x32x128_S32x128⟩,
    ⟨S32x128, shapeCast S32x128 s4 shapeCasts_S1x1x32x128_S32x128⟩, ⟨S32x128, shapeCast S32x128 s5 shapeCasts_S1x1x32x128_S32x128⟩,
    ⟨S32x128, shapeCast S32x128 s6 shapeCasts_S1x1x32x128_S32x128⟩, ⟨S32x128, shapeCast S32x128 s7 shapeCasts_S1x1x32x128_S32x128⟩]
    concatenates_S32x128_S32x128_S32x128_S32x128_S32x128_S32x128_S32x128_S32x128_S256x128_d0

/-- The source scores and the target scores of a graph, a column for each head. -/
def scoreCols (x : FVec F S256x128 .f32) (p : Vec F S128x8 .f32) : FVec F S256x8 .f32 :=
  matmul dot_S256x128_S128x8_S256x8_1_0_0_1_n_n (some .fp32) x (shapeCast S128x8 p shapeCasts_S128x8_S128x8) (constant S256x8 .f32 0x00000000#32)

/-- The same, a row for each head. -/
def scoreRows (x : FVec F S256x128 .f32) (p : Vec F S128x8 .f32) : FVec F S8x256 .f32 :=
  matmul dot_S128x8_S256x128_S8x256_0_1_1_0_n_n (some .fp32) (shapeCast S128x8 p shapeCasts_S128x8_S128x8) x (constant S8x256 .f32 0x00000000#32)

/-- The four heads side by side. -/
def graphAgg (x : FVec F S256x128 .f32) (p : Vec F S128x8 .f32) : FVec F S256x128 .f32 :=
  have sc := scoreCols x p
  have sr := scoreRows x p
  concatenate S256x128 1
    [⟨S256x32, headOut (extractStridedSlice S256x32 ![0, 0] x slices_S256x128_o0_0_S256x32) (extractStridedSlice S128x1 ![0, 0] sc slices_S256x8_o0_0_S128x1)
        (extractStridedSlice S128x1 ![128, 0] sc slices_S256x8_o128_0_S128x1) (extractStridedSlice S1x256 ![4, 0] sr slices_S8x256_o4_0_S1x256)⟩,
     ⟨S256x32, headOut (extractStridedSlice S256x32 ![0, 32] x slices_S256x128_o0_32_S256x32) (extractStridedSlice S128x1 ![0, 1] sc slices_S256x8_o0_1_S128x1)
        (extractStridedSlice S128x1 ![128, 1] sc slices_S256x8_o128_1_S128x1) (extractStridedSlice S1x256 ![5, 0] sr slices_S8x256_o5_0_S1x256)⟩,
     ⟨S256x32, headOut (extractStridedSlice S256x32 ![0, 64] x slices_S256x128_o0_64_S256x32) (extractStridedSlice S128x1 ![0, 2] sc slices_S256x8_o0_2_S128x1)
        (extractStridedSlice S128x1 ![128, 2] sc slices_S256x8_o128_2_S128x1) (extractStridedSlice S1x256 ![6, 0] sr slices_S8x256_o6_0_S1x256)⟩,
     ⟨S256x32, headOut (extractStridedSlice S256x32 ![0, 96] x slices_S256x128_o0_96_S256x32) (extractStridedSlice S128x1 ![0, 3] sc slices_S256x8_o0_3_S128x1)
        (extractStridedSlice S128x1 ![128, 3] sc slices_S256x8_o128_3_S128x1) (extractStridedSlice S1x256 ![7, 0] sr slices_S8x256_o7_0_S1x256)⟩]
    concatenates_S256x32_S256x32_S256x32_S256x32_S256x128_d1

/-- The bias, the activation, the last layer and the noise. -/
def graphZ (a : FVec F S256x128 .f32) (gb : Vec F S1x128 .f32) (wl : Vec F S256x128 .f32) (bl : Vec F S1x256 .f32)
    (g : Vec F S1x256x256 .f32) : FVec F S256x256 .f32 :=
  have o := addf a (broadcastTo S256x128 (shapeCast S1x128 gb shapeCasts_S1x128_S1x128) broadcasts_S1x128_S256x128)
  have z := broadcast S256x128 (Scalar.ofBits (F := F) .f32 0x00000000#32)
  have e := select (cmpf .ogt o z) o (subf (exp (minimumf o z)) (broadcast S256x128 (Scalar.ofBits .f32 0x3F800000#32)))
  addf (addf (matmul dot_S256x128_S256x128_S256x256_1_1_0_0_n_n (some .fp32) e wl (constant S256x256 .f32 0x00000000#32))
    (broadcastTo S256x256 (shapeCast S1x256 bl shapeCasts_S1x256_S1x256) broadcasts_S1x256_S256x256))
    (shapeCast S256x256 g shapeCasts_S1x256x256_S256x256)

/-- One at the first of each row's largest elements, zero elsewhere. -/
def graphY (z : FVec F S256x256 .f32) : FVec F S256x256 .f32 :=
  have jj := iota .tc S256x256 32 [1] iota_S256x256_d1_w32
  have mx := broadcastTo S256x256 (shapeCast S256x1 (multiReduction .maximumf [1] S256 z 0xFF800000#32 reduces_S256x256_S256 (.inl rfl) rfl)
    shapeCasts_S256_S256x1) broadcasts_S256x1_S256x256
  have ix := multiReductionI .minsi [1] S256 (select (cmpf .oeq z mx) jj (broadcast S256x256 256#32)) 2147483647#32 reduces_S256x256_S256 rfl
  sitofp .f32 (extui 32 (cmpi .eq jj (broadcastTo S256x256 (shapeCast S256x1 ix shapeCasts_S256_S256x1) broadcasts_S256x1_S256x256)) natLt_1_32)

/-- The symmetric adjacency matrix. -/
def graphAdj (y : FVec F S256x256 .f32) : FVec F S1x256x256 .f32 :=
  shapeCast S1x256x256 (minimumf (addf y (transpose S256x256 [1, 0] y transposes_S256x256_p1_0_S256x256))
    (broadcast S256x256 (Scalar.ofBits .f32 0x3F800000#32))) shapeCasts_S256x256_S1x256x256

/-- One graph, from its features. -/
def graphOut (x : FVec F S256x128 .f32) (p : Vec F S128x8 .f32) (gb : Vec F S1x128 .f32) (wl : Vec F S256x128 .f32) (bl : Vec F S1x256 .f32)
    (g : Vec F S1x256x256 .f32) : FVec F S1x256x256 .f32 :=
  graphAdj (graphY (graphZ (graphAgg x p) gb wl bl g))

end Cert.KernelIdeal.Hand

end
-- ==== Proof.RunA.lean ====
module

public import proofs.«01_k».proof.Proof.RunBase
public import proofs.«01_k».proof.Proof.GraphDef
public import Idealize.ShloMosaic.Lib.WritesUnit
public import Idealize.ShloMosaic.Lib.ValueIdx
public import Idealize.ShloMosaic.Lib.Pipeline.Value
public import Idealize.ShloMosaic.Lib.Pipeline.ValueKit.Tiles
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open Idealize.ShloMosaic.ValueIdx (ix3)

variable {F : FTy → Type} [FloatOps F]

variable (m : (ℓ : Loc nD τ sig) → Buf (Elt F) ℓ) (ρ : Dev nD → PrngReg)

set_option maxHeartbeats 2204000 in
/-- A point of the first stage. -/
theorem runA (c : Dev nD) (i : grid0.Coords) (arg1 : Memref sig .tc .vmem S16x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S32x128x128 .f32) (harg6 : arg6.IsWhole) (arg7 : Memref sig .tc .vmem S32x128 .f32) (harg7 : arg7.IsWhole) (arg8 : Memref sig .tc .vmem S128x128 .f32) (harg8 : arg8.IsWhole) (arg9 : Memref sig .tc .vmem S128x8 .f32) (harg9 : arg9.IsWhole) (arg10 : Memref sig .tc .vmem S1x128 .f32) (harg10 : arg10.IsWhole) (arg11 : Memref sig .tc .vmem S256x128 .f32) (harg11 : arg11.IsWhole) (arg12 : Memref sig .tc .vmem S1x256 .f32) (harg12 : arg12.IsWhole) (arg13 : Memref sig .tc .vmem S8x256x256 .f32) (harg13 : arg13.IsWhole) (arg14 : Memref sig .tc .vmem S8x256x256 .f32) (harg14 : arg14.IsWhole) (arg15 : Memref sig .tc .vmem S8x16x32x128 .f32) (harg15 : arg15.IsWhole) (hc0 : cond0_0 i) (hc1 : ¬cond0_1 i) (o13 : Vec F S8x256x256 .f32) (sc : Vec F S8x16x32x128 .f32)
    (x0 : Vec F S16x128 .f32) (x1 : Vec F S128x128 .f32) (x2 : Vec F S1x128 .f32) (x3 : Vec F S128x128 .f32) (x4 : Vec F S1x128 .f32) (x5 : Vec F S32x128x128 .f32) (x6 : Vec F S32x128 .f32) (x7 : Vec F S128x128 .f32) (x8 : Vec F S128x8 .f32) (x9 : Vec F S1x128 .f32) (x10 : Vec F S256x128 .f32) (x11 : Vec F S1x256 .f32) (x12 : Vec F S8x256x256 .f32) :
      ∀ (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare o13 ∗ owns (c : Thread nD τ) arg15 fullShare sc
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare o13 ∗ (∃ d, ⌜∀ y : S8x16x32x128.Idx, (∀ (x : S1x16x32x128.Idx), (∀ a, (y a).val = k0_off1 i a + (x a).val) → d y = k0_pay1 x0 x1 x2 x3 x4 x5 x6 x7 x) ∧ ((y 0).val ≠ k0_off1 i 0 → d y = sc y)⌝ ∗ owns (c : Thread nD τ) arg15 fullShare d)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
    intro E K
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg15.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact hf13
      iexact H13
    iexists _; isplitr; swap
    · iexists _; isplitr; swap; · iexact HS0
      ipureintro; rfl
    ipureintro
    intro y
    refine ⟨fun x hx => ?_, fun hne => ?_⟩
    · refine (View.read_writes_cons_unit_of_mem _ _ _ _ _ y x rfl hx).trans (congrFun ?_ x)
      simp only [View.readAt_eq_ld, Memref.IsWhole.read_unread]
      rw [View.ld_unit_zero, View.ld_unit_zero, View.ld_unit_zero, View.ld_unit_zero, View.ld_unit_zero, View.ld_unit_zero, View.ld_unit_zero, View.ld_unit_zero] <;>
        (first | (funext a; fin_cases a <;> rfl))
    · refine (View.read_writes_cons_unit_of_not_mem _ _ _ _ _ y rfl 0 ?_).trans ?_
      · show _ ∨ k0_off1 i 0 + 1 ≤ _
        omega
      · exact congrFun (harg15.read_unread sc) y

end Cert.KernelIdeal.Hand

end
-- ==== Proof.RunB.lean ====
module

public import proofs.«01_k».proof.Proof.RunBase
public import proofs.«01_k».proof.Proof.GraphDef
public import Idealize.ShloMosaic.Lib.WritesUnit
public import Idealize.ShloMosaic.Lib.ValueIdx
public import Idealize.ShloMosaic.Lib.Pipeline.Value
public import Idealize.ShloMosaic.Lib.Pipeline.ValueKit.Tiles
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open Idealize.ShloMosaic.ValueIdx (ix3)

variable {F : FTy → Type} [FloatOps F]

variable (m : (ℓ : Loc nD τ sig) → Buf (Elt F) ℓ) (ρ : Dev nD → PrngReg)

/-- The features of graph `g` of the point, from the carried blocks. -/
def gX (i : grid0.Coords) (h : k0_cond2 i = 1#1) (sc : Vec F S8x16x32x128 .f32) (g : Fin 8) : FVec F S256x128 .f32 :=
  graphX (View.ld sc (Rect.unit (k0_off2 i (BitVec.ofNat 32 g.val)) S1x1x32x128.size (k0_off2_inb i h g)))
    (View.ld sc (Rect.unit (k0_off3 i (BitVec.ofNat 32 g.val)) S1x1x32x128.size (k0_off3_inb i h g)))
    (View.ld sc (Rect.unit (k0_off4 i (BitVec.ofNat 32 g.val)) S1x1x32x128.size (k0_off4_inb i h g)))
    (View.ld sc (Rect.unit (k0_off5 i (BitVec.ofNat 32 g.val)) S1x1x32x128.size (k0_off5_inb i h g)))
    (View.ld sc (Rect.unit (k0_off6 i (BitVec.ofNat 32 g.val)) S1x1x32x128.size (k0_off6_inb i h g)))
    (View.ld sc (Rect.unit (k0_off7 i (BitVec.ofNat 32 g.val)) S1x1x32x128.size (k0_off7_inb i h g)))
    (View.ld sc (Rect.unit (k0_off8 i (BitVec.ofNat 32 g.val)) S1x1x32x128.size (k0_off8_inb i h g)))
    (View.ld sc (Rect.unit (k0_off9 i (BitVec.ofNat 32 g.val)) S1x1x32x128.size (k0_off9_inb i h g)))

/-- Graph `g`'s part of the noise's block. -/
def gN (w : Vec F S8x256x256 .f32) (g : Fin 8) : Vec F S1x256x256 .f32 := fun x => w (ix3 g (x 1) (x 2))

/-- The block of the output a point of the second stage writes. -/
def stageB (i : grid0.Coords) (h : k0_cond2 i = 1#1) (sc : Vec F S8x16x32x128 .f32) (p : Vec F S128x8 .f32) (gb : Vec F S1x128 .f32)
    (wl : Vec F S256x128 .f32) (bl : Vec F S1x256 .f32) (w : Vec F S8x256x256 .f32) : Vec F S8x256x256 .f32 :=
  fun y => graphOut (gX i h sc (y 0)) p gb wl bl (gN w (y 0)) (ix3 0 (y 1) (y 2))

/-- A graph's part of the noise's block, as it is loaded. -/
theorem ld_gN (w : Vec F S8x256x256 .f32) (g : Fin 8) (inb : ∀ a, (![g.val, 0, 0] : Fin 3 → ℕ) a + S1x256x256.size a ≤ S8x256x256.size a) :
    View.ld w (Rect.unit (s := S8x256x256) ![g.val, 0, 0] S1x256x256.size inb) = gN w g := by
  funext x
  refine congrArg w (funext fun a => Fin.ext ?_)
  have h0 : (x 0).val = 0 := by have := (x 0).isLt; change (x 0).val < 1 at this; omega
  fin_cases a
  · show g.val + 1 * (x 0).val = g.val; omega
  · show 0 + 1 * (x 1).val = (x 1).val; omega
  · show 0 + 1 * (x 2).val = (x 2).val; omega

/-- Eight blocks of one graph each, read back. -/
theorem piece_gN (G : Fin 8 → FVec F S1x256x256 .f32) (g : Fin 8) (inb : ∀ a, (![g.val, 0, 0] : Fin 3 → ℕ) a + S1x256x256.size a ≤ S8x256x256.size a)
    (x : S1x256x256.Idx) :
    G g x = (fun y : S8x256x256.Idx => G (y 0) (ix3 0 (y 1) (y 2))) ((Rect.unit (s := S8x256x256) ![g.val, 0, 0] S1x256x256.size inb).emb x) := by
  have h0 : (x 0).val = 0 := by have := (x 0).isLt; change (x 0).val < 1 at this; omega
  have e0 : ((Rect.unit (s := S8x256x256) ![g.val, 0, 0] S1x256x256.size inb).emb x) 0 = g := Fin.ext (by show g.val + 1 * (x 0).val = g.val; omega)
  show _ = G (((Rect.unit (s := S8x256x256) ![g.val, 0, 0] S1x256x256.size inb).emb x) 0) _
  rw [e0]
  refine congrArg (G g) (funext fun a => Fin.ext ?_)
  fin_cases a
  · exact h0
  · show (x 1).val = 0 + 1 * (x 1).val; omega
  · show (x 2).val = 0 + 1 * (x 2).val; omega

set_option maxHeartbeats 4404000 in
/-- A point of the second stage. -/
theorem runB (c : Dev nD) (i : grid0.Coords) (arg1 : Memref sig .tc .vmem S16x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S32x128x128 .f32) (harg6 : arg6.IsWhole) (arg7 : Memref sig .tc .vmem S32x128 .f32) (harg7 : arg7.IsWhole) (arg8 : Memref sig .tc .vmem S128x128 .f32) (harg8 : arg8.IsWhole) (arg9 : Memref sig .tc .vmem S128x8 .f32) (harg9 : arg9.IsWhole) (arg10 : Memref sig .tc .vmem S1x128 .f32) (harg10 : arg10.IsWhole) (arg11 : Memref sig .tc .vmem S256x128 .f32) (harg11 : arg11.IsWhole) (arg12 : Memref sig .tc .vmem S1x256 .f32) (harg12 : arg12.IsWhole) (arg13 : Memref sig .tc .vmem S8x256x256 .f32) (harg13 : arg13.IsWhole) (arg14 : Memref sig .tc .vmem S8x256x256 .f32) (harg14 : arg14.IsWhole) (arg15 : Memref sig .tc .vmem S8x16x32x128 .f32) (harg15 : arg15.IsWhole) (hc0 : ¬cond0_0 i) (hc1 : cond0_1 i) (sc : Vec F S8x16x32x128 .f32)
    (x0 : Vec F S16x128 .f32) (x1 : Vec F S128x128 .f32) (x2 : Vec F S1x128 .f32) (x3 : Vec F S128x128 .f32) (x4 : Vec F S1x128 .f32) (x5 : Vec F S32x128x128 .f32) (x6 : Vec F S32x128 .f32) (x7 : Vec F S128x128 .f32) (x8 : Vec F S128x8 .f32) (x9 : Vec F S1x128 .f32) (x10 : Vec F S256x128 .f32) (x11 : Vec F S1x256 .f32) (x12 : Vec F S8x256x256 .f32) :
      ∀ (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ owns (c : Thread nD τ) arg15 fullShare sc
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare (stageB i hc1 sc x8 x9 x10 x11 x12) ∗ owns (c : Thread nD τ) arg15 fullShare sc) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
    intro E K
    simp only [cc0__fused_kernel_eq_skeleton]; unfold cc0__fused_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg15.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitr [HS0]; swap
    · iexists _; isplitr; · ipureintro; exact harg15.read_unread _
      iexact HS0
    iexists _; isplitr; swap; · iexact H13
    ipureintro
    refine (View.read_writes_eq_canon _ _ _ ?_).trans (funext fun y => View.canon_apply_of_pieces _ _ ?_ y ?_)
    · intro y
      exact View.cover_of_tiled_head _ _ _ rfl y
    · have key : ∀ (g : Fin 8) (inb : ∀ a, (![g.val, 0, 0] : Fin 3 → ℕ) a + S1x256x256.size a ≤ S8x256x256.size a)
          (w : FVec F S1x256x256 .f32)
          (_ : w = graphOut (gX i hc1 (View.read (Elt F) arg15.view (harg15.unread sc)) g) (View.ld (View.read (Elt F) arg9.view (harg9.unread x8)) (Rect.unit (s := S128x8) ![0, 0] S128x8.size inb_S128x8_S128x8_0_0)) (View.ld (View.read (Elt F) arg10.view (harg10.unread x9)) (Rect.unit (s := S1x128) ![0, 0] S1x128.size inb_S1x128_S1x128_0_0)) (View.ld (View.read (Elt F) arg11.view (harg11.unread x10)) (Rect.unit (s := S256x128) ![0, 0] S256x128.size inb_S256x128_S256x128_0_0)) (View.ld (View.read (Elt F) arg12.view (harg12.unread x11)) (Rect.unit (s := S1x256) ![0, 0] S1x256.size inb_S1x256_S1x256_0_0)) (View.ld (View.read (Elt F) arg13.view (harg13.unread x12)) (Rect.unit (s := S8x256x256) ![g.val, 0, 0] S1x256x256.size inb)))
          (x : S1x256x256.Idx), w x = stageB i hc1 sc x8 x9 x10 x11 x12 ((Rect.unit (s := S8x256x256) ![g.val, 0, 0] S1x256x256.size inb).emb x) := by
        intro g inb w hw x
        rw [hw]
        simp only [Memref.IsWhole.read_unread]
        have z2 : (![0, 0] : Fin 2 → ℕ) = fun _ => 0 := by funext a; fin_cases a <;> rfl
        rw [View.ld_unit_zero z2, View.ld_unit_zero z2, View.ld_unit_zero z2, View.ld_unit_zero z2, ld_gN]
        exact piece_gN (fun g => graphOut (gX i hc1 sc g) x8 x9 x10 x11 (gN x12 g)) g inb x
      simp only [List.forall_mem_cons, List.not_mem_nil, false_imp_iff, implies_true, _root_.and_true]
      exact ⟨key 7 inb_S8x256x256_S1x256x256_7_0_0 _ rfl, key 6 inb_S8x256x256_S1x256x256_6_0_0 _ rfl, key 5 inb_S8x256x256_S1x256x256_5_0_0 _ rfl, key 4 inb_S8x256x256_S1x256x256_4_0_0 _ rfl, key 3 inb_S8x256x256_S1x256x256_3_0_0 _ rfl, key 2 inb_S8x256x256_S1x256x256_2_0_0 _ rfl, key 1 inb_S8x256x256_S1x256x256_1_0_0 _ rfl, key 0 inb_S8x256x256_S1x256x256_0_0_0 _ rfl⟩
    · exact View.cover_of_tiled_head _ _ _ rfl y

end Cert.KernelIdeal.Hand

end
-- ==== Proof.KRun.lean ====
module

public import proofs.«01_k».proof.Proof.RunA
public import proofs.«01_k».proof.Proof.RunB
public import proofs.«01_k».proof.Proof.GraphDef
public import Idealize.ShloMosaic.Lib.WritesUnit
public import Idealize.ShloMosaic.Lib.ValueIdx
public import Idealize.ShloMosaic.Lib.Pipeline.Value
public import Idealize.ShloMosaic.Lib.Pipeline.ValueKit.Tiles
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal.Gen
open Idealize.ShloMosaic.ValueIdx (ix3 ix4)

variable {F : FTy → Type} [FloatOps F]

variable (m : (ℓ : Loc nD τ sig) → Buf (Elt F) ℓ) (ρ : Dev nD → PrngReg)

/-! The launch of the kernel, with what each buffer holds: the carried features and the blocks of the output. -/

/-- The features a point of the first stage computes. -/
def blkA (c : Dev nD) (t : Fin cfg0.N) : FVec F S1x16x32x128 .f32 :=
  k0_pay1 (iblk m c 0 t) (iblk m c 1 t) (iblk m c 2 t) (iblk m c 3 t) (iblk m c 4 t) (iblk m c 5 t) (iblk m c 6 t) (iblk m c 7 t)

/-- The point that computes a block of the features. -/
def ptA (k : Fin 8) : Fin cfg0.N := ⟨k.val, by rw [show cfg0.N = 10 from N_0]; omega⟩

/-- The features after the first stage. -/
def feats (c : Dev nD) : Vec F S8x16x32x128 .f32 := fun y => blkA m c (ptA (y 0)) (ix4 0 (y 1) (y 2) (y 3))

/-- What the carried buffer holds before point `n`: the blocks already computed. -/
def Inv (c : Dev nD) (n : ℕ) (d : Vec F S8x16x32x128 .f32) : Prop := ∀ y : S8x16x32x128.Idx, (y 0).val < n → d y = feats m c y

/-- From point 8 on every block is there. -/
theorem Inv.eq {c : Dev nD} {n : ℕ} {d : Vec F S8x16x32x128 .f32} (h : Inv m c n d) (hn : 8 ≤ n) : d = feats m c :=
  funext fun y => h y (lt_of_lt_of_le (y 0).isLt hn)

/-- The block of the output after a point. -/
def outB (c : Dev nD) (t : Fin cfg0.N) : Vec F S8x256x256 .f32 :=
  if h : 8 ≤ t.val then
    stageB (grid0.coords t) ((hcond0_1 t).mpr h) (feats m c) (iblk m c 8 t) (iblk m c 9 t) (iblk m c 10 t) (iblk m c 11 t) (iblk m c 12 t)
  else fun _ => Scalar.ofBits .f32 0x00000000#32

/-- The proof data of the launch. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => outB m c t
  Φ t := iprop((∃ d, ⌜Inv m c t.val d⌝ ∗ owns (c : Thread nD τ) scM0_0 fullShare d) ∗ (∃ r, prngReg c r))
  q _ := fullShare
  owed _ := 0

/-- The arrays are as the launch finds them. -/
theorem A_eq (c : Dev nD) (w : Fin cfg0.W) : (dats m 0 c).A w = V m c (Pipeline.arrRef spec0 w) := by
  dsimp only [dats]

/-! What the body leaves and finds, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = outB m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d

/-- What the body is called with at a point. -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d)))

/-- What it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t)

/-- The output's window is idle in the first stage, and is not written back there. -/
theorem idle13 : ∀ t : Fin cfg0.N, t.val < 8 → cfg0.idle 13 (grid0.coords t) = true ∧ (cfg0.win 13).flush t = false :=
  (by decide +kernel : ∀ t : Fin grid0.N, t.val < 8 → cfg0.idle 13 (grid0.coords t) = true ∧ (cfg0.win 13).flush t = false)

/-- In the second stage it is not idle. -/
theorem live13 : ∀ t : Fin cfg0.N, 8 ≤ t.val → cfg0.idle 13 (grid0.coords t) = false :=
  (by decide +kernel : ∀ t : Fin grid0.N, 8 ≤ t.val → cfg0.idle 13 (grid0.coords t) = false)

/-- The block of the features a point of the first stage stores is its own. -/
theorem off1 : ∀ t : Fin cfg0.N, t.val < 8 → k0_off1 (grid0.coords t) = ![t.val, 0, 0, 0] :=
  (by decide +kernel : ∀ t : Fin grid0.N, t.val < 8 → k0_off1 (grid0.coords t) = ![t.val, 0, 0, 0])

/-- One more block of the features. -/
theorem Inv.step {c : Dev nD} {t : Fin cfg0.N} (ht : t.val < 8) {sc d : Vec F S8x16x32x128 .f32} (h : Inv m c t.val sc)
    (hd : ∀ y : S8x16x32x128.Idx, (∀ (x : S1x16x32x128.Idx), (∀ a, (y a).val = k0_off1 (grid0.coords t) a + (x a).val) → d y = blkA m c t x)
      ∧ ((y 0).val ≠ k0_off1 (grid0.coords t) 0 → d y = sc y)) : Inv m c (t.val + 1) d := by
  intro y hy
  obtain ⟨h1, h2⟩ := hd y
  rw [off1 t ht] at h1 h2
  by_cases e : (y 0).val = t.val
  · have et : ptA (y 0) = t := Fin.ext e
    refine (h1 (ix4 0 (y 1) (y 2) (y 3)) fun a => ?_).trans ?_
    · fin_cases a
      · exact e
      · exact (Nat.zero_add _).symm
      · exact (Nat.zero_add _).symm
      · exact (Nat.zero_add _).symm
    · show _ = blkA m c (ptA (y 0)) _
      rw [et]
  · exact (h2 e).trans (h y (by omega))

set_option maxHeartbeats 2400000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12]
  rw [show (dats m 0 c).owesAt () t.succ = (dats m 0 c).owesAt () t.castSucc from rfl,
    show (dats m 0 c).Φ t.castSucc = iprop((∃ d, ⌜Inv m c t.val d⌝ ∗ owns (c : Thread nD τ) scM0_0 fullShare d) ∗ (∃ r, prngReg c r)) from rfl,
    show (dats m 0 c).Φ t.succ = iprop((∃ d, ⌜Inv m c (t.val + 1) d⌝ ∗ owns (c : Thread nD τ) scM0_0 fullShare d) ∗ (∃ r, prngReg c r)) from rfl]
  rw [show (dats m 0 c).leavesExact 0 t = owns (c : Thread nD τ) (ms0_0 t) fullShare ((dats m 0 c).after 0 t) from by
      unfold Dat.leavesExact; rw [liveAt0_0 t], after0_0]
  rw [show (dats m 0 c).leavesExact 1 t = owns (c : Thread nD τ) (ms0_1 t) fullShare ((dats m 0 c).after 1 t) from by
      unfold Dat.leavesExact; rw [liveAt0_1 t], after0_1]
  rw [show (dats m 0 c).leavesExact 2 t = owns (c : Thread nD τ) (ms0_2 t) fullShare ((dats m 0 c).after 2 t) from by
      unfold Dat.leavesExact; rw [liveAt0_2 t], after0_2]
  rw [show (dats m 0 c).leavesExact 3 t = owns (c : Thread nD τ) (ms0_3 t) fullShare ((dats m 0 c).after 3 t) from by
      unfold Dat.leavesExact; rw [liveAt0_3 t], after0_3]
  rw [show (dats m 0 c).leavesExact 4 t = owns (c : Thread nD τ) (ms0_4 t) fullShare ((dats m 0 c).after 4 t) from by
      unfold Dat.leavesExact; rw [liveAt0_4 t], after0_4]
  rw [show (dats m 0 c).leavesExact 5 t = owns (c : Thread nD τ) (ms0_5 t) fullShare ((dats m 0 c).after 5 t) from by
      unfold Dat.leavesExact; rw [liveAt0_5 t], after0_5]
  rw [show (dats m 0 c).leavesExact 6 t = owns (c : Thread nD τ) (ms0_6 t) fullShare ((dats m 0 c).after 6 t) from by
      unfold Dat.leavesExact; rw [liveAt0_6 t], after0_6]
  rw [show (dats m 0 c).leavesExact 7 t = owns (c : Thread nD τ) (ms0_7 t) fullShare ((dats m 0 c).after 7 t) from by
      unfold Dat.leavesExact; rw [liveAt0_7 t], after0_7]
  rw [show (dats m 0 c).leavesExact 8 t = owns (c : Thread nD τ) (ms0_8 t) fullShare ((dats m 0 c).after 8 t) from by
      unfold Dat.leavesExact; rw [liveAt0_8 t], after0_8]
  rw [show (dats m 0 c).leavesExact 9 t = owns (c : Thread nD τ) (ms0_9 t) fullShare ((dats m 0 c).after 9 t) from by
      unfold Dat.leavesExact; rw [liveAt0_9 t], after0_9]
  rw [show (dats m 0 c).leavesExact 10 t = owns (c : Thread nD τ) (ms0_10 t) fullShare ((dats m 0 c).after 10 t) from by
      unfold Dat.leavesExact; rw [liveAt0_10 t], after0_10]
  rw [show (dats m 0 c).leavesExact 11 t = owns (c : Thread nD τ) (ms0_11 t) fullShare ((dats m 0 c).after 11 t) from by
      unfold Dat.leavesExact; rw [liveAt0_11 t], after0_11]
  rw [show (dats m 0 c).leavesExact 12 t = owns (c : Thread nD τ) (ms0_12 t) fullShare ((dats m 0 c).after 12 t) from by
      unfold Dat.leavesExact; rw [liveAt0_12 t], after0_12]
  have hN : t.val < 10 := lt_of_lt_of_eq t.isLt (show cfg0.N = 10 from N_0)
  by_cases h0 : t.val < 8
  · have h1 : ¬ 8 ≤ t.val := by omega
    rw [(dats m 0 c).leavesExact_idle 13 t (idle13 t h0).1 (idle13 t h0).2]
    iintro ⟨⟨⟨%sc, %hsc, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply ((runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole cc0_scratch0) ((hcond0_0 t).mpr h0) (fun h => h1 ((hcond0_1 t).mp h)) _ sc (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [HS0]; · iexact HS0
    iintro ⟨H0, H1, H2, H3, H4, H5, H6, H7, H8, H9, H10, H11, H12, H13, ⟨%d, %hd, HS0⟩⟩
    isplitl [HS0 Hg]
    · isplitl [HS0]
      · iexists d
        isplitr
        · ipureintro; exact hsc.step m h0 hd
        iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexists d13
    iexact H13
  · have h1 : 8 ≤ t.val := by omega
    rw [show (dats m 0 c).leavesExact 13 t = owns (c : Thread nD τ) (ms0_13 t) fullShare ((dats m 0 c).after 13 t) from by
      unfold Dat.leavesExact; rw [live13 t h1], after0_13]
    iintro ⟨⟨⟨%sc, %hsc, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    obtain rfl := hsc.eq m h1
    iapply ((runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole cc0_scratch0) (fun h => h0 ((hcond0_0 t).mp h)) ((hcond0_1 t).mpr h1) (feats m c) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [HS0]; · iexact HS0
    iintro ⟨H0, H1, H2, H3, H4, H5, H6, H7, H8, H9, H10, H11, H12, H13, HS0⟩
    isplitl [HS0 Hg]
    · isplitl [HS0]
      · iexists feats m c
        isplitr
        · ipureintro; exact fun _ _ => rfl
        iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    unfold outB
    rw [dif_pos h1]
    iexact H13

/-- The body table's row at a point. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: every array ends at its final contents, every other buffer as the launch found it, every counter at zero. -/
theorem run_main : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => by
      rw [PhiA0_eq]
      show _ ⊢ iprop((∃ d, ⌜Inv m c 0 d⌝ ∗ owns (c : Thread nD τ) scM0_0 fullShare d) ∗ (∃ r, prngReg c r))
      iintro ⟨⟨%d, H⟩, Hg⟩
      isplitl [H]
      · iexists d
        isplitr
        · ipureintro; exact fun y hy => absurd hy (Nat.not_lt_zero _)
        iexact H
      iexact Hg)
    (hout := fun c => by
      rw [PhiA0_eq]
      show iprop((∃ d, ⌜Inv m c _ d⌝ ∗ owns (c : Thread nD τ) scM0_0 fullShare d) ∗ (∃ r, prngReg c r)) ⊢ _
      iintro ⟨⟨%d, -, H⟩, Hg⟩
      isplitl [H]
      · iexists d
        iexact H
      iexact Hg)

end Cert.KernelIdeal.Hand

end
-- ==== Proof.KFrame.lean ====
module

public import proofs.«01_k».proof.Proof.KRun

@[expose] public section

set_option maxRecDepth 16384

noncomputable section

/-! The kernel leaves its arguments as they were and every counter at zero, whatever its floats are. -/

namespace Cert.KernelIdeal.Hand

open Cert.KernelIdeal Cert.KernelIdeal.Gen Idealize.ShloMosaic Idealize.ShloMosaic.TcCoe Idealize.SL.Sem

variable {F : FTy → Type} [FloatOps F] (m : (ℓ : Loc nD τ sig) → Buf (Elt F) ℓ) (ρ : Dev nD → PrngReg)

/-- Every argument ends as it was launched. -/
theorem args_kept (r : Unit × MemSt nD τ sig (Elt F)) (h : Pipeline.FramePost cfgs (dats m) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  ⟨((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).2 main_arg2 (Pipeline.mem_restRefs_of main_arg2 (by decide) (by decide))).trans (V_main_arg2 m c),
    ((h c).1 3).trans (((dats m 0 c).arrAt_in 3 rfl _).trans ((A_eq m c 3).trans (V_main_arg3 m c))),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).1 7).trans (((dats m 0 c).arrAt_in 7 rfl _).trans ((A_eq m c 7).trans (V_main_arg7 m c))),
    ((h c).2 main_arg8 (Pipeline.mem_restRefs_of main_arg8 (by decide) (by decide))).trans (V_main_arg8 m c),
    ((h c).2 main_arg9 (Pipeline.mem_restRefs_of main_arg9 (by decide) (by decide))).trans (V_main_arg9 m c),
    ((h c).2 main_arg10 (Pipeline.mem_restRefs_of main_arg10 (by decide) (by decide))).trans (V_main_arg10 m c),
    ((h c).1 10).trans (((dats m 0 c).arrAt_in 10 rfl _).trans ((A_eq m c 10).trans (V_main_arg11 m c))),
    ((h c).2 main_arg12 (Pipeline.mem_restRefs_of main_arg12 (by decide) (by decide))).trans (V_main_arg12 m c)⟩

/-- The arguments unchanged and the counters at zero. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  (θ_run defs _ _).mono (fun r h => ⟨fun c => args_kept m r h.1 c, h.2⟩) (run_main m ρ)

end Cert.KernelIdeal.Hand

end
-- ==== Proof.Ssa.lean ====
module

public import Idealize.ShloMosaic.Lib.StableHlo.Run

@[expose] public section

noncomputable section

/-! Straight lines in which every operation writes the next buffer: the contents at the end are a fixed point of every operation. -/

namespace Cert.Ssa

open Idealize.ShloMosaic Idealize.ShloMosaic.TcCoe Idealize.ShloMosaic.StableHlo

variable {τ : Topo} {sig : RefSig} {Val : EltTy → Type}

/-- The buffer is one of the first `n` tensor values. -/
def Below (n : ℕ) (b : DevRef τ sig) : Prop := ∃ r : Ref sig .tc, b = Proc.devRef .tc r ∧ r.space = .hbm ∧ r.idx.val < n

/-- The operation writes tensor value `n` alone, from the values before it. -/
def Step (n : ℕ) (op : HloOp τ sig Val) : Prop :=
  (∀ b ∈ op.writes, ∃ r : Ref sig .tc, b = Proc.devRef .tc r ∧ r.space = .hbm ∧ r.idx.val = n)
  ∧ (∀ V V' : Valuation τ sig Val, (∀ b, Below n b → V b = V' b) → ∀ b ∈ op.writes, op.result V b = op.result V' b)
  ∧ op.bufs ⊆ tcRefs τ sig ∧ op.fresh = ∅

/-- The operations write the values from `n` on, one each, in order. -/
def Line : ℕ → List (HloOp τ sig Val) → Prop
  | _, [] => True
  | n, op :: ops => Step n op ∧ Line (n + 1) ops

theorem Below.mono {n k : ℕ} (h : n ≤ k) {b : DevRef τ sig} : Below n b → Below k b := fun ⟨r, e, s, l⟩ => ⟨r, e, s, lt_of_lt_of_le l h⟩

/-- A value before the one written is not written. -/
theorem Step.keep {n : ℕ} {op : HloOp τ sig Val} (h : Step n op) {b : DevRef τ sig} (hb : Below n b) : b ∉ op.writes := by
  intro hw
  obtain ⟨r, rfl, hs, hr⟩ := h.1 b hw
  obtain ⟨r', e, hs', hr'⟩ := hb
  by_cases he : r = r'
  · subst he; omega
  · exact devRef_ne_of_ne he e

/-- The line leaves the values before it. -/
theorem Line.keep {ops : List (HloOp τ sig Val)} : ∀ {n : ℕ} (_ : Line n ops) (V : Valuation τ sig Val) {b : DevRef τ sig}, Below n b → after ops V b = V b := by
  induction ops with
  | nil => intro n _ V b _; rfl
  | cons op ops ih =>
    intro n h V b hb
    exact (ih h.2 _ (hb.mono (Nat.le_succ n))).trans (op.result_of_not_mem _ (h.1.keep hb))

/-- The contents after the line are a fixed point of each of its operations. -/
theorem Line.fix {ops : List (HloOp τ sig Val)} : ∀ {n : ℕ} (_ : Line n ops) (V : Valuation τ sig Val), ∀ op ∈ ops, op.result (after ops V) = after ops V := by
  induction ops with
  | nil => intro n _ V op h; exact absurd h List.not_mem_nil
  | cons op ops ih =>
    intro n h V op' hm
    rcases List.mem_cons.mp hm with rfl | hm
    · funext b
      by_cases hb : b ∈ op'.writes
      · have h0 : after ops (op'.result V) b = op'.result V b := by
          obtain ⟨r, e, hs, hr⟩ := h.1.1 b hb
          exact h.2.keep _ ⟨r, e, hs, by omega⟩
        show op'.result (after ops (op'.result V)) b = after ops (op'.result V) b
        rw [h0]
        exact h.1.2.1 _ _ (fun b' hb' => (h.2.keep _ (hb'.mono (Nat.le_succ n))).trans (op'.result_of_not_mem _ (h.1.keep hb'))) b hb
      · exact op'.result_of_not_mem _ hb
    · exact ih h.2 _ op' hm

/-- And of any of them run in a row. -/
theorem Line.fixAll {ops : List (HloOp τ sig Val)} {n : ℕ} (h : Line n ops) (V : Valuation τ sig Val) (c : List (HloOp τ sig Val)) (hc : c ⊆ ops) :
    after c (after ops V) = after ops V := by
  induction c with
  | nil => rfl
  | cons op c ih =>
    rw [after_cons, h.fix V op (hc List.mem_cons_self)]
    exact ih fun o ho => hc (List.mem_cons_of_mem _ ho)

/-- In particular of a stretch of the line. -/
theorem Line.fixAt {ops : List (HloOp τ sig Val)} {n : ℕ} (h : Line n ops) (V : Valuation τ sig Val) (i k : ℕ) :
    after ((ops.drop i).take k) (after ops V) = after ops V :=
  h.fixAll V _ fun _ ho => List.mem_of_mem_drop (List.mem_of_mem_take ho)

/-! ## The kinds of operations -/

section Kinds

variable {x a b c e y : Ref sig .tc} {n : ℕ} {ops : List (HloOp τ sig Val)}

/-- A reference to tensor value `n`. -/
def At (n : ℕ) (y : Ref sig .tc) : Prop := y.space = .hbm ∧ y.idx.val = n

/-- A reference to a value before `n`. -/
def Lt (n : ℕ) (y : Ref sig .tc) : Prop := y.space = .hbm ∧ y.idx.val < n

theorem Lt.below (h : Lt n x) : Below n (Proc.devRef .tc x : DevRef τ sig) := ⟨x, rfl, h.1, h.2⟩

theorem step_of {op : HloOp τ sig Val} (hw : op.writes = {Proc.devRef .tc y}) (hy : At n y) (hs : op.bufs ⊆ tcRefs τ sig) (hf : op.fresh = ∅)
    (h : ∀ V V' : Valuation τ sig Val, (∀ b, Below n b → V b = V' b) → op.result V (Proc.devRef .tc y) = op.result V' (Proc.devRef .tc y)) : Step n op := by
  refine ⟨fun b hb => ?_, fun V V' hV b hb => ?_, hs, hf⟩ <;> rw [hw, Finset.mem_singleton] at hb <;> subst hb
  · exact ⟨y, rfl, hy⟩
  · exact h V V' hV

theorem line_nullary (v : y.ty.Contents Val) (hy) (h : At n y) (hl : Line (n + 1) ops) : Line n (nullary (τ := τ) y v hy :: ops) :=
  ⟨step_of (nullary_writes ..) h (nullary_bufs_sub ..) rfl fun V V' hV => by rw [nullary_result', nullary_result'], hl⟩

theorem line_unary (f : x.ty.Contents Val → y.ty.Contents Val) (hx hy) (h : At n y) (h1 : Lt n x) (hl : Line (n + 1) ops) :
    Line n (unary (τ := τ) x y f hx hy :: ops) :=
  ⟨step_of (unary_writes ..) h (unary_bufs_sub ..) rfl fun V V' hV => by rw [unary_result', unary_result', hV _ h1.below], hl⟩

theorem line_binary (f : a.ty.Contents Val → b.ty.Contents Val → y.ty.Contents Val) (ha hb hy) (h : At n y) (h1 : Lt n a) (h2 : Lt n b) (hl : Line (n + 1) ops) :
    Line n (binary (τ := τ) a b y f ha hb hy :: ops) :=
  ⟨step_of (binary_writes ..) h (binary_bufs_sub ..) rfl fun V V' hV => by rw [binary_result', binary_result', hV _ h1.below, hV _ h2.below], hl⟩

theorem line_ternary (f : c.ty.Contents Val → a.ty.Contents Val → b.ty.Contents Val → y.ty.Contents Val) (hc ha hb hy)
    (h : At n y) (h0 : Lt n c) (h1 : Lt n a) (h2 : Lt n b) (hl : Line (n + 1) ops) : Line n (ternary (τ := τ) c a b y f hc ha hb hy :: ops) :=
  ⟨step_of (ternary_writes ..) h (ternary_bufs_sub ..) rfl fun V V' hV => by rw [ternary_result', ternary_result', hV _ h0.below, hV _ h1.below, hV _ h2.below], hl⟩

theorem line_quaternary (f : a.ty.Contents Val → b.ty.Contents Val → c.ty.Contents Val → e.ty.Contents Val → y.ty.Contents Val) (ha hb hc he hy)
    (h : At n y) (h0 : Lt n a) (h1 : Lt n b) (h2 : Lt n c) (h3 : Lt n e) (hl : Line (n + 1) ops) :
    Line n (quaternary (τ := τ) a b c e y f ha hb hc he hy :: ops) :=
  ⟨step_of (quaternary_writes ..) h (quaternary_bufs_sub ..) rfl fun V V' hV => by
    rw [quaternary_result', quaternary_result', hV _ h0.below, hV _ h1.below, hV _ h2.below, hV _ h3.below], hl⟩

theorem line_reshape (he hn hx hy) (h : At n y) (h1 : Lt n x) (hl : Line (n + 1) ops) :
    Line n (reshape (τ := τ) (Val := Val) x y he hn hx hy :: ops) :=
  ⟨step_of (reshape_writes ..) h (reshape_bufs_sub ..) rfl fun V V' hV => by rw [reshape_result', reshape_result', hV _ h1.below], hl⟩

/-! ## What an operation leaves, at the end of the line -/

theorem Line.nullary (h : Line n ops) (V : Valuation τ sig Val) (k : ℕ) {v : y.ty.Contents Val} {hy} (hk : ops[k]? = some (StableHlo.nullary (τ := τ) y v hy)) :
    after ops V (Proc.devRef .tc y) = v := by
  rw [← h.fix V _ (List.mem_of_getElem? hk), nullary_result']

theorem Line.unary (h : Line n ops) (V : Valuation τ sig Val) (k : ℕ) {f : x.ty.Contents Val → y.ty.Contents Val} {hx hy}
    (hk : ops[k]? = some (StableHlo.unary (τ := τ) x y f hx hy)) :
    after ops V (Proc.devRef .tc y) = f (after ops V (Proc.devRef .tc x)) :=
  (congrFun (h.fix V _ (List.mem_of_getElem? hk)) _).symm.trans (unary_result' ..)

theorem Line.binary (h : Line n ops) (V : Valuation τ sig Val) (k : ℕ) {f : a.ty.Contents Val → b.ty.Contents Val → y.ty.Contents Val} {ha hb hy}
    (hk : ops[k]? = some (StableHlo.binary (τ := τ) a b y f ha hb hy)) :
    after ops V (Proc.devRef .tc y) = f (after ops V (Proc.devRef .tc a)) (after ops V (Proc.devRef .tc b)) :=
  (congrFun (h.fix V _ (List.mem_of_getElem? hk)) _).symm.trans (binary_result' ..)

theorem Line.ternary (h : Line n ops) (V : Valuation τ sig Val) (k : ℕ) {f : c.ty.Contents Val → a.ty.Contents Val → b.ty.Contents Val → y.ty.Contents Val}
    {hc ha hb hy} (hk : ops[k]? = some (StableHlo.ternary (τ := τ) c a b y f hc ha hb hy)) :
    after ops V (Proc.devRef .tc y) = f (after ops V (Proc.devRef .tc c)) (after ops V (Proc.devRef .tc a)) (after ops V (Proc.devRef .tc b)) :=
  (congrFun (h.fix V _ (List.mem_of_getElem? hk)) _).symm.trans (ternary_result' ..)

theorem Line.quaternary (h : Line n ops) (V : Valuation τ sig Val) (k : ℕ)
    {f : a.ty.Contents Val → b.ty.Contents Val → c.ty.Contents Val → e.ty.Contents Val → y.ty.Contents Val} {ha hb hc he hy}
    (hk : ops[k]? = some (StableHlo.quaternary (τ := τ) a b c e y f ha hb hc he hy)) :
    after ops V (Proc.devRef .tc y) = f (after ops V (Proc.devRef .tc a)) (after ops V (Proc.devRef .tc b)) (after ops V (Proc.devRef .tc c)) (after ops V (Proc.devRef .tc e)) :=
  (congrFun (h.fix V _ (List.mem_of_getElem? hk)) _).symm.trans (quaternary_result' ..)

theorem Line.reshape (h : Line n ops) (V : Valuation τ sig Val) (k : ℕ) {he hn hx hy}
    (hk : ops[k]? = some (StableHlo.reshape (τ := τ) (Val := Val) x y he hn hx hy)) :
    after ops V (Proc.devRef .tc y) = fun i => he ▸ shapeCast y.ty.shape (after ops V (Proc.devRef .tc x)) hn i :=
  (congrFun (h.fix V _ (List.mem_of_getElem? hk)) _).symm.trans (reshape_result' ..)

/-- The operations touch the tensor values alone. -/
theorem Line.sub : ∀ {ops : List (HloOp τ sig Val)} {n : ℕ}, Line n ops → ops.Forall fun op => op.bufs ⊆ tcRefs τ sig
  | [], _, _ => trivial
  | _ :: _, _, h => List.forall_cons _ _ _ |>.mpr ⟨h.1.2.2.1, Line.sub h.2⟩

/-- No operation names a buffer that does not exist yet. -/
theorem Line.fresh : ∀ {ops : List (HloOp τ sig Val)} {n : ℕ}, Line n ops → ∀ op ∈ ops, op.fresh = ∅
  | [], _, _ => fun _ h => absurd h List.not_mem_nil
  | _ :: _, _, h => fun op hm => (List.mem_cons.mp hm).elim (fun e => e ▸ h.1.2.2.2) (Line.fresh h.2 op)

/-- Two lines one after the other. -/
theorem Line.append {l₁ l₂ : List (HloOp τ sig Val)} : ∀ {n : ℕ}, Line n l₁ → Line (n + l₁.length) l₂ → Line n (l₁ ++ l₂) := by
  induction l₁ with
  | nil => intro n _ h; exact h
  | cons op l ih =>
    intro n h h'
    refine ⟨h.1, ih h.2 ?_⟩
    rw [List.length_cons, Nat.add_comm l.length 1, ← Nat.add_assoc] at h'
    exact h'

end Kinds

end Cert.Ssa

end
-- ==== Proof.KLine.lean ====
module

public import proofs.«01_k».proof.Proof.Ssa
public import proofs.«01_k».proof.Proof.Gen.KernelIdeal.Launch

@[expose] public section

set_option maxRecDepth 16384

noncomputable section

/-! The host operations before the kernel's launch, as one line. -/

namespace Cert.KernelIdeal.Hand

open Cert.KernelIdeal Cert.KernelIdeal.Gen Cert.Ssa Idealize.ShloMosaic Idealize.ShloMosaic.TcCoe Idealize.ShloMosaic.StableHlo

variable {F : FTy → Type} [FloatOps F]

set_option maxHeartbeats 4000000 in
/-- Each host operation writes the next tensor value. -/
theorem hostLine : Line 13 (hostOps0 : List (HloOp τ sig (Elt F))) := by
  unfold hostOps0
  repeat first
    | exact trivial
    | (with_reducible refine line_binary _ _ _ _ ?_ ?_ ?_ ?_); (· exact ⟨rfl, rfl⟩); (· exact ⟨rfl, by decide⟩); (· exact ⟨rfl, by decide⟩)
    | (with_reducible refine line_unary _ _ _ ?_ ?_ ?_); (· exact ⟨rfl, rfl⟩); (· exact ⟨rfl, by decide⟩)
    | (with_reducible refine line_nullary _ _ ?_ ?_); (· exact ⟨rfl, rfl⟩)
    | (with_reducible refine line_reshape _ _ _ _ ?_ ?_ ?_); (· exact ⟨rfl, rfl⟩); (· exact ⟨rfl, by decide⟩)

/-- The host operations, under a name of their own. -/
def hops : List (HloOp τ sig (Elt F)) := hostOps0

/-- The same, of the named list. -/
theorem hopsLine : Line 13 (hops : List (HloOp τ sig (Elt F))) := hostLine

end Cert.KernelIdeal.Hand

end
-- ==== Proof.Spec.lean ====
module

public import Idealize.ShloMosaic.PureOps.Ideal.Laws
public import Idealize.ShloMosaic.Lib.IdealHost

@[expose] public section

noncomputable section

/-! The mathematics of the two programs, on functions of coordinates: the layers, the attention of one graph, the
first largest element of a row. No program is mentioned here. -/

namespace Cert.Spec

open Idealize.ShloMosaic

/-! ## Real values among the extended reals -/

/-- The value is a real number. -/
def IsR (x : EReal) : Prop := ∃ r : ℝ, x = r

theorem IsR.add {x y : EReal} : IsR x → IsR y → IsR (x + y)
  | ⟨a, ha⟩, ⟨b, hb⟩ => ⟨a + b, by rw [ha, hb, EReal.coe_add]⟩

theorem IsR.sub {x y : EReal} : IsR x → IsR y → IsR (x - y)
  | ⟨a, ha⟩, ⟨b, hb⟩ => ⟨a - b, by rw [ha, hb, EReal.coe_sub]⟩

theorem IsR.mul {x y : EReal} : IsR x → IsR y → IsR (x * y)
  | ⟨a, ha⟩, ⟨b, hb⟩ => ⟨a * b, by rw [ha, hb, EReal.coe_mul]⟩

theorem IsR.max {x y : EReal} (hx : IsR x) (hy : IsR y) : IsR (max x y) := by
  rcases max_choice x y with h | h <;> rw [h] <;> assumption

theorem IsR.zero : IsR 0 := ⟨0, rfl⟩

theorem IsR.one : IsR 1 := ⟨1, rfl⟩

theorem IsR.sum {ι : Type} (s : Finset ι) {f : ι → EReal} (h : ∀ i, IsR (f i)) : IsR (∑ i ∈ s, f i) := by
  classical
  induction s using Finset.induction_on with
  | empty => exact IsR.zero
  | insert a s ha ih => rw [Finset.sum_insert ha]; exact (h a).add ih

theorem IsR.exp {x : EReal} : IsR x → IsR (Ideal.exp x)
  | ⟨a, ha⟩ => ⟨Real.exp a, by rw [ha, Ideal.exp_coe]⟩

theorem isR_of_bounds {x : EReal} (h0 : 0 ≤ x) (h1 : x ≤ 1) : IsR x := by
  induction x using EReal.rec with
  | bot => exact absurd h0 (by simp)
  | coe r => exact ⟨r, rfl⟩
  | top => exact absurd h1 (not_le.mpr (EReal.coe_lt_top 1))

theorem coe_sum {ι : Type} (s : Finset ι) (f : ι → ℝ) : ((∑ i ∈ s, f i : ℝ) : EReal) = ∑ i ∈ s, (f i : EReal) := by
  classical
  induction s using Finset.induction_on with
  | empty => rfl
  | insert a s ha ih => rw [Finset.sum_insert ha, Finset.sum_insert ha, EReal.coe_add, ih]

/-! ## Constants -/

/-- The slope of the leaky activation. -/
def slope : EReal := Ideal.ofBits .f32 0x3E4CCCCD#32

/-- The small number added to a denominator. -/
def eps : EReal := Ideal.ofBits .f32 0x24E69595#32

theorem ofBits_minus_inf : Ideal.ofBits .f32 0xFF800000#32 = ⊥ := by simp [Ideal.ofBits, Ideal.ieee]

theorem eps_pos : ∃ r : ℝ, 0 < r ∧ eps = r := by
  refine ⟨_, ?_, by simp [eps, Ideal.ofBits, Ideal.ieee]; rfl⟩
  positivity

/-! ## The layers -/

variable {n k m : ℕ}

/-- A dense layer: rows times rows, plus a bias. -/
def lin (x : Fin n → Fin k → EReal) (w : Fin m → Fin k → EReal) (b : Fin m → EReal) (i : Fin n) (j : Fin m) : EReal :=
  (∑ t, x i t * w j t) + b j

theorem lin_isR {x : Fin n → Fin k → EReal} {w : Fin m → Fin k → EReal} {b : Fin m → EReal} (hx : ∀ i j, IsR (x i j)) (hw : ∀ i j, IsR (w i j))
    (hb : ∀ j, IsR (b j)) (i : Fin n) (j : Fin m) : IsR (lin x w b i j) :=
  (IsR.sum _ fun t => (hx i t).mul (hw j t)).add (hb j)

/-- A dense layer with its negative values cut. -/
def relu (x : Fin n → Fin k → EReal) (w : Fin m → Fin k → EReal) (b : Fin m → EReal) (i : Fin n) (j : Fin m) : EReal := max (lin x w b i j) 0

theorem relu_isR {x : Fin n → Fin k → EReal} {w : Fin m → Fin k → EReal} {b : Fin m → EReal} (hx : ∀ i j, IsR (x i j)) (hw : ∀ i j, IsR (w i j))
    (hb : ∀ j, IsR (b j)) (i : Fin n) (j : Fin m) : IsR (relu x w b i j) := (lin_isR hx hw hb i j).max IsR.zero

/-! ## The attention of one graph -/

/-- The leaky activation. -/
def leaky (s : EReal) : EReal := if 0 ≤ s then s else slope * s

/-- The score of the edge from `i` to `j`: minus infinity where there is no edge. -/
def score (a d : Fin 256 → EReal) (i j : Fin 256) : EReal := if i ≤ j then leaky (a i + d j) else ⊥

/-- A target's largest score. -/
def top (a d : Fin 256 → EReal) (j : Fin 256) : EReal := Finset.univ.sup fun i => score a d i j

/-- The exponential of a score less its target's largest. -/
def wt (a d : Fin 256 → EReal) (i j : Fin 256) : EReal := Ideal.exp (score a d i j - top a d j)

theorem wt_bounds (a d : Fin 256 → EReal) (i j : Fin 256) : 0 ≤ wt a d i j ∧ wt a d i j ≤ 1 := by
  have h : score a d i j - top a d j ≤ 0 := by
    have h1 : score a d i j ≤ top a d j := Finset.le_sup (f := fun i => score a d i j) (Finset.mem_univ i)
    exact EReal.sub_nonpos.mpr h1
  unfold wt
  generalize score a d i j - top a d j = t at h
  induction t using EReal.rec with
  | bot => simp
  | coe r =>
    rw [Ideal.exp_coe]
    have hr : r ≤ 0 := by exact_mod_cast h
    exact ⟨by exact_mod_cast (Real.exp_pos r).le, by exact_mod_cast Real.exp_le_one_iff.mpr hr⟩
  | top => exact absurd h (by simp)

theorem wt_isR (a d : Fin 256 → EReal) (i j : Fin 256) : IsR (wt a d i j) := isR_of_bounds (wt_bounds a d i j).1 (wt_bounds a d i j).2

/-- An edge that is not there weighs nothing. -/
theorem wt_eq_zero (a d : Fin 256 → EReal) {i j : Fin 256} (h : ¬ i ≤ j) : wt a d i j = 0 := by
  unfold wt score
  rw [if_neg h]
  generalize top a d j = t
  induction t using EReal.rec <;> rfl

/-- The weighted mean, each weight divided by the sum of the weights. -/
def aggR (x : Fin 256 → EReal) (a d : Fin 256 → EReal) (j : Fin 256) : EReal :=
  ∑ i, x i * Ideal.div (wt a d i j) ((∑ i', wt a d i' j) + eps)

/-- The weighted mean, the weighted sum divided by the sum of the weights. -/
def aggK (x : Fin 256 → EReal) (a d : Fin 256 → EReal) (j : Fin 256) : EReal :=
  (∑ i, wt a d i j * x i) * Ideal.div 1 ((∑ i', wt a d i' j * 1) + eps)

theorem agg_real (x : Fin 256 → EReal) (a d : Fin 256 → EReal) (hx : ∀ i, IsR (x i)) (j : Fin 256) :
    ∃ r : ℝ, aggR x a d j = r ∧ aggK x a d j = r := by
  choose X hX using hx
  choose w hw using fun i => wt_isR a d i j
  obtain ⟨e, he, hee⟩ := eps_pos
  have hw0 : ∀ i, 0 ≤ w i := fun i => by have := (wt_bounds a d i j).1; rw [hw i] at this; exact_mod_cast this
  have hS : (0 : ℝ) < (∑ i, w i) + e := add_pos_of_nonneg_of_pos (Finset.sum_nonneg fun i _ => hw0 i) he
  refine ⟨∑ i, X i * (w i * (1 / ((∑ i, w i) + e))), ?_, ?_⟩
  · unfold aggR
    simp only [hw, hX, hee, ← coe_sum, ← EReal.coe_add]
    simp only [Ideal.div_coe hS.ne', ← EReal.coe_mul, ← coe_sum]
  · unfold aggK
    simp only [hw, hX, hee, mul_one, ← EReal.coe_mul, ← coe_sum, ← EReal.coe_add]
    rw [Ideal.div_coe hS.ne', one_mul, ← EReal.coe_mul]
    congr 1
    rw [Finset.sum_mul]
    exact Finset.sum_congr rfl fun i _ => by ring

/-- The two means are one. -/
theorem aggK_eq (x : Fin 256 → EReal) (a d : Fin 256 → EReal) (hx : ∀ i, IsR (x i)) (j : Fin 256) : aggK x a d j = aggR x a d j := by
  obtain ⟨r, h1, h2⟩ := agg_real x a d hx j
  rw [h1, h2]

theorem aggR_isR (x : Fin 256 → EReal) (a d : Fin 256 → EReal) (hx : ∀ i, IsR (x i)) (j : Fin 256) : IsR (aggR x a d j) := by
  obtain ⟨r, h1, h2⟩ := agg_real x a d hx j
  exact ⟨r, h1⟩

/-! ## The activation before the last layer -/

/-- The exponential linear unit. -/
def elu (o : EReal) : EReal := if 0 < o then o else Ideal.exp (min o 0) - 1

/-- The exponential linear unit, its argument cut at zero by a choice. -/
def eluR (o : EReal) : EReal := if 0 < o then o else 1 * (Ideal.exp (if 0 < o then 0 else o) - 1)

theorem eluR_eq (o : EReal) : eluR o = elu o := by
  unfold eluR elu
  by_cases h : 0 < o
  · rw [if_pos h, if_pos h]
  · rw [if_neg h, if_neg h, if_neg h, one_mul, min_eq_left (not_lt.mp h)]

theorem elu_isR {o : EReal} (h : IsR o) : IsR (elu o) := by
  unfold elu
  split_ifs with h0
  · exact h
  · rw [min_eq_left (not_lt.mp h0)]; exact h.exp.sub IsR.one

/-! ## The first largest element of a row -/

/-- `j` is the first place of the row's largest value. -/
def First (f : Fin n → EReal) (j : Fin n) : Prop := (∀ k, f k ≤ f j) ∧ ∀ k < j, f k < f j

theorem First.unique {f : Fin n → EReal} {i j : Fin n} (hi : First f i) (hj : First f j) : i = j := by
  rcases lt_trichotomy i j with h | h | h
  · exact absurd (hj.2 i h) (not_lt.mpr (hi.1 j))
  · exact h
  · exact absurd (hi.2 j h) (not_lt.mpr (hj.1 i))

/-- The row of the softmax, from a row of real numbers. -/
def soft (z : Fin n → EReal) (j : Fin n) : EReal :=
  Ideal.div (Ideal.exp (Ideal.div (z j) 1 - Finset.univ.sup fun k => Ideal.div (z k) 1)) (∑ k, Ideal.exp (Ideal.div (z k) 1 - Finset.univ.sup fun k => Ideal.div (z k) 1))

theorem div_one (x : EReal) : Ideal.div x 1 = x := by
  have := Ideal.div_coe (y := 1) one_ne_zero x
  simpa using this

theorem soft_real {z : Fin (n + 1) → EReal} (hz : ∀ j, IsR (z j)) : ∃ (Z : Fin (n + 1) → ℝ) (M S : ℝ), 0 < S ∧ (∀ j, z j = Z j) ∧
    ∀ j, soft z j = ((Real.exp (Z j - M) * (1 / S) : ℝ) : EReal) := by
  choose Z hZ using hz
  obtain ⟨i, _, hi⟩ := Finset.exists_mem_eq_sup Finset.univ Finset.univ_nonempty z
  refine ⟨Z, Z i, ∑ k, Real.exp (Z k - Z i), Finset.sum_pos (fun k _ => Real.exp_pos _) Finset.univ_nonempty, hZ, fun j => ?_⟩
  unfold soft
  simp only [div_one]
  rw [show (Finset.univ.sup fun k => z k) = z i from hi]
  simp only [hZ, ← EReal.coe_sub, Ideal.exp_coe, ← coe_sum]
  rw [Ideal.div_coe (Finset.sum_pos (fun k _ => Real.exp_pos _) Finset.univ_nonempty).ne', EReal.coe_mul]

theorem soft_isR {z : Fin (n + 1) → EReal} (hz : ∀ j, IsR (z j)) (j : Fin (n + 1)) : IsR (soft z j) := by
  obtain ⟨Z, M, S, _, _, h⟩ := soft_real hz
  exact ⟨_, h j⟩

/-- The softmax has its largest values where the row has them. -/
theorem first_soft {z : Fin (n + 1) → EReal} (hz : ∀ j, IsR (z j)) (j : Fin (n + 1)) : First (soft z) j ↔ First z j := by
  obtain ⟨Z, M, S, hS, h1, h2⟩ := soft_real hz
  have hle : ∀ a b, soft z a ≤ soft z b ↔ z a ≤ z b := fun a b => by
    rw [h2, h2, h1, h1, EReal.coe_le_coe_iff, EReal.coe_le_coe_iff, mul_le_mul_iff_of_pos_right (one_div_pos.mpr hS), Real.exp_le_exp, sub_le_sub_iff_right]
  have hlt : ∀ a b, soft z a < soft z b ↔ z a < z b := fun a b => by rw [← not_le, ← not_le, hle]
  unfold First
  simp only [hle, hlt]

open Classical in
/-- One at the first largest element of each row, zero elsewhere. -/
def hard (z : Fin n → EReal) (j : Fin n) : EReal := if First z j then 1 else 0

theorem hard_soft {z : Fin (n + 1) → EReal} (hz : ∀ j, IsR (z j)) : hard (soft z) = hard z := by
  funext j; unfold hard;
  by_cases h : First z j
  · rw [if_pos h, if_pos ((first_soft hz j).mpr h)]
  · rw [if_neg h, if_neg fun h' => h ((first_soft hz j).mp h')]

theorem hard_bounds (z : Fin n → EReal) (j : Fin n) : 0 ≤ hard z j := by
  unfold hard; split_ifs <;> simp

theorem hard_isR (z : Fin n → EReal) (j : Fin n) : IsR (hard z j) := by
  unfold hard; split_ifs; exacts [IsR.one, IsR.zero]

/-- Adding and taking away a real number changes nothing. -/
theorem add_sub_real {x y : EReal} (hx : IsR x) (hy : IsR y) : x + y - y = x := by
  obtain ⟨a, rfl⟩ := hx
  obtain ⟨b, rfl⟩ := hy
  rw [← EReal.coe_add, ← EReal.coe_sub, add_sub_cancel_right]

/-- The straight-through form of the choice, symmetrised and cut to the unit interval, is the choice itself symmetrised and cut at one. -/
theorem adj_eq {z : Fin (n + 1) → Fin (n + 1) → EReal} (hz : ∀ i j, IsR (z i j)) (i j : Fin (n + 1)) :
    min 1 (max 0 ((hard (soft (z i)) j + soft (z i) j - soft (z i) j) + (hard (soft (z j)) i + soft (z j) i - soft (z j) i)))
      = min (hard (z i) j + hard (z j) i) 1 := by
  rw [add_sub_real (hard_isR _ _) (soft_isR (hz i) j), add_sub_real (hard_isR _ _) (soft_isR (hz j) i), hard_soft (hz i), hard_soft (hz j),
    max_eq_right (add_nonneg (hard_bounds _ _) (hard_bounds _ _)), min_comm]

end Cert.Spec

end
-- ==== Proof.Reads.lean ====
module

public import proofs.«01_k».proof.Proof.Spec
public import Idealize.ShloMosaic.Lib.ValueIdx
public import Idealize.ShloMosaic.Lib.KernelVsHost
public import Idealize.ShloMosaic.Lib.Pointwise

@[expose] public section

noncomputable section

/-! How the operations of both programs read at an index: contractions, sums and largest elements along an axis, and the
folds that find the first largest element of a row. -/

namespace Cert.Reads

open Idealize.ShloMosaic Cert.Spec

/-- A contraction over one axis of length `n`, at an index: the sum of the products along the axis. -/
theorem contr_sum {sl sr so : Shape} (d : DotDims sl sr so) (n : ℕ) (hr : d.contr.rank = 1) (hs : d.contr.size ⟨0, by omega⟩ = n)
    (x : sl.Idx → EReal) (y : sr.Idx → EReal) (j : so.Idx) (li : Fin n → sl.Idx) (ri : Fin n → sr.Idx)
    (hl : ∀ k a, (d.lhsIdx j ((ValueIdx.contrEquiv1 d n hr hs).symm k) a).val = (li k a).val)
    (hrr : ∀ k a, (d.rhsIdx j ((ValueIdx.contrEquiv1 d n hr hs).symm k) a).val = (ri k a).val) :
    ∑ k : d.contr.Idx, x (d.lhsIdx j k) * y (d.rhsIdx j k) = ∑ k, x (li k) * y (ri k) := by
  rw [← Equiv.sum_comp (ValueIdx.contrEquiv1 d n hr hs).symm]
  refine Finset.sum_congr rfl fun k _ => ?_
  rw [show d.lhsIdx j ((ValueIdx.contrEquiv1 d n hr hs).symm k) = li k from funext fun a => Fin.ext (hl k a),
    show d.rhsIdx j ((ValueIdx.contrEquiv1 d n hr hs).symm k) = ri k from funext fun a => Fin.ext (hrr k a)]

/-- The host's contraction at an index. -/
theorem dot {sl sr so : Shape} (d : DotDims sl sr so) (n : ℕ) (hr : d.contr.rank = 1) (hs : d.contr.size ⟨0, by omega⟩ = n)
    (x : FVec Ideal sl .f32) (y : FVec Ideal sr .f32) (j : so.Idx) (li : Fin n → sl.Idx) (ri : Fin n → sr.Idx)
    (hl : ∀ k a, (d.lhsIdx j ((ValueIdx.contrEquiv1 d n hr hs).symm k) a).val = (li k a).val)
    (hrr : ∀ k a, (d.rhsIdx j ((ValueIdx.contrEquiv1 d n hr hs).symm k) a).val = (ri k a).val) :
    Host.dotGeneral d none x y j = ∑ k, x (li k) * y (ri k) :=
  (Ideal.dotGeneral_apply d none .single x y j).trans (contr_sum d n hr hs x y j li ri hl hrr)

/-- The core's contraction into zeros at an index. -/
theorem mm {sl sr so : Shape} (d : DotDims sl sr so) (n : ℕ) (hr : d.contr.rank = 1) (hs : d.contr.size ⟨0, by omega⟩ = n)
    (p : Option ContractPrecision) (x : FVec Ideal sl .f32) (y : FVec Ideal sr .f32) (j : so.Idx) (li : Fin n → sl.Idx) (ri : Fin n → sr.Idx)
    (hl : ∀ k a, (d.lhsIdx j ((ValueIdx.contrEquiv1 d n hr hs).symm k) a).val = (li k a).val)
    (hrr : ∀ k a, (d.rhsIdx j ((ValueIdx.contrEquiv1 d n hr hs).symm k) a).val = (ri k a).val) :
    FloatOps.matmul d p x y (constant so .f32 0x00000000#32) j = ∑ k, x (li k) * y (ri k) :=
  (Ideal.matmul_constant_zero_apply d p x y j).trans (contr_sum d n hr hs x y j li ri hl hrr)

/-- The host's sum along one axis, from zero. -/
theorem hsum {s t u : Shape} {a : Fin s.rank} (x : FVec Ideal s .f32) (h : s.ReducesTo [a] t) (hu : 0 < u.numel) (h' : s.Reduces [a] t)
    (j : t.Idx) (li : Fin (s.size a) → s.Idx) (hl : ∀ k b, (h'.lift j k b).val = (li k b).val) :
    Host.reduceAdd x (constant u .f32 0x00000000#32) h hu j = ∑ k, x (li k) := by
  rw [ValueIdx.hostReduceAdd_apply, Ideal.hostReduceAdd_single h h']
  show Ideal.ofBits .f32 0x00000000#32 + _ = _
  rw [Ideal.ofBits_zero_f32, zero_add]
  exact Finset.sum_congr rfl fun k _ => congrArg x (funext fun b => Fin.ext (hl k b))

/-- The core's largest element along one axis, from minus infinity. -/
theorem mmax {s t : Shape} {a : Fin s.rank} (x : FVec Ideal s .f32) (h' : s.Reduces [a] t) (hφ : FKind.Formats .f32)
    (hacc : 0xFF800000#32 = FKind.maximumf.neutral .f32 hφ)
    (j : t.Idx) (li : Fin (s.size a) → s.Idx) (hl : ∀ k b, (h'.lift j k b).val = (li k b).val) :
    multiReduction .maximumf [a] t x 0xFF800000#32 h' hφ hacc j = Finset.univ.sup fun k => x (li k) := by
  rw [Ideal.multiReduction_maximumf_single]
  show Finset.univ.fold max (Ideal.ofBits .f32 0xFF800000#32) _ = _
  rw [ofBits_minus_inf]
  show Finset.univ.sup (x ∘ h'.lift j) = _
  exact congrArg _ (funext fun k => congrArg x (funext fun b => Fin.ext (hl k b)))

/-- The host's largest element along one axis, from minus infinity. -/
theorem hmax {s t u : Shape} {a : Fin s.rank} (x : FVec Ideal s .f32) (h : s.ReducesTo [a] t) (hu : 0 < u.numel) (h' : s.Reduces [a] t)
    (j : t.Idx) (li : Fin (s.size a) → s.Idx) (hl : ∀ k b, (h'.lift j k b).val = (li k b).val) :
    Host.reduce FloatOps.maximumf x (constant u .f32 0xFF800000#32) h hu j = Finset.univ.sup fun k => x (li k) := by
  have e := congrFun (hostReduce_maximumf_eq_multiReduction x 0xFF800000#32 h hu h' (.inl rfl) rfl) j
  exact e.trans (mmax x h' _ _ j li hl)

/-! ## The first largest element -/

/-- A small number's word reads back as the number. -/
theorem small_toInt (k : ℕ) (h : k < 2 ^ 31) : (BitVec.ofNat 32 k).toInt = (k : ℤ) := by
  have e : (BitVec.ofNat 32 k).toNat = k := by rw [BitVec.toNat_ofNat]; exact Nat.mod_eq_of_lt (by omega)
  rw [BitVec.toInt_eq_toNat_of_lt (by rw [e]; omega), e]

/-- Folding the choice of the larger value, of equal values the smaller number, leaves one of the pairs, which no pair beats. -/
theorem best_fold (f : EReal × BitVec 32 → EReal × BitVec 32 → EReal × BitVec 32)
    (h1 : ∀ a b, b.1 < a.1 → f a b = a) (h2 : ∀ a b, a.1 < b.1 → f a b = b)
    (h3 : ∀ a b, a.1 = b.1 → f a b = if a.2.toInt < b.2.toInt then a else b) (l : List (EReal × BitVec 32)) (e : EReal × BitVec 32) :
    l.foldl f e ∈ e :: l ∧ ∀ p ∈ e :: l, p.1 < (l.foldl f e).1 ∨ (p.1 = (l.foldl f e).1 ∧ (l.foldl f e).2.toInt ≤ p.2.toInt) := by
  induction l generalizing e with
  | nil => exact ⟨by simp, fun p hp => by rw [List.mem_singleton.1 hp]; exact .inr ⟨rfl, le_rfl⟩⟩
  | cons b l ih =>
    obtain ⟨hm, hb⟩ := ih (f e b)
    have key : (f e b = e ∨ f e b = b) ∧ ∀ p, p = e ∨ p = b → p.1 < (f e b).1 ∨ (p.1 = (f e b).1 ∧ (f e b).2.toInt ≤ p.2.toInt) := by
      rcases lt_trichotomy e.1 b.1 with h | h | h
      · rw [h2 e b h]
        exact ⟨.inr rfl, fun p hp => hp.elim (fun hp => by rw [hp]; exact .inl h) (fun hp => by rw [hp]; exact .inr ⟨rfl, le_rfl⟩)⟩
      · rw [h3 e b h]
        by_cases hl : e.2.toInt < b.2.toInt
        · rw [if_pos hl]
          exact ⟨.inl rfl, fun p hp => hp.elim (fun hp => by rw [hp]; exact .inr ⟨rfl, le_rfl⟩) (fun hp => by rw [hp]; exact .inr ⟨h.symm, hl.le⟩)⟩
        · rw [if_neg hl]
          exact ⟨.inr rfl, fun p hp => hp.elim (fun hp => by rw [hp]; exact .inr ⟨h, not_lt.1 hl⟩) (fun hp => by rw [hp]; exact .inr ⟨rfl, le_rfl⟩)⟩
      · rw [h1 e b h]
        exact ⟨.inl rfl, fun p hp => hp.elim (fun hp => by rw [hp]; exact .inr ⟨rfl, le_rfl⟩) (fun hp => by rw [hp]; exact .inl h)⟩
    have best := hb (f e b) (List.mem_cons_self ..)
    refine ⟨?_, fun p hp => ?_⟩
    · show l.foldl f (f e b) ∈ _
      rcases List.mem_cons.1 hm with hm | hm
      · rw [hm]; rcases key.1 with h | h <;> rw [h] <;> simp
      · exact List.mem_cons_of_mem _ (List.mem_cons_of_mem _ hm)
    · show p.1 < (l.foldl f (f e b)).1 ∨ _
      have hp' : (p = e ∨ p = b) ∨ p ∈ l := by
        rcases List.mem_cons.1 hp with h | h
        · exact .inl (.inl h)
        · rcases List.mem_cons.1 h with h | h
          · exact .inl (.inr h)
          · exact .inr h
      rcases hp' with h | h
      · rcases key.2 p h with h | ⟨h, h'⟩
        · rcases best with b | ⟨b, b'⟩
          · exact .inl (h.trans b)
          · exact .inl (b ▸ h)
        · rcases best with b | ⟨b, b'⟩
          · exact .inl (h ▸ b)
          · exact .inr ⟨h.trans b, b'.trans h'⟩
      · exact hb p (List.mem_cons_of_mem _ h)

/-- Such a fold over the numbered values of a row, all real, leaves the number of the first largest. -/
theorem best_first {n : ℕ} (hn : n ≤ 2 ^ 31) (f : EReal × BitVec 32 → EReal × BitVec 32 → EReal × BitVec 32)
    (h1 : ∀ a b, b.1 < a.1 → f a b = a) (h2 : ∀ a b, a.1 < b.1 → f a b = b)
    (h3 : ∀ a b, a.1 = b.1 → f a b = if a.2.toInt < b.2.toInt then a else b) (z : Fin n → EReal) (hz : ∀ k, IsR (z k)) (k0 : Fin n)
    (l : List (EReal × BitVec 32)) (hl : ∀ p, p ∈ l ↔ ∃ k : Fin n, p = (z k, BitVec.ofNat 32 k.val)) (w : BitVec 32) :
    ∃ k : Fin n, (l.foldl f (⊥, w)).2 = BitVec.ofNat 32 k.val ∧ First z k := by
  obtain ⟨hm, hb⟩ := best_fold f h1 h2 h3 l (⊥, w)
  have hint : ∀ k : Fin n, (BitVec.ofNat 32 k.val).toInt = (k.val : ℤ) := fun k => by
    have := k.isLt
    exact small_toInt _ (by omega)
  have hex : ∃ k : Fin n, l.foldl f (⊥, w) = (z k, BitVec.ofNat 32 k.val) := by
    rcases List.mem_cons.1 hm with h | h
    · exfalso
      obtain ⟨r, hr⟩ := hz k0
      have := hb (z k0, BitVec.ofNat 32 k0.val) (List.mem_cons_of_mem _ ((hl _).2 ⟨k0, rfl⟩))
      rw [h] at this
      rcases this with h | ⟨h, _⟩
      · exact not_lt_bot h
      · rw [hr] at h; exact EReal.coe_ne_bot r h
    · exact (hl _).1 h
  obtain ⟨k, hk⟩ := hex
  refine ⟨k, by rw [hk], fun k' => ?_, fun k' hlt => ?_⟩
  · have := hb (z k', BitVec.ofNat 32 k'.val) (List.mem_cons_of_mem _ ((hl _).2 ⟨k', rfl⟩))
    rw [hk] at this
    rcases this with h | ⟨h, _⟩
    · exact le_of_lt h
    · exact le_of_eq h
  · have := hb (z k', BitVec.ofNat 32 k'.val) (List.mem_cons_of_mem _ ((hl _).2 ⟨k', rfl⟩))
    rw [hk] at this
    rcases this with h | ⟨_, h⟩
    · exact h
    · exfalso
      simp only [hint] at h
      have : k'.val < k.val := hlt
      omega

/-- Folding the smaller of two words leaves one of the words, the least. -/
theorem least_fold (l : List (BitVec 32)) (e : BitVec 32) :
    l.foldl IntOp.minsi e ∈ e :: l ∧ ∀ p ∈ e :: l, (l.foldl IntOp.minsi e).toInt ≤ p.toInt := by
  induction l generalizing e with
  | nil => exact ⟨by simp, fun p hp => by rw [List.mem_singleton.1 hp]; rfl⟩
  | cons b l ih =>
    obtain ⟨hm, hb⟩ := ih (IntOp.minsi e b)
    have best := hb _ (List.mem_cons_self ..)
    have key : (IntOp.minsi e b = e ∨ IntOp.minsi e b = b) ∧ (IntOp.minsi e b).toInt ≤ e.toInt ∧ (IntOp.minsi e b).toInt ≤ b.toInt := by
      unfold IntOp.minsi
      split
      · next h => exact ⟨.inl rfl, le_rfl, by have := BitVec.slt_iff_toInt_lt.1 h; omega⟩
      · next h => exact ⟨.inr rfl, by rw [BitVec.slt_iff_toInt_lt] at h; omega, le_rfl⟩
    refine ⟨?_, fun p hp => ?_⟩
    · show l.foldl IntOp.minsi (IntOp.minsi e b) ∈ _
      rcases List.mem_cons.1 hm with hm | hm
      · rw [hm]; rcases key.1 with h | h <;> rw [h] <;> simp
      · exact List.mem_cons_of_mem _ (List.mem_cons_of_mem _ hm)
    · show (l.foldl IntOp.minsi (IntOp.minsi e b)).toInt ≤ _
      rcases List.mem_cons.1 hp with h | h
      · rw [h]; exact best.trans key.2.1
      · rcases List.mem_cons.1 h with h | h
        · rw [h]; exact best.trans key.2.2
        · exact hb p (List.mem_cons_of_mem _ h)

/-- The least of the numbers of a row's largest values, any other place counting as the row's length, is the number of the first largest. -/
theorem least_first {n : ℕ} (hn : n < 2 ^ 31) (z : Fin n → EReal) (k0 : Fin n) (l : List (BitVec 32))
    (hl : ∀ p, p ∈ l ↔ ∃ k : Fin n, p = if z k = Finset.univ.sup z then BitVec.ofNat 32 k.val else BitVec.ofNat 32 n) :
    ∃ k : Fin n, l.foldl IntOp.minsi 2147483647#32 = BitVec.ofNat 32 k.val ∧ First z k := by
  obtain ⟨hm, hb⟩ := least_fold l 2147483647#32
  have hint : ∀ k : ℕ, k ≤ n → (BitVec.ofNat 32 k).toInt = (k : ℤ) := fun k hk => by
    exact small_toInt _ (by omega)
  obtain ⟨m, -, hmx⟩ := Finset.exists_mem_eq_sup (Finset.univ : Finset (Fin n)) ⟨k0, Finset.mem_univ _⟩ z
  have hle := hb (BitVec.ofNat 32 m.val) (List.mem_cons_of_mem _ ((hl _).2 ⟨m, by rw [if_pos hmx.symm]⟩))
  rw [hint m.val m.isLt.le] at hle
  have hm31 : (2147483647#32 : BitVec 32).toInt = 2147483647 := by decide
  rcases List.mem_cons.1 hm with h | h
  · exfalso; rw [h, hm31] at hle; have := m.isLt; omega
  · obtain ⟨k, hk⟩ := (hl _).1 h
    by_cases hz : z k = Finset.univ.sup z
    · rw [if_pos hz] at hk
      refine ⟨k, hk, fun k' => by rw [hz]; exact Finset.le_sup (Finset.mem_univ k'), fun k' hlt => ?_⟩
      refine lt_of_le_of_ne (by rw [hz]; exact Finset.le_sup (Finset.mem_univ k')) fun he => ?_
      have := hb (BitVec.ofNat 32 k'.val) (List.mem_cons_of_mem _ ((hl _).2 ⟨k', by rw [if_pos (he.trans hz)]⟩))
      rw [hk, hint k.val k.isLt.le, hint k'.val k'.isLt.le] at this
      have : k'.val < k.val := hlt
      omega
    · exfalso
      rw [if_neg hz] at hk
      rw [hk, hint n le_rfl] at hle
      have := m.isLt; omega

/-- At most one place is first. -/
theorem hard_of_first {n : ℕ} (z : Fin n → EReal) (k : Fin n) (hk : First z k) (j : Fin n) : hard z j = if j = k then 1 else 0 := by
  unfold hard
  by_cases h : j = k
  · rw [if_pos (h ▸ hk), if_pos h]
  · rw [if_neg (fun hj => h (First.unique hj hk)), if_neg h]

end Cert.Reads

end
-- ==== Proof.Noise.lean ====
module

public import proofs.«01_k».proof.Proof.Reads

@[expose] public section

noncomputable section

/-! The random words both programs draw, on single words, and the noise made of one: a real number. -/

namespace Cert.Noise

open Idealize.ShloMosaic Cert.Spec

/-- One round on a pair of words: the sum, and the second word turned by `r` places against the sum. -/
def rnd (r q : BitVec 32) (p : BitVec 32 × BitVec 32) : BitVec 32 × BitVec 32 :=
  (IntOp.addi p.1 p.2, IntOp.xori (IntOp.addi p.1 p.2) (IntOp.ori (IntOp.shli .host p.2 r) (IntOp.shrui .host p.2 q)))

/-- The keys added after four rounds. -/
def inj (a b c : BitVec 32) (p : BitVec 32 × BitVec 32) : BitVec 32 × BitVec 32 := (IntOp.addi p.1 a, IntOp.addi (IntOp.addi p.2 b) c)

/-- The first four turns. -/
def turnA (p : BitVec 32 × BitVec 32) : BitVec 32 × BitVec 32 := rnd 6#32 26#32 (rnd 26#32 6#32 (rnd 15#32 17#32 (rnd 13#32 19#32 p)))

/-- The other four turns. -/
def turnB (p : BitVec 32 × BitVec 32) : BitVec 32 × BitVec 32 := rnd 24#32 8#32 (rnd 16#32 16#32 (rnd 29#32 3#32 (rnd 17#32 15#32 p)))

/-- The pair of words drawn from the pair of counters. -/
def draw (p : BitVec 32 × BitVec 32) : BitVec 32 × BitVec 32 :=
  inj 466689008#32 0#32 5#32 (turnA (inj 42#32 466689008#32 4#32 (turnB (inj 0#32 42#32 3#32 (turnA (inj 466689008#32 0#32 2#32 (turnB (inj 42#32 466689008#32 1#32 (turnA p)))))))))

/-- The word drawn at a place. -/
def word (c : BitVec 32) : BitVec 32 :=
  IntOp.xori (draw (IntOp.addi 0#32 0#32, IntOp.addi c 42#32)).1 (draw (IntOp.addi 0#32 0#32, IntOp.addi c 42#32)).2

/-- The word from the two words of a pair. -/
theorem word_of {w a b : BitVec 32} (c : BitVec 32) (e : w = IntOp.xori a b)
    (p : (a, b) = inj 466689008#32 0#32 5#32 (rnd 6#32 26#32 (rnd 26#32 6#32 (rnd 15#32 17#32 (rnd 13#32 19#32 (inj 42#32 466689008#32 4#32
      (rnd 24#32 8#32 (rnd 16#32 16#32 (rnd 29#32 3#32 (rnd 17#32 15#32 (inj 0#32 42#32 3#32 (rnd 6#32 26#32 (rnd 26#32 6#32 (rnd 15#32 17#32
        (rnd 13#32 19#32 (inj 466689008#32 0#32 2#32 (rnd 24#32 8#32 (rnd 16#32 16#32 (rnd 29#32 3#32 (rnd 17#32 15#32 (inj 42#32 466689008#32 1#32
          (rnd 6#32 26#32 (rnd 26#32 6#32 (rnd 15#32 17#32 (rnd 13#32 19#32 (IntOp.addi 0#32 0#32, IntOp.addi c 42#32)))))))))))))))))))))))))) : w = word c := by
  have hp : (a, b) = draw (IntOp.addi 0#32 0#32, IntOp.addi c 42#32) := p
  rw [e, word, ← hp]

section Arrays

variable {s : Shape} {h : (⟨0, ![]⟩ : Shape).BroadcastsInDim s ![]}

/-- One round on arrays, at an index. -/
theorem round_of {r q : BitVec 32} {x0 x1 y0 y1 a l b m t : IVec s 32} {c d : IVec ⟨0, ![]⟩ 32} (i : s.Idx) {p : BitVec 32 × BitVec 32}
    (hp : (x0 i, x1 i) = p) (e0 : y0 = addi x0 x1) (hc : c = constantI _ 32 r) (ha : a = broadcastInDim s ![] h c) (hl : l = Host.shli x1 a)
    (hd : d = constantI _ 32 q) (hb : b = broadcastInDim s ![] h d) (hm : m = Host.shrui x1 b) (ht : t = ori l m)
    (e1 : y1 = xori y0 t ∨ y1 = xori t y0) : (y0 i, y1 i) = rnd r q p := by
  subst hp
  have e1 : y1 i = IntOp.xori (y0 i) (t i) := by
    rcases e1 with e | e
    · rw [e]; rfl
    · rw [e]; exact BitVec.xor_comm _ _
  rw [e1, e0, ht, hl, hm, ha, hb, hc, hd]
  rfl

/-- The added keys on arrays, at an index. -/
theorem inj_of {ka kb kc : BitVec 32} {x0 x1 y0 y1 a b z c : IVec s 32} {ca cb cc : IVec ⟨0, ![]⟩ 32} (i : s.Idx) {p : BitVec 32 × BitVec 32}
    (hp : (x0 i, x1 i) = p) (hca : ca = constantI _ 32 ka) (ha : a = broadcastInDim s ![] h ca) (e0 : y0 = addi x0 a)
    (hcb : cb = constantI _ 32 kb) (hb : b = broadcastInDim s ![] h cb) (ez : z = addi x1 b)
    (hcc : cc = constantI _ 32 kc) (hc : c = broadcastInDim s ![] h cc) (e1 : y1 = addi z c) : (y0 i, y1 i) = inj ka kb kc p := by
  subst hp
  rw [e1, ez, e0, ha, hb, hc, hca, hcb, hcc]
  rfl

end Arrays

/-! ## The noise of a word -/

/-- The uniform number of a word. -/
def uni (w : BitVec 32) : EReal :=
  max (Ideal.ofBits .f32 0x00800000#32)
    (FloatOps.sitofp (F := Ideal) .f32 (IntOp.shrui .host w 9#32) * Ideal.ofBits .f32 0x34000000#32 * Ideal.ofBits .f32 0x3F800000#32 + Ideal.ofBits .f32 0x00800000#32)

/-- The noise of a word. -/
def gum (w : BitVec 32) : EReal := -Ideal.log (-Ideal.log (uni w))

theorem ofBits_tiny : Ideal.ofBits .f32 0x00800000#32 = (((1 / 2 : ℝ) ^ 126 : ℝ) : EReal) := by
  simp [Ideal.ofBits, Ideal.ieee]
  norm_cast
  norm_num

theorem ofBits_step : Ideal.ofBits .f32 0x34000000#32 = (((1 / 2 : ℝ) ^ 23 : ℝ) : EReal) := by
  simp [Ideal.ofBits, Ideal.ieee]
  norm_cast
  norm_num

/-- The uniform number lies strictly between zero and one. -/
theorem uni_real (w : BitVec 32) : ∃ u : ℝ, uni w = u ∧ 0 < u ∧ u < 1 := by
  have hn : (IntOp.shrui .host w 9#32).toNat < 2 ^ 23 := by
    show (w >>> 9).toNat < _
    rw [BitVec.toNat_ushiftRight, Nat.shiftRight_eq_div_pow]
    have := w.isLt
    omega
  have hi : (IntOp.shrui .host w 9#32).toInt = ((IntOp.shrui .host w 9#32).toNat : ℤ) := BitVec.toInt_eq_toNat_of_lt (by omega)
  unfold uni
  generalize IntOp.shrui .host w 9#32 = n at hn hi ⊢
  have hs : FloatOps.sitofp (F := Ideal) .f32 n = ((n.toNat : ℝ) : EReal) := by
    show (((n.toInt : ℤ) : ℝ) : EReal) = _
    rw [hi]; norm_num
  refine ⟨max ((1 / 2 : ℝ) ^ 126) ((n.toNat : ℝ) * (1 / 2 : ℝ) ^ 23 * 1 + (1 / 2 : ℝ) ^ 126), ?_, ?_, ?_⟩
  · rw [hs, ofBits_tiny, ofBits_step, Ideal.ofBits_one_f32, show (1 : EReal) = ((1 : ℝ) : EReal) from rfl, ← EReal.coe_mul, ← EReal.coe_mul, ← EReal.coe_add]
    exact (EReal.coe_strictMono.monotone.map_max).symm
  · exact lt_max_of_lt_left (by positivity)
  · have hn' : (n.toNat : ℝ) ≤ 2 ^ 23 - 1 := by
      have : n.toNat + 1 ≤ 2 ^ 23 := hn
      have : ((n.toNat + 1 : ℕ) : ℝ) ≤ 2 ^ 23 := by exact_mod_cast this
      push_cast at this; linarith
    refine max_lt (by norm_num) ?_
    nlinarith [hn']

theorem gum_isR (w : BitVec 32) : IsR (gum w) := by
  obtain ⟨u, hu, h0, h1⟩ := uni_real w
  have hl : Real.log u < 0 := Real.log_neg h0 h1
  refine ⟨-Real.log (-Real.log u), ?_⟩
  unfold gum
  rw [hu, Ideal.log_coe, if_neg (not_le.2 h0), ← EReal.coe_neg, Ideal.log_coe, if_neg (not_le.2 (by linarith)), ← EReal.coe_neg]

end Cert.Noise

end
-- ==== Proof.KNoise.lean ====
module

public import proofs.«01_k».proof.Proof.KLine
public import proofs.«01_k».proof.Proof.Noise
public import Idealize.ShloMosaic.Lib.ValueLayout

@[expose] public section

set_option maxRecDepth 16384

noncomputable section

/-! The random words before the kernel's launch. -/

namespace Cert.KernelIdeal.Hand

open Cert.KernelIdeal Cert.KernelIdeal.Gen Cert.Ssa Cert.Noise Idealize.ShloMosaic Idealize.ShloMosaic.TcCoe Idealize.ShloMosaic.StableHlo

/-- The contents of a tensor value after the host operations. -/
def hd (V : Valuation τ sig (Elt Ideal)) (r : Ref sig .tc) : r.ty.Contents (Elt Ideal) := after hops V (Proc.devRef .tc r)

set_option maxHeartbeats 8000000 in
/-- The word drawn at a place is the word of its number. -/
theorem word_apply (V : Valuation τ sig (Elt Ideal)) (n : Fin 1048576) :
    (hd V main_call0_v197 : IVec S1048576 32) (ix1 n) = word (BitVec.ofNat 32 n.val) := by
  have x0 : (hd V main_call0_v24 : IVec S1048576 32) (ix1 n) = IntOp.addi 0#32 0#32 := by
    unfold hd
    rw [hopsLine.binary V 27 rfl, hopsLine.unary V 24 rfl, hopsLine.nullary V 23 rfl, hopsLine.unary V 26 rfl, hopsLine.nullary V 25 rfl]
    rfl
  have x1 : (hd V main_call0_v26 : IVec S1048576 32) (ix1 n) = IntOp.addi (BitVec.ofNat 32 n.val) 42#32 := by
    unfold hd
    rw [hopsLine.binary V 30 rfl, hopsLine.nullary V 22 rfl, hopsLine.unary V 29 rfl, hopsLine.nullary V 28 rfl]
    rfl
  have p := congrArg₂ Prod.mk x0 x1
  have p := round_of (x0 := hd V main_call0_v24) (x1 := hd V main_call0_v26) (y0 := hd V main_call0_v27) (y1 := hd V main_call0_v33) (a := hd V main_call0_v28) (l := hd V main_call0_v29) (b := hd V main_call0_v30) (m := hd V main_call0_v31) (t := hd V main_call0_v32) (c := hd V main_call0_c_3) (d := hd V main_call0_c_4) (r := 13#32) (q := 19#32) (h := bcast_S_S1048576) (ix1 n) p (hopsLine.binary V 31 rfl) (hopsLine.nullary V 32 rfl) (hopsLine.unary V 33 rfl) (hopsLine.binary V 34 rfl) (hopsLine.nullary V 35 rfl) (hopsLine.unary V 36 rfl) (hopsLine.binary V 37 rfl) (hopsLine.binary V 38 rfl) (.inr (hopsLine.binary V 39 rfl))
  have p := round_of (x0 := hd V main_call0_v27) (x1 := hd V main_call0_v33) (y0 := hd V main_call0_v34) (y1 := hd V main_call0_v40) (a := hd V main_call0_v35) (l := hd V main_call0_v36) (b := hd V main_call0_v37) (m := hd V main_call0_v38) (t := hd V main_call0_v39) (c := hd V main_call0_c_5) (d := hd V main_call0_c_6) (r := 15#32) (q := 17#32) (h := bcast_S_S1048576) (ix1 n) p (hopsLine.binary V 40 rfl) (hopsLine.nullary V 41 rfl) (hopsLine.unary V 42 rfl) (hopsLine.binary V 43 rfl) (hopsLine.nullary V 44 rfl) (hopsLine.unary V 45 rfl) (hopsLine.binary V 46 rfl) (hopsLine.binary V 47 rfl) (.inr (hopsLine.binary V 48 rfl))
  have p := round_of (x0 := hd V main_call0_v34) (x1 := hd V main_call0_v40) (y0 := hd V main_call0_v41) (y1 := hd V main_call0_v47) (a := hd V main_call0_v42) (l := hd V main_call0_v43) (b := hd V main_call0_v44) (m := hd V main_call0_v45) (t := hd V main_call0_v46) (c := hd V main_call0_c_7) (d := hd V main_call0_c_8) (r := 26#32) (q := 6#32) (h := bcast_S_S1048576) (ix1 n) p (hopsLine.binary V 49 rfl) (hopsLine.nullary V 50 rfl) (hopsLine.unary V 51 rfl) (hopsLine.binary V 52 rfl) (hopsLine.nullary V 53 rfl) (hopsLine.unary V 54 rfl) (hopsLine.binary V 55 rfl) (hopsLine.binary V 56 rfl) (.inr (hopsLine.binary V 57 rfl))
  have p := round_of (x0 := hd V main_call0_v41) (x1 := hd V main_call0_v47) (y0 := hd V main_call0_v48) (y1 := hd V main_call0_v54) (a := hd V main_call0_v49) (l := hd V main_call0_v50) (b := hd V main_call0_v51) (m := hd V main_call0_v52) (t := hd V main_call0_v53) (c := hd V main_call0_c_9) (d := hd V main_call0_c_10) (r := 6#32) (q := 26#32) (h := bcast_S_S1048576) (ix1 n) p (hopsLine.binary V 58 rfl) (hopsLine.nullary V 59 rfl) (hopsLine.unary V 60 rfl) (hopsLine.binary V 61 rfl) (hopsLine.nullary V 62 rfl) (hopsLine.unary V 63 rfl) (hopsLine.binary V 64 rfl) (hopsLine.binary V 65 rfl) (.inr (hopsLine.binary V 66 rfl))
  have p := inj_of (x0 := hd V main_call0_v48) (x1 := hd V main_call0_v54) (y0 := hd V main_call0_v56) (y1 := hd V main_call0_v60) (a := hd V main_call0_v55) (b := hd V main_call0_v57) (z := hd V main_call0_v58) (c := hd V main_call0_v59) (ca := hd V main_call0_c_11) (cb := hd V main_call0_c_12) (cc := hd V main_call0_c_13) (ka := 42#32) (kb := 466689008#32) (kc := 1#32) (h := bcast_S_S1048576) (ix1 n) p (hopsLine.nullary V 67 rfl) (hopsLine.unary V 68 rfl) (hopsLine.binary V 69 rfl) (hopsLine.nullary V 70 rfl) (hopsLine.unary V 71 rfl) (hopsLine.binary V 72 rfl) (hopsLine.nullary V 73 rfl) (hopsLine.unary V 74 rfl) (hopsLine.binary V 75 rfl)
  have p := round_of (x0 := hd V main_call0_v56) (x1 := hd V main_call0_v60) (y0 := hd V main_call0_v61) (y1 := hd V main_call0_v67) (a := hd V main_call0_v62) (l := hd V main_call0_v63) (b := hd V main_call0_v64) (m := hd V main_call0_v65) (t := hd V main_call0_v66) (c := hd V main_call0_c_14) (d := hd V main_call0_c_15) (r := 17#32) (q := 15#32) (h := bcast_S_S1048576) (ix1 n) p (hopsLine.binary V 76 rfl) (hopsLine.nullary V 77 rfl) (hopsLine.unary V 78 rfl) (hopsLine.binary V 79 rfl) (hopsLine.nullary V 80 rfl) (hopsLine.unary V 81 rfl) (hopsLine.binary V 82 rfl) (hopsLine.binary V 83 rfl) (.inr (hopsLine.binary V 84 rfl))
  have p := round_of (x0 := hd V main_call0_v61) (x1 := hd V main_call0_v67) (y0 := hd V main_call0_v68) (y1 := hd V main_call0_v74) (a := hd V main_call0_v69) (l := hd V main_call0_v70) (b := hd V main_call0_v71) (m := hd V main_call0_v72) (t := hd V main_call0_v73) (c := hd V main_call0_c_16) (d := hd V main_call0_c_17) (r := 29#32) (q := 3#32) (h := bcast_S_S1048576) (ix1 n) p (hopsLine.binary V 85 rfl) (hopsLine.nullary V 86 rfl) (hopsLine.unary V 87 rfl) (hopsLine.binary V 88 rfl) (hopsLine.nullary V 89 rfl) (hopsLine.unary V 90 rfl) (hopsLine.binary V 91 rfl) (hopsLine.binary V 92 rfl) (.inr (hopsLine.binary V 93 rfl))
  have p := round_of (x0 := hd V main_call0_v68) (x1 := hd V main_call0_v74) (y0 := hd V main_call0_v75) (y1 := hd V main_call0_v81) (a := hd V main_call0_v76) (l := hd V main_call0_v77) (b := hd V main_call0_v78) (m := hd V main_call0_v79) (t := hd V main_call0_v80) (c := hd V main_call0_c_18) (d := hd V main_call0_c_19) (r := 16#32) (q := 16#32) (h := bcast_S_S1048576) (ix1 n) p (hopsLine.binary V 94 rfl) (hopsLine.nullary V 95 rfl) (hopsLine.unary V 96 rfl) (hopsLine.binary V 97 rfl) (hopsLine.nullary V 98 rfl) (hopsLine.unary V 99 rfl) (hopsLine.binary V 100 rfl) (hopsLine.binary V 101 rfl) (.inr (hopsLine.binary V 102 rfl))
  have p := round_of (x0 := hd V main_call0_v75) (x1 := hd V main_call0_v81) (y0 := hd V main_call0_v82) (y1 := hd V main_call0_v88) (a := hd V main_call0_v83) (l := hd V main_call0_v84) (b := hd V main_call0_v85) (m := hd V main_call0_v86) (t := hd V main_call0_v87) (c := hd V main_call0_c_20) (d := hd V main_call0_c_21) (r := 24#32) (q := 8#32) (h := bcast_S_S1048576) (ix1 n) p (hopsLine.binary V 103 rfl) (hopsLine.nullary V 104 rfl) (hopsLine.unary V 105 rfl) (hopsLine.binary V 106 rfl) (hopsLine.nullary V 107 rfl) (hopsLine.unary V 108 rfl) (hopsLine.binary V 109 rfl) (hopsLine.binary V 110 rfl) (.inr (hopsLine.binary V 111 rfl))
  have p := inj_of (x0 := hd V main_call0_v82) (x1 := hd V main_call0_v88) (y0 := hd V main_call0_v90) (y1 := hd V main_call0_v94) (a := hd V main_call0_v89) (b := hd V main_call0_v91) (z := hd V main_call0_v92) (c := hd V main_call0_v93) (ca := hd V main_call0_c_22) (cb := hd V main_call0_c_23) (cc := hd V main_call0_c_24) (ka := 466689008#32) (kb := 0#32) (kc := 2#32) (h := bcast_S_S1048576) (ix1 n) p (hopsLine.nullary V 112 rfl) (hopsLine.unary V 113 rfl) (hopsLine.binary V 114 rfl) (hopsLine.nullary V 115 rfl) (hopsLine.unary V 116 rfl) (hopsLine.binary V 117 rfl) (hopsLine.nullary V 118 rfl) (hopsLine.unary V 119 rfl) (hopsLine.binary V 120 rfl)
  have p := round_of (x0 := hd V main_call0_v90) (x1 := hd V main_call0_v94) (y0 := hd V main_call0_v95) (y1 := hd V main_call0_v101) (a := hd V main_call0_v96) (l := hd V main_call0_v97) (b := hd V main_call0_v98) (m := hd V main_call0_v99) (t := hd V main_call0_v100) (c := hd V main_call0_c_25) (d := hd V main_call0_c_26) (r := 13#32) (q := 19#32) (h := bcast_S_S1048576) (ix1 n) p (hopsLine.binary V 121 rfl) (hopsLine.nullary V 122 rfl) (hopsLine.unary V 123 rfl) (hopsLine.binary V 124 rfl) (hopsLine.nullary V 125 rfl) (hopsLine.unary V 126 rfl) (hopsLine.binary V 127 rfl) (hopsLine.binary V 128 rfl) (.inr (hopsLine.binary V 129 rfl))
  have p := round_of (x0 := hd V main_call0_v95) (x1 := hd V main_call0_v101) (y0 := hd V main_call0_v102) (y1 := hd V main_call0_v108) (a := hd V main_call0_v103) (l := hd V main_call0_v104) (b := hd V main_call0_v105) (m := hd V main_call0_v106) (t := hd V main_call0_v107) (c := hd V main_call0_c_27) (d := hd V main_call0_c_28) (r := 15#32) (q := 17#32) (h := bcast_S_S1048576) (ix1 n) p (hopsLine.binary V 130 rfl) (hopsLine.nullary V 131 rfl) (hopsLine.unary V 132 rfl) (hopsLine.binary V 133 rfl) (hopsLine.nullary V 134 rfl) (hopsLine.unary V 135 rfl) (hopsLine.binary V 136 rfl) (hopsLine.binary V 137 rfl) (.inr (hopsLine.binary V 138 rfl))
  have p := round_of (x0 := hd V main_call0_v102) (x1 := hd V main_call0_v108) (y0 := hd V main_call0_v109) (y1 := hd V main_call0_v115) (a := hd V main_call0_v110) (l := hd V main_call0_v111) (b := hd V main_call0_v112) (m := hd V main_call0_v113) (t := hd V main_call0_v114) (c := hd V main_call0_c_29) (d := hd V main_call0_c_30) (r := 26#32) (q := 6#32) (h := bcast_S_S1048576) (ix1 n) p (hopsLine.binary V 139 rfl) (hopsLine.nullary V 140 rfl) (hopsLine.unary V 141 rfl) (hopsLine.binary V 142 rfl) (hopsLine.nullary V 143 rfl) (hopsLine.unary V 144 rfl) (hopsLine.binary V 145 rfl) (hopsLine.binary V 146 rfl) (.inr (hopsLine.binary V 147 rfl))
  have p := round_of (x0 := hd V main_call0_v109) (x1 := hd V main_call0_v115) (y0 := hd V main_call0_v116) (y1 := hd V main_call0_v122) (a := hd V main_call0_v117) (l := hd V main_call0_v118) (b := hd V main_call0_v119) (m := hd V main_call0_v120) (t := hd V main_call0_v121) (c := hd V main_call0_c_31) (d := hd V main_call0_c_32) (r := 6#32) (q := 26#32) (h := bcast_S_S1048576) (ix1 n) p (hopsLine.binary V 148 rfl) (hopsLine.nullary V 149 rfl) (hopsLine.unary V 150 rfl) (hopsLine.binary V 151 rfl) (hopsLine.nullary V 152 rfl) (hopsLine.unary V 153 rfl) (hopsLine.binary V 154 rfl) (hopsLine.binary V 155 rfl) (.inr (hopsLine.binary V 156 rfl))
  have p := inj_of (x0 := hd V main_call0_v116) (x1 := hd V main_call0_v122) (y0 := hd V main_call0_v124) (y1 := hd V main_call0_v128) (a := hd V main_call0_v123) (b := hd V main_call0_v125) (z := hd V main_call0_v126) (c := hd V main_call0_v127) (ca := hd V main_call0_c_33) (cb := hd V main_call0_c_34) (cc := hd V main_call0_c_35) (ka := 0#32) (kb := 42#32) (kc := 3#32) (h := bcast_S_S1048576) (ix1 n) p (hopsLine.nullary V 157 rfl) (hopsLine.unary V 158 rfl) (hopsLine.binary V 159 rfl) (hopsLine.nullary V 160 rfl) (hopsLine.unary V 161 rfl) (hopsLine.binary V 162 rfl) (hopsLine.nullary V 163 rfl) (hopsLine.unary V 164 rfl) (hopsLine.binary V 165 rfl)
  have p := round_of (x0 := hd V main_call0_v124) (x1 := hd V main_call0_v128) (y0 := hd V main_call0_v129) (y1 := hd V main_call0_v135) (a := hd V main_call0_v130) (l := hd V main_call0_v131) (b := hd V main_call0_v132) (m := hd V main_call0_v133) (t := hd V main_call0_v134) (c := hd V main_call0_c_36) (d := hd V main_call0_c_37) (r := 17#32) (q := 15#32) (h := bcast_S_S1048576) (ix1 n) p (hopsLine.binary V 166 rfl) (hopsLine.nullary V 167 rfl) (hopsLine.unary V 168 rfl) (hopsLine.binary V 169 rfl) (hopsLine.nullary V 170 rfl) (hopsLine.unary V 171 rfl) (hopsLine.binary V 172 rfl) (hopsLine.binary V 173 rfl) (.inr (hopsLine.binary V 174 rfl))
  have p := round_of (x0 := hd V main_call0_v129) (x1 := hd V main_call0_v135) (y0 := hd V main_call0_v136) (y1 := hd V main_call0_v142) (a := hd V main_call0_v137) (l := hd V main_call0_v138) (b := hd V main_call0_v139) (m := hd V main_call0_v140) (t := hd V main_call0_v141) (c := hd V main_call0_c_38) (d := hd V main_call0_c_39) (r := 29#32) (q := 3#32) (h := bcast_S_S1048576) (ix1 n) p (hopsLine.binary V 175 rfl) (hopsLine.nullary V 176 rfl) (hopsLine.unary V 177 rfl) (hopsLine.binary V 178 rfl) (hopsLine.nullary V 179 rfl) (hopsLine.unary V 180 rfl) (hopsLine.binary V 181 rfl) (hopsLine.binary V 182 rfl) (.inr (hopsLine.binary V 183 rfl))
  have p := round_of (x0 := hd V main_call0_v136) (x1 := hd V main_call0_v142) (y0 := hd V main_call0_v143) (y1 := hd V main_call0_v149) (a := hd V main_call0_v144) (l := hd V main_call0_v145) (b := hd V main_call0_v146) (m := hd V main_call0_v147) (t := hd V main_call0_v148) (c := hd V main_call0_c_40) (d := hd V main_call0_c_41) (r := 16#32) (q := 16#32) (h := bcast_S_S1048576) (ix1 n) p (hopsLine.binary V 184 rfl) (hopsLine.nullary V 185 rfl) (hopsLine.unary V 186 rfl) (hopsLine.binary V 187 rfl) (hopsLine.nullary V 188 rfl) (hopsLine.unary V 189 rfl) (hopsLine.binary V 190 rfl) (hopsLine.binary V 191 rfl) (.inr (hopsLine.binary V 192 rfl))
  have p := round_of (x0 := hd V main_call0_v143) (x1 := hd V main_call0_v149) (y0 := hd V main_call0_v150) (y1 := hd V main_call0_v156) (a := hd V main_call0_v151) (l := hd V main_call0_v152) (b := hd V main_call0_v153) (m := hd V main_call0_v154) (t := hd V main_call0_v155) (c := hd V main_call0_c_42) (d := hd V main_call0_c_43) (r := 24#32) (q := 8#32) (h := bcast_S_S1048576) (ix1 n) p (hopsLine.binary V 193 rfl) (hopsLine.nullary V 194 rfl) (hopsLine.unary V 195 rfl) (hopsLine.binary V 196 rfl) (hopsLine.nullary V 197 rfl) (hopsLine.unary V 198 rfl) (hopsLine.binary V 199 rfl) (hopsLine.binary V 200 rfl) (.inr (hopsLine.binary V 201 rfl))
  have p := inj_of (x0 := hd V main_call0_v150) (x1 := hd V main_call0_v156) (y0 := hd V main_call0_v158) (y1 := hd V main_call0_v162) (a := hd V main_call0_v157) (b := hd V main_call0_v159) (z := hd V main_call0_v160) (c := hd V main_call0_v161) (ca := hd V main_call0_c_44) (cb := hd V main_call0_c_45) (cc := hd V main_call0_c_46) (ka := 42#32) (kb := 466689008#32) (kc := 4#32) (h := bcast_S_S1048576) (ix1 n) p (hopsLine.nullary V 202 rfl) (hopsLine.unary V 203 rfl) (hopsLine.binary V 204 rfl) (hopsLine.nullary V 205 rfl) (hopsLine.unary V 206 rfl) (hopsLine.binary V 207 rfl) (hopsLine.nullary V 208 rfl) (hopsLine.unary V 209 rfl) (hopsLine.binary V 210 rfl)
  have p := round_of (x0 := hd V main_call0_v158) (x1 := hd V main_call0_v162) (y0 := hd V main_call0_v163) (y1 := hd V main_call0_v169) (a := hd V main_call0_v164) (l := hd V main_call0_v165) (b := hd V main_call0_v166) (m := hd V main_call0_v167) (t := hd V main_call0_v168) (c := hd V main_call0_c_47) (d := hd V main_call0_c_48) (r := 13#32) (q := 19#32) (h := bcast_S_S1048576) (ix1 n) p (hopsLine.binary V 211 rfl) (hopsLine.nullary V 212 rfl) (hopsLine.unary V 213 rfl) (hopsLine.binary V 214 rfl) (hopsLine.nullary V 215 rfl) (hopsLine.unary V 216 rfl) (hopsLine.binary V 217 rfl) (hopsLine.binary V 218 rfl) (.inr (hopsLine.binary V 219 rfl))
  have p := round_of (x0 := hd V main_call0_v163) (x1 := hd V main_call0_v169) (y0 := hd V main_call0_v170) (y1 := hd V main_call0_v176) (a := hd V main_call0_v171) (l := hd V main_call0_v172) (b := hd V main_call0_v173) (m := hd V main_call0_v174) (t := hd V main_call0_v175) (c := hd V main_call0_c_49) (d := hd V main_call0_c_50) (r := 15#32) (q := 17#32) (h := bcast_S_S1048576) (ix1 n) p (hopsLine.binary V 220 rfl) (hopsLine.nullary V 221 rfl) (hopsLine.unary V 222 rfl) (hopsLine.binary V 223 rfl) (hopsLine.nullary V 224 rfl) (hopsLine.unary V 225 rfl) (hopsLine.binary V 226 rfl) (hopsLine.binary V 227 rfl) (.inr (hopsLine.binary V 228 rfl))
  have p := round_of (x0 := hd V main_call0_v170) (x1 := hd V main_call0_v176) (y0 := hd V main_call0_v177) (y1 := hd V main_call0_v183) (a := hd V main_call0_v178) (l := hd V main_call0_v179) (b := hd V main_call0_v180) (m := hd V main_call0_v181) (t := hd V main_call0_v182) (c := hd V main_call0_c_51) (d := hd V main_call0_c_52) (r := 26#32) (q := 6#32) (h := bcast_S_S1048576) (ix1 n) p (hopsLine.binary V 229 rfl) (hopsLine.nullary V 230 rfl) (hopsLine.unary V 231 rfl) (hopsLine.binary V 232 rfl) (hopsLine.nullary V 233 rfl) (hopsLine.unary V 234 rfl) (hopsLine.binary V 235 rfl) (hopsLine.binary V 236 rfl) (.inr (hopsLine.binary V 237 rfl))
  have p := round_of (x0 := hd V main_call0_v177) (x1 := hd V main_call0_v183) (y0 := hd V main_call0_v184) (y1 := hd V main_call0_v190) (a := hd V main_call0_v185) (l := hd V main_call0_v186) (b := hd V main_call0_v187) (m := hd V main_call0_v188) (t := hd V main_call0_v189) (c := hd V main_call0_c_53) (d := hd V main_call0_c_54) (r := 6#32) (q := 26#32) (h := bcast_S_S1048576) (ix1 n) p (hopsLine.binary V 238 rfl) (hopsLine.nullary V 239 rfl) (hopsLine.unary V 240 rfl) (hopsLine.binary V 241 rfl) (hopsLine.nullary V 242 rfl) (hopsLine.unary V 243 rfl) (hopsLine.binary V 244 rfl) (hopsLine.binary V 245 rfl) (.inr (hopsLine.binary V 246 rfl))
  have p := inj_of (x0 := hd V main_call0_v184) (x1 := hd V main_call0_v190) (y0 := hd V main_call0_v192) (y1 := hd V main_call0_v196) (a := hd V main_call0_v191) (b := hd V main_call0_v193) (z := hd V main_call0_v194) (c := hd V main_call0_v195) (ca := hd V main_call0_c_55) (cb := hd V main_call0_c_56) (cc := hd V main_call0_c_57) (ka := 466689008#32) (kb := 0#32) (kc := 5#32) (h := bcast_S_S1048576) (ix1 n) p (hopsLine.nullary V 247 rfl) (hopsLine.unary V 248 rfl) (hopsLine.binary V 249 rfl) (hopsLine.nullary V 250 rfl) (hopsLine.unary V 251 rfl) (hopsLine.binary V 252 rfl) (hopsLine.nullary V 253 rfl) (hopsLine.unary V 254 rfl) (hopsLine.binary V 255 rfl)
  exact Noise.word_of _ (congrFun (hopsLine.binary V 256 rfl) (ix1 n)) p

end Cert.KernelIdeal.Hand

end
-- ==== Proof.GraphRead.lean ====
module

public import proofs.«01_k».proof.Proof.GraphDef
public import proofs.«01_k».proof.Proof.Reads
public import Idealize.ShloMosaic.Lib.ValueLayout

@[expose] public section

set_option maxRecDepth 16384

noncomputable section

/-! One head of one graph of the kernel at an index, as the mathematics of `Spec`. -/

namespace Cert.KernelIdeal.Hand

open Cert.KernelIdeal.Gen Cert.Spec Idealize.ShloMosaic

section Pair

variable {α : Type} {m n k c : ℕ}

/-- Two arrays one above the other, at a row of the first. -/
theorem above (x₁ : (⟨2, ![m, c]⟩ : Shape).Idx → α) (x₂ : (⟨2, ![n, c]⟩ : Shape).Idx → α) (h) (i : Fin m) (j : Fin c) (q : Fin k) (hq : q.val = i.val) :
    concatenate ⟨2, ![k, c]⟩ 0 [⟨⟨2, ![m, c]⟩, x₁⟩, ⟨⟨2, ![n, c]⟩, x₂⟩] h (ix2 q j) = x₁ (ix2 i j) :=
  concatenate_pair_apply_left (s₁ := ⟨2, ![m, c]⟩) (s₂ := ⟨2, ![n, c]⟩) (t := ⟨2, ![k, c]⟩) 0 x₁ x₂ h (ix2 q j) rfl (ix2 i j)
    (Fin.forall_fin_two.2 ⟨hq.symm, rfl⟩)

/-- Two arrays one above the other, at a row of the second. -/
theorem below (x₁ : (⟨2, ![m, c]⟩ : Shape).Idx → α) (x₂ : (⟨2, ![n, c]⟩ : Shape).Idx → α) (h) (i : Fin n) (j : Fin c) (q : Fin k) (hq : q.val = m + i.val) :
    concatenate ⟨2, ![k, c]⟩ 0 [⟨⟨2, ![m, c]⟩, x₁⟩, ⟨⟨2, ![n, c]⟩, x₂⟩] h (ix2 q j) = x₂ (ix2 i j) :=
  concatenate_pair_apply_right (s₁ := ⟨2, ![m, c]⟩) (s₂ := ⟨2, ![n, c]⟩) (t := ⟨2, ![k, c]⟩) 0 x₁ x₂ h (ix2 q j) rfl rfl (ix2 i j)
    (Fin.forall_fin_two.2 ⟨fun ha => absurd rfl ha, fun _ => rfl⟩) ((Nat.add_comm _ _).trans hq.symm)

/-- Two arrays side by side, at a column of the first. -/
theorem leftOf (x₁ : (⟨2, ![c, m]⟩ : Shape).Idx → α) (x₂ : (⟨2, ![c, n]⟩ : Shape).Idx → α) (h) (i : Fin m) (j : Fin c) (q : Fin k) (hq : q.val = i.val) :
    concatenate ⟨2, ![c, k]⟩ 1 [⟨⟨2, ![c, m]⟩, x₁⟩, ⟨⟨2, ![c, n]⟩, x₂⟩] h (ix2 j q) = x₁ (ix2 j i) :=
  concatenate_pair_apply_left (s₁ := ⟨2, ![c, m]⟩) (s₂ := ⟨2, ![c, n]⟩) (t := ⟨2, ![c, k]⟩) 1 x₁ x₂ h (ix2 j q) rfl (ix2 j i)
    (Fin.forall_fin_two.2 ⟨rfl, hq.symm⟩)

/-- Two arrays side by side, at a column of the second. -/
theorem rightOf (x₁ : (⟨2, ![c, m]⟩ : Shape).Idx → α) (x₂ : (⟨2, ![c, n]⟩ : Shape).Idx → α) (h) (i : Fin n) (j : Fin c) (q : Fin k) (hq : q.val = m + i.val) :
    concatenate ⟨2, ![c, k]⟩ 1 [⟨⟨2, ![c, m]⟩, x₁⟩, ⟨⟨2, ![c, n]⟩, x₂⟩] h (ix2 j q) = x₂ (ix2 j i) :=
  concatenate_pair_apply_right (s₁ := ⟨2, ![c, m]⟩) (s₂ := ⟨2, ![c, n]⟩) (t := ⟨2, ![c, k]⟩) 1 x₁ x₂ h (ix2 j q) rfl rfl (ix2 j i)
    (Fin.forall_fin_two.2 ⟨fun _ => rfl, fun ha => absurd rfl ha⟩) ((Nat.add_comm _ _).trans hq.symm)

end Pair

/-- The first half of the nodes. -/
def lo (i : Fin 128) : Fin 256 := ⟨i.val, by have := i.isLt; omega⟩

/-- The second half of the nodes. -/
def hi (i : Fin 128) : Fin 256 := ⟨128 + i.val, by have := i.isLt; omega⟩

/-- A node is in one of the halves. -/
theorem halves (j : Fin 256) : (∃ i, j = lo i) ∨ ∃ i, j = hi i := by
  by_cases h : j.val < 128
  · exact .inl ⟨⟨j.val, h⟩, rfl⟩
  · exact .inr ⟨⟨j.val - 128, by have := j.isLt; omega⟩, Fin.ext (by show j.val = 128 + (j.val - 128); omega)⟩

theorem sum_halves (f : Fin 256 → EReal) : ∑ i, f i = (∑ i, f (lo i)) + ∑ i, f (hi i) :=
  Fin.sum_univ_add (a := 128) (b := 128) f

theorem sup_halves (f : Fin 256 → EReal) : Finset.univ.sup f = max (Finset.univ.sup fun i => f (lo i)) (Finset.univ.sup fun i => f (hi i)) := by
  refine le_antisymm (Finset.sup_le fun j _ => ?_) (max_le (Finset.sup_le fun i _ => ?_) (Finset.sup_le fun i _ => ?_))
  · rcases halves j with ⟨i, rfl⟩ | ⟨i, rfl⟩
    · exact le_max_of_le_left (Finset.le_sup (f := fun i => f (lo i)) (Finset.mem_univ i))
    · exact le_max_of_le_right (Finset.le_sup (f := fun i => f (hi i)) (Finset.mem_univ i))
  · exact Finset.le_sup (Finset.mem_univ _)
  · exact Finset.le_sup (Finset.mem_univ _)

/-- A choice by a comparison's bit is a choice by the comparison. -/
theorem pick_bit {α : Type} (p : Prop) [Decidable p] (a b : α) : Scalar.select (BitVec.ofBool (decide p)) a b = if p then a else b := by
  unfold Scalar.select
  by_cases h : p <;> simp [h]

/-- Comparing two small numbers' words compares the numbers. -/
theorem sle_small {n : ℕ} (hn : n ≤ 2 ^ 31) (i j : Fin n) : (BitVec.ofNat 32 i.val).sle (BitVec.ofNat 32 j.val) = decide (i ≤ j) := by
  rw [Bool.eq_iff_iff, BitVec.sle_iff_toInt_le, decide_eq_true_iff, Reads.small_toInt _ (by have := i.isLt; omega), Reads.small_toInt _ (by have := j.isLt; omega)]
  exact Int.ofNat_le

theorem triMask_apply (i j : Fin 128) : triMask (F := Ideal) (ix2 i j) = if i ≤ j then 0 else ⊥ := by
  have h1 : iota .tc S128x128 32 [0] iota_S128x128_d0_w32 (ix2 i j) = BitVec.ofNat 32 i.val := iota_single_apply ..
  have h2 : iota .tc S128x128 32 [1] iota_S128x128_d1_w32 (ix2 i j) = BitVec.ofNat 32 j.val := iota_single_apply ..
  show Scalar.select (BitVec.ofBool ((iota .tc S128x128 32 [0] iota_S128x128_d0_w32 (ix2 i j)).sle (iota .tc S128x128 32 [1] iota_S128x128_d1_w32 (ix2 i j))))
    (Ideal.ofBits .f32 0x00000000#32) (Ideal.ofBits .f32 0xFF800000#32) = _
  rw [h1, h2, sle_small (by norm_num), pick_bit, Ideal.ofBits_zero_f32, ofBits_minus_inf]

theorem loMask_apply (i : Fin 128) (j : Fin 256) : loMask (F := Ideal) (ix2 i j) = if lo i ≤ j then 0 else ⊥ := by
  rcases halves j with ⟨k, rfl⟩ | ⟨k, rfl⟩
  · refine (leftOf _ _ _ k _ (lo k) rfl).trans ?_
    rw [triMask_apply]
    rfl
  · refine (rightOf _ _ _ k _ (hi k) rfl).trans ?_
    rw [if_pos (by have := i.isLt; show i.val ≤ 128 + k.val; omega)]
    exact Ideal.ofBits_zero_f32

/-- The leaky activation and the mask. -/
theorem leaky_mask (s k : EReal) (p : Prop) [Decidable p] (hk : k = if p then 0 else ⊥) :
    Scalar.select (BitVec.ofBool (decide (Ideal.ofBits .f32 0x00000000#32 ≤ s))) s (Ideal.ofBits .f32 0x3E4CCCCD#32 * s) + k = if p then leaky s else ⊥ := by
  rw [pick_bit, hk, Ideal.ofBits_zero_f32]
  by_cases h : p
  · rw [if_pos h, if_pos h, add_zero]; rfl
  · rw [if_neg h, if_neg h, EReal.add_bot]

section Head

variable (cl ch : FVec Ideal S128x1 .f32) (ar : FVec Ideal S1x256 .f32) (xhh : FVec Ideal S256x32 .f32)
variable (a d : Fin 256 → EReal)

theorem scoreLo_apply (hl : ∀ i, cl (ix2 i 0) = a (lo i)) (hd : ∀ j, ar (ix2 0 j) = d j) (i : Fin 128) (j : Fin 256) :
    scoreLo cl ar (ix2 i j) = score a d (lo i) j := by
  have hs : addf (broadcastTo S128x256 cl broadcasts_S128x1_S128x256) (broadcastTo S128x256 ar broadcasts_S1x256_S128x256) (ix2 i j) = a (lo i) + d j := by
    refine congrArg₂ (· + ·) ?_ ?_
    · exact (broadcastTo_apply _ _ _ (ix2 i 0) (by intro a; fin_cases a <;> rfl)).trans (hl i)
    · exact (broadcastTo_apply _ _ _ (ix2 0 j) (by intro a; fin_cases a <;> rfl)).trans (hd j)
  have h := leaky_mask (addf (broadcastTo S128x256 cl broadcasts_S128x1_S128x256) (broadcastTo S128x256 ar broadcasts_S1x256_S128x256) (ix2 i j)) _ _ (loMask_apply i j)
  rw [hs] at h
  refine Eq.trans ?_ h
  rw [← hs]
  rfl

theorem scoreHi_apply (hh : ∀ i, ch (ix2 i 0) = a (hi i)) (hd : ∀ j, ar (ix2 0 j) = d j) (i j : Fin 128) :
    scoreHi ch ar (ix2 i j) = score a d (hi i) (hi j) := by
  have hs : addf (broadcastTo S128x128 ch broadcasts_S128x1_S128x128)
      (broadcastTo S128x128 (extractStridedSlice S1x128 ![0, 128] ar slices_S1x256_o0_128_S1x128) broadcasts_S1x128_S128x128) (ix2 i j) = a (hi i) + d (hi j) := by
    refine congrArg₂ (· + ·) ?_ ?_
    · exact (broadcastTo_apply _ _ _ (ix2 i 0) (by intro a; fin_cases a <;> rfl)).trans (hh i)
    · refine (broadcastTo_apply _ _ _ (ix2 0 j) (by intro a; fin_cases a <;> rfl)).trans ?_
      exact (extractStridedSlice_apply _ _ _ _ (ix2 0 (hi j)) (by intro a; fin_cases a <;> rfl)).trans (hd _)
  have hm : triMask (F := Ideal) (ix2 i j) = if hi i ≤ hi j then 0 else ⊥ := by
    rw [triMask_apply]
    have : i ≤ j ↔ hi i ≤ hi j := by show i.val ≤ j.val ↔ 128 + i.val ≤ 128 + j.val; omega
    simp only [this]
  have h := leaky_mask (addf (broadcastTo S128x128 ch broadcasts_S128x1_S128x128)
      (broadcastTo S128x128 (extractStridedSlice S1x128 ![0, 128] ar slices_S1x256_o0_128_S1x128) broadcasts_S1x128_S128x128) (ix2 i j)) _ _ hm
  rw [hs] at h
  refine Eq.trans ?_ h
  rw [← hs]
  rfl

theorem colMax_apply (l : FVec Ideal S128x256 .f32) (u : FVec Ideal S128x128 .f32) (hl : ∀ i j, l (ix2 i j) = score a d (lo i) j)
    (hu : ∀ i j, u (ix2 i j) = score a d (hi i) (hi j)) (j : Fin 256) : colMax l u (ix2 0 j) = top a d j := by
  have hcl : ∀ j, shapeCast S1x256 (multiReduction .maximumf [0] S256 l 0xFF800000#32 reduces_S128x256_S256 (.inl rfl) rfl) shapeCasts_S256_S1x256 (ix2 0 j)
      = Finset.univ.sup fun i => score a d (lo i) j := fun j => by
    refine (shapeCast_apply _ _ _ (ix1 j) ?_).trans ?_
    · rw [Shape.rowMajor_val_one, Shape.rowMajor_val_two]; show j.val = 0 * 256 + j.val; omega
    refine (Reads.mmax l reduces_S128x256_S256 _ _ (ix1 j) (fun i => ix2 i j) (by intro k b; fin_cases b <;> rfl)).trans ?_
    exact congrArg _ (funext fun i => hl i j)
  have hch : ∀ j, shapeCast S1x128 (multiReduction .maximumf [0] S128 u 0xFF800000#32 reduces_S128x128_S128 (.inl rfl) rfl) shapeCasts_S128_S1x128 (ix2 0 j)
      = Finset.univ.sup fun i => score a d (hi i) (hi j) := fun j => by
    refine (shapeCast_apply _ _ _ (ix1 j) ?_).trans ?_
    · rw [Shape.rowMajor_val_one, Shape.rowMajor_val_two]; show j.val = 0 * 128 + j.val; omega
    refine (Reads.mmax u reduces_S128x128_S128 _ _ (ix1 j) (fun i => ix2 i j) (by intro k b; fin_cases b <;> rfl)).trans ?_
    exact congrArg _ (funext fun i => hu i j)
  unfold top
  rw [sup_halves]
  rcases halves j with ⟨k, rfl⟩ | ⟨k, rfl⟩
  · refine (leftOf _ _ concatenates_S1x128_S1x128_S1x256_d1 k _ (lo k) rfl).trans ?_
    refine (extractStridedSlice_apply _ _ _ _ (ix2 0 (lo k)) (by intro a; fin_cases a <;> first | rfl | exact (Nat.zero_add _).symm)).trans ?_
    rw [hcl]
    have : (Finset.univ.sup fun i => score a d (hi i) (lo k)) = ⊥ := by
      refine le_bot_iff.1 (Finset.sup_le fun i _ => ?_)
      unfold score
      rw [if_neg (by have := k.isLt; show ¬ 128 + i.val ≤ k.val; omega)]
    rw [this, max_eq_left bot_le]
  · refine (rightOf _ _ concatenates_S1x128_S1x128_S1x256_d1 k _ (hi k) rfl).trans ?_
    refine congrArg₂ max ?_ (hch k)
    exact (extractStridedSlice_apply _ _ _ _ (ix2 0 (hi k)) (by intro a; fin_cases a <;> rfl)).trans (hcl _)

theorem withOnes_left (i : Fin 256) (e : Fin 32) : withOnes xhh (ix2 i (⟨e.val, by have := e.isLt; omega⟩ : Fin 33)) = xhh (ix2 i e) :=
  leftOf _ _ _ e _ _ rfl

theorem withOnes_right (i : Fin 256) : withOnes xhh (ix2 i (⟨32, by omega⟩ : Fin 33)) = (1 : EReal) :=
  (rightOf _ _ _ (0 : Fin 1) i (⟨32, by omega⟩ : Fin 33) rfl).trans Ideal.ofBits_one_f32

theorem headSum_apply (l : FVec Ideal S128x256 .f32) (u : FVec Ideal S128x128 .f32) (mx : FVec Ideal S1x256 .f32) (xo : FVec Ideal S256x33 .f32)
    (hl : ∀ i j, l (ix2 i j) = score a d (lo i) j) (hu : ∀ i j, u (ix2 i j) = score a d (hi i) (hi j)) (hm : ∀ j, mx (ix2 0 j) = top a d j)
    (j : Fin 256) (e : Fin 33) : headSum l u mx xo (ix2 j e) = ∑ i, wt a d i j * xo (ix2 i e) := by
  rw [sum_halves]
  refine congrArg₂ (· + ·) ?_ ?_
  · refine (Reads.mm _ 128 rfl rfl _ _ _ _ (fun i => ix2 i j) (fun i => ix2 i e) (by intro k a; fin_cases a <;> rfl) (by intro k a; fin_cases a <;> rfl)).trans ?_
    refine Finset.sum_congr rfl fun i _ => congrArg₂ (· * ·) (congrArg Ideal.exp (congrArg₂ (· - ·) (hl i j) ?_)) ?_
    · exact (broadcastTo_apply _ _ _ (ix2 0 j) (by intro a; fin_cases a <;> rfl)).trans (hm j)
    · exact extractStridedSlice_apply _ _ _ _ (ix2 (lo i) e) (by intro a; fin_cases a <;> exact (Nat.zero_add _).symm)
  · rcases halves j with ⟨k, rfl⟩ | ⟨k, rfl⟩
    · refine (above _ _ _ k _ (lo k) rfl).trans ?_
      refine Ideal.ofBits_zero_f32.trans (Finset.sum_eq_zero fun i _ => ?_).symm
      rw [wt_eq_zero a d (by have := k.isLt; show ¬ 128 + i.val ≤ k.val; omega), zero_mul]
    · refine (below _ _ _ k _ (hi k) rfl).trans ?_
      refine (Reads.mm _ 128 rfl rfl _ _ _ _ (fun i => ix2 i k) (fun i => ix2 i e) (by intro k a; fin_cases a <;> rfl) (by intro k a; fin_cases a <;> rfl)).trans ?_
      refine Finset.sum_congr rfl fun i _ => congrArg₂ (· * ·) (congrArg Ideal.exp (congrArg₂ (· - ·) (hu i k) ?_)) ?_
      · refine (broadcastTo_apply _ _ _ (ix2 0 k) (by intro a; fin_cases a <;> rfl)).trans ?_
        exact (extractStridedSlice_apply _ _ _ _ (ix2 0 (hi k)) (by intro a; fin_cases a <;> rfl)).trans (hm _)
      · exact extractStridedSlice_apply _ _ _ _ (ix2 (hi i) e) (by intro a; fin_cases a <;> first | rfl | exact (Nat.zero_add _).symm)

theorem headNorm_apply (s : FVec Ideal S256x33 .f32) (j : Fin 256) (e : Fin 32) :
    headNorm s (ix2 j e) = s (ix2 j (⟨e.val, by have := e.isLt; omega⟩ : Fin 33)) * Ideal.div 1 (s (ix2 j (⟨32, by omega⟩ : Fin 33)) + eps) := by
  refine congrArg₂ (· * ·) ?_ ?_
  · exact extractStridedSlice_apply _ _ _ _ _ (by intro a; fin_cases a <;> exact (Nat.zero_add _).symm)
  · refine (broadcastTo_apply _ _ _ (ix2 j 0) (by intro a; fin_cases a <;> rfl)).trans ?_
    refine congrArg₂ Ideal.div Ideal.ofBits_one_f32 (congrArg₂ (· + ·) ?_ rfl)
    exact extractStridedSlice_apply _ _ _ _ _ (by intro a; fin_cases a <;> first | rfl | exact (Nat.zero_add _).symm)

/-- One head of one graph is the weighted mean of its features. -/
theorem headOut_apply (hl : ∀ i, cl (ix2 i 0) = a (lo i)) (hh : ∀ i, ch (ix2 i 0) = a (hi i)) (hd : ∀ j, ar (ix2 0 j) = d j) (j : Fin 256) (e : Fin 32) :
    headOut xhh cl ch ar (ix2 j e) = aggK (fun i => xhh (ix2 i e)) a d j := by
  have h1 := scoreLo_apply cl ar a d hl hd
  have h2 := scoreHi_apply ch ar a d hh hd
  have h3 := colMax_apply a d _ _ h1 h2
  have h4 := headSum_apply a d _ _ _ (withOnes xhh) h1 h2 h3
  refine (headNorm_apply _ j e).trans ?_
  rw [h4, h4]
  simp only [withOnes_left, withOnes_right]
  rfl

end Head

end Cert.KernelIdeal.Hand

end
-- ==== Proof.GraphSum.lean ====
module

public import proofs.«01_k».proof.Proof.GraphRead

@[expose] public section

set_option maxRecDepth 16384

noncomputable section

/-! One whole graph of the kernel at an index, as the mathematics of `Spec`. -/

namespace Cert.KernelIdeal.Hand

open Cert.KernelIdeal.Gen Cert.Spec Idealize.ShloMosaic

/-- The lane of a head's channel. -/
def lane (h : Fin 4) (d : Fin 32) : Fin 128 := ⟨32 * h.val + d.val, by have := h.isLt; have := d.isLt; omega⟩

/-- The column of a head's source score. -/
def srcCol (h : Fin 4) : Fin 8 := ⟨h.val, by have := h.isLt; omega⟩

/-- The column of a head's target score. -/
def dstCol (h : Fin 4) : Fin 8 := ⟨4 + h.val, by have := h.isLt; omega⟩

theorem scoreCols_apply (x : FVec Ideal S256x128 .f32) (p : FVec Ideal S128x8 .f32) (i : Fin 256) (c : Fin 8) :
    scoreCols x p (ix2 i c) = ∑ k : Fin 128, x (ix2 i k) * p (ix2 k c) := by
  refine (Reads.mm _ 128 rfl rfl _ _ _ _ (fun k => ix2 i k) (fun k => ix2 k c) (by intro k a; fin_cases a <;> rfl) (by intro k a; fin_cases a <;> rfl)).trans ?_
  exact Finset.sum_congr rfl fun k _ => congrArg₂ (· * ·) rfl (shapeCast_apply _ _ _ _ rfl)

theorem scoreRows_apply (x : FVec Ideal S256x128 .f32) (p : FVec Ideal S128x8 .f32) (i : Fin 256) (c : Fin 8) :
    scoreRows x p (ix2 c i) = ∑ k : Fin 128, p (ix2 k c) * x (ix2 i k) := by
  refine (Reads.mm _ 128 rfl rfl _ _ _ _ (fun k => ix2 k c) (fun k => ix2 i k) (by intro k a; fin_cases a <;> rfl) (by intro k a; fin_cases a <;> rfl)).trans ?_
  exact Finset.sum_congr rfl fun k _ => congrArg₂ (· * ·) (shapeCast_apply _ _ _ _ rfl) rfl

/-- A head of a graph, its parts cut out of the features and of the scores. -/
theorem headCut (x : FVec Ideal S256x128 .f32) (p : FVec Ideal S128x8 .f32) (h : Fin 4) {n1 n2 n4 : ℕ}
    (s1 : (S256x128).Slices ![0, n1] S256x32) (s2 : (S256x8).Slices ![0, n2] S128x1) (s3 : (S256x8).Slices ![128, n2] S128x1)
    (s4 : (S8x256).Slices ![n4, 0] S1x256) (h1 : n1 = 32 * h.val) (h2 : n2 = h.val) (h4 : n4 = 4 + h.val) (j : Fin 256) (e : Fin 32) :
    headOut (extractStridedSlice S256x32 ![0, n1] x s1) (extractStridedSlice S128x1 ![0, n2] (scoreCols x p) s2)
        (extractStridedSlice S128x1 ![128, n2] (scoreCols x p) s3) (extractStridedSlice S1x256 ![n4, 0] (scoreRows x p) s4) (ix2 j e)
      = aggK (fun i => x (ix2 i (lane h e))) (fun i => ∑ k : Fin 128, x (ix2 i k) * p (ix2 k (srcCol h)))
          (fun j => ∑ k : Fin 128, p (ix2 k (dstCol h)) * x (ix2 j k)) j := by
  subst h1 h2 h4
  refine (headOut_apply _ _ _ _ (fun i => ∑ k : Fin 128, x (ix2 i k) * p (ix2 k (srcCol h))) (fun j => ∑ k : Fin 128, p (ix2 k (dstCol h)) * x (ix2 j k)) ?_ ?_ ?_ j e).trans ?_
  · intro i
    exact (extractStridedSlice_apply _ _ _ _ (ix2 (lo i) (srcCol h)) (by intro a; fin_cases a <;> first | rfl | exact (Nat.zero_add _).symm)).trans (scoreCols_apply x p _ _)
  · intro i
    exact (extractStridedSlice_apply _ _ _ _ (ix2 (hi i) (srcCol h)) (by intro a; fin_cases a <;> first | rfl | exact (Nat.zero_add _).symm)).trans (scoreCols_apply x p _ _)
  · intro i
    exact (extractStridedSlice_apply _ _ _ _ (ix2 (dstCol h) i) (by intro a; fin_cases a <;> first | rfl | exact (Nat.zero_add _).symm)).trans (scoreRows_apply x p _ _)
  · refine congrArg (fun f => aggK f _ _ j) (funext fun i => ?_)
    exact extractStridedSlice_apply _ _ _ _ (ix2 i (lane h e)) (by intro a; fin_cases a <;> first | rfl | exact (Nat.zero_add _).symm)

/-- Four arrays side by side, at a column of one of them. -/
theorem four {α : Type} (x0 x1 x2 x3 : S256x32.Idx → α) (h) (j : Fin 256) (g : Fin 4) (e : Fin 32) :
    concatenate S256x128 1 [⟨S256x32, x0⟩, ⟨S256x32, x1⟩, ⟨S256x32, x2⟩, ⟨S256x32, x3⟩] h (ix2 j (lane g e)) = (![x0, x1, x2, x3] g) (ix2 j e) :=
  concatenate_ofFn_apply (t := S256x128) (s₁ := S256x32) 1 ![x0, x1, x2, x3] h rfl 32 rfl (ix2 j (lane g e)) g
    (by show (32 * g.val + e.val) / 32 = g.val; have := e.isLt; omega) (ix2 j e) (by show e.val = (32 * g.val + e.val) % 32; have := e.isLt; omega)
    (Fin.forall_fin_two.2 ⟨fun _ => rfl, fun ha => absurd rfl ha⟩)

/-- The four heads side by side, at a head's channel. -/
theorem graphAgg_apply (x : FVec Ideal S256x128 .f32) (p : FVec Ideal S128x8 .f32) (j : Fin 256) (h : Fin 4) (e : Fin 32) :
    graphAgg x p (ix2 j (lane h e)) = aggK (fun i => x (ix2 i (lane h e))) (fun i => ∑ k : Fin 128, x (ix2 i k) * p (ix2 k (srcCol h)))
      (fun j => ∑ k : Fin 128, p (ix2 k (dstCol h)) * x (ix2 j k)) j := by
  have hh : h = 0 ∨ h = 1 ∨ h = 2 ∨ h = 3 := by fin_cases h <;> decide
  rcases hh with rfl | rfl | rfl | rfl
  · exact (four _ _ _ _ concatenates_S256x32_S256x32_S256x32_S256x32_S256x128_d1 j 0 e).trans (headCut x p 0 _ _ _ _ rfl rfl rfl j e)
  · exact (four _ _ _ _ concatenates_S256x32_S256x32_S256x32_S256x32_S256x128_d1 j 1 e).trans (headCut x p 1 _ _ _ _ rfl rfl rfl j e)
  · exact (four _ _ _ _ concatenates_S256x32_S256x32_S256x32_S256x32_S256x128_d1 j 2 e).trans (headCut x p 2 _ _ _ _ rfl rfl rfl j e)
  · exact (four _ _ _ _ concatenates_S256x32_S256x32_S256x32_S256x32_S256x128_d1 j 3 e).trans (headCut x p 3 _ _ _ _ rfl rfl rfl j e)

theorem graphZ_apply (a : FVec Ideal S256x128 .f32) (gb : FVec Ideal S1x128 .f32) (wl : FVec Ideal S256x128 .f32) (bl : FVec Ideal S1x256 .f32)
    (g : FVec Ideal S1x256x256 .f32) (i j : Fin 256) :
    graphZ a gb wl bl g (ix2 i j) = lin (fun i k => elu (a (ix2 i k) + gb (ix2 0 k))) (fun j k => wl (ix2 j k)) (fun j => bl (ix2 0 j)) i j + g (ix3 0 i j) := by
  refine congrArg₂ (· + ·) (congrArg₂ (· + ·) ?_ ?_) ?_
  · refine (Reads.mm _ 128 rfl rfl _ _ _ _ (fun k => ix2 i k) (fun k => ix2 j k) (by intro k a; fin_cases a <;> rfl) (by intro k a; fin_cases a <;> rfl)).trans ?_
    refine Finset.sum_congr rfl fun k _ => congrArg₂ (· * ·) ?_ rfl
    have ho : addf a (broadcastTo S256x128 (shapeCast S1x128 gb shapeCasts_S1x128_S1x128) broadcasts_S1x128_S256x128) (ix2 i k) = a (ix2 i k) + gb (ix2 0 k) :=
      congrArg₂ (· + ·) rfl ((broadcastTo_apply _ _ _ (ix2 0 k) (by intro a; fin_cases a <;> rfl)).trans (shapeCast_apply _ _ _ _ rfl))
    refine Eq.trans ?_ (congrArg elu ho)
    show Scalar.select (BitVec.ofBool (decide (Ideal.ofBits .f32 0x00000000#32 < addf a (broadcastTo S256x128 (shapeCast S1x128 gb shapeCasts_S1x128_S1x128) broadcasts_S1x128_S256x128) (ix2 i k))))
      (addf a (broadcastTo S256x128 (shapeCast S1x128 gb shapeCasts_S1x128_S1x128) broadcasts_S1x128_S256x128) (ix2 i k))
      (Ideal.exp (min (addf a (broadcastTo S256x128 (shapeCast S1x128 gb shapeCasts_S1x128_S1x128) broadcasts_S1x128_S256x128) (ix2 i k)) (Ideal.ofBits .f32 0x00000000#32)) - Ideal.ofBits .f32 0x3F800000#32) = elu _
    rw [pick_bit, Ideal.ofBits_zero_f32, Ideal.ofBits_one_f32]
    rfl
  · exact (broadcastTo_apply _ _ _ (ix2 0 j) (by intro a; fin_cases a <;> rfl)).trans (shapeCast_apply _ _ _ _ rfl)
  · refine shapeCast_apply _ _ _ (ix3 0 i j) ?_
    rw [Shape.rowMajor_val_two, Shape.rowMajor_val_three]
    show (0 * 256 + i.val) * 256 + j.val = i.val * 256 + j.val
    omega

/-- The place of each row's largest element. -/
theorem least_apply (z : FVec Ideal S256x256 .f32) (i : Fin 256) : ∃ k : Fin 256,
    multiReductionI .minsi [1] S256 (select (cmpf .oeq z (broadcastTo S256x256 (shapeCast S256x1 (multiReduction .maximumf [1] S256 z 0xFF800000#32 reduces_S256x256_S256 (.inl rfl) rfl)
      shapeCasts_S256_S256x1) broadcasts_S256x1_S256x256)) (iota .tc S256x256 32 [1] iota_S256x256_d1_w32) (broadcast S256x256 256#32)) 2147483647#32 reduces_S256x256_S256 rfl (ix1 i)
      = BitVec.ofNat 32 k.val ∧ First (fun k => z (ix2 i k)) k := by
  have hs : ∀ k, select (cmpf .oeq z (broadcastTo S256x256 (shapeCast S256x1 (multiReduction .maximumf [1] S256 z 0xFF800000#32 reduces_S256x256_S256 (.inl rfl) rfl)
      shapeCasts_S256_S256x1) broadcasts_S256x1_S256x256)) (iota .tc S256x256 32 [1] iota_S256x256_d1_w32) (broadcast S256x256 256#32) (ix2 i k)
      = if z (ix2 i k) = Finset.univ.sup (fun k => z (ix2 i k)) then BitVec.ofNat 32 k.val else BitVec.ofNat 32 256 := fun k => by
    have hm : broadcastTo S256x256 (shapeCast S256x1 (multiReduction .maximumf [1] S256 z 0xFF800000#32 reduces_S256x256_S256 (.inl rfl) rfl)
        shapeCasts_S256_S256x1) broadcasts_S256x1_S256x256 (ix2 i k) = Finset.univ.sup (fun k => z (ix2 i k)) := by
      refine (broadcastTo_apply _ _ _ (ix2 i 0) (by intro a; fin_cases a <;> rfl)).trans ?_
      refine (shapeCast_apply _ _ _ (ix1 i) ?_).trans ?_
      · rw [Shape.rowMajor_val_one, Shape.rowMajor_val_two]; show i.val = i.val * 1 + 0; omega
      exact Reads.mmax z reduces_S256x256_S256 _ _ (ix1 i) (fun k => ix2 i k) (by intro k b; fin_cases b <;> rfl)
    have hi : iota .tc S256x256 32 [1] iota_S256x256_d1_w32 (ix2 i k) = BitVec.ofNat 32 k.val := iota_single_apply ..
    rw [← hm, ← hi, ← pick_bit]
    rfl
  generalize select (cmpf .oeq z (broadcastTo S256x256 (shapeCast S256x1 (multiReduction .maximumf [1] S256 z 0xFF800000#32 reduces_S256x256_S256 (.inl rfl) rfl)
      shapeCasts_S256_S256x1) broadcasts_S256x1_S256x256)) (iota .tc S256x256 32 [1] iota_S256x256_d1_w32) (broadcast S256x256 256#32) = q at hs ⊢
  have e : multiReductionI .minsi [1] S256 q 2147483647#32 reduces_S256x256_S256 rfl (ix1 i) = _ :=
    reduceFold_eq_foldl reduces_S256x256_S256 IntOp.minsi 2147483647#32 q (ix1 i)
  rw [e, ← List.foldl_map (f := q) (g := IntOp.minsi)]
  refine Reads.least_first (by norm_num) _ 0 _ fun p => ?_
  simp only [List.mem_map, List.mem_filter, List.mem_finRange, true_and, decide_eq_true_eq]
  constructor
  · rintro ⟨x, ⟨-, hx⟩, rfl⟩
    refine ⟨x 1, ?_⟩
    have : x = ix2 i (x 1) := by
      funext a
      fin_cases a
      · exact congrFun hx 0
      · rfl
    exact (congrArg q this).trans (hs (x 1))
  · rintro ⟨k, rfl⟩
    refine ⟨ix2 i k, ⟨⟨S256x256.rowMajor (ix2 i k), Equiv.symm_apply_apply _ _⟩, ?_⟩, hs k⟩
    funext a; fin_cases a; rfl

/-- One at a place of each row, zero elsewhere. -/
theorem mark_apply (jj : IVec S256x256 32) (ix : IVec S256 32) (i j k : Fin 256) (h2 : jj (ix2 i j) = BitVec.ofNat 32 j.val) (hk : ix (ix1 i) = BitVec.ofNat 32 k.val) :
    sitofp (F := Ideal) .f32 (extui 32 (cmpi .eq jj (broadcastTo S256x256 (shapeCast S256x1 ix shapeCasts_S256_S256x1) broadcasts_S256x1_S256x256)) natLt_1_32) (ix2 i j)
      = if j = k then 1 else 0 := by
  have h1 : broadcastTo S256x256 (shapeCast S256x1 ix shapeCasts_S256_S256x1) broadcasts_S256x1_S256x256 (ix2 i j) = BitVec.ofNat 32 k.val := by
    refine (broadcastTo_apply _ _ _ (ix2 i 0) (by intro a; fin_cases a <;> rfl)).trans ?_
    refine (shapeCast_apply _ _ _ (ix1 i) ?_).trans hk
    rw [Shape.rowMajor_val_one, Shape.rowMajor_val_two]; show i.val = i.val * 1 + 0; omega
  show ((((BitVec.setWidth 32 (IntOp.cmpi .eq (jj (ix2 i j))
    (broadcastTo S256x256 (shapeCast S256x1 ix shapeCasts_S256_S256x1) broadcasts_S256x1_S256x256 (ix2 i j)))).toInt : ℤ) : ℝ) : EReal) = _
  rw [h1, h2]
  by_cases h : j = k
  · rw [if_pos h, h]
    show (((((BitVec.ofBool (BitVec.ofNat 32 k.val == BitVec.ofNat 32 k.val)).setWidth 32).toInt : ℤ) : ℝ) : EReal) = 1
    simp
  · rw [if_neg h]
    have hne : (BitVec.ofNat 32 j.val == BitVec.ofNat 32 k.val) = false := by
      rw [beq_eq_false_iff_ne]
      intro he
      have := congrArg BitVec.toInt he
      rw [Reads.small_toInt _ (by have := k.isLt; omega), Reads.small_toInt _ (by have := j.isLt; omega)] at this
      exact h (Fin.ext (by omega))
    show (((((BitVec.ofBool (BitVec.ofNat 32 j.val == BitVec.ofNat 32 k.val)).setWidth 32).toInt : ℤ) : ℝ) : EReal) = 0
    rw [hne]; simp

theorem graphY_apply (z : FVec Ideal S256x256 .f32) (i j : Fin 256) : graphY z (ix2 i j) = hard (fun k => z (ix2 i k)) j := by
  obtain ⟨k, hk, hf⟩ := least_apply z i
  rw [Reads.hard_of_first _ k hf j]
  exact mark_apply _ _ i j k (iota_single_apply ..) hk

theorem graphAdj_apply (y : FVec Ideal S256x256 .f32) (i j : Fin 256) : graphAdj y (ix3 0 i j) = min (y (ix2 i j) + y (ix2 j i)) 1 := by
  refine (shapeCast_apply _ _ _ (ix2 i j) ?_).trans ?_
  · rw [Shape.rowMajor_val_two, Shape.rowMajor_val_three]
    show i.val * 256 + j.val = (0 * 256 + i.val) * 256 + j.val
    omega
  refine congrArg₂ min (congrArg₂ (· + ·) rfl ?_) Ideal.ofBits_one_f32
  exact transpose_apply _ _ _ _ (ix2 j i) (by intro a; fin_cases a <;> rfl)

end Cert.KernelIdeal.Hand

end
-- ==== Proof.Whole.lean ====
module

public import proofs.«01_k».proof.Proof.Spec
public import proofs.«01_k».proof.Proof.Noise

@[expose] public section

noncomputable section

/-! The whole computation as mathematics: what both programs are shown to give. -/

namespace Cert.Spec

open Idealize.ShloMosaic

/-- The head of a lane. -/
def headOf (k : Fin 128) : Fin 4 := ⟨k.val / 32, by have := k.isLt; omega⟩

/-- The channel of a lane. -/
def chanOf (k : Fin 128) : Fin 32 := ⟨k.val % 32, by omega⟩

/-- The lane of a head's channel. -/
def laneOf (h : Fin 4) (d : Fin 32) : Fin 128 := ⟨32 * h.val + d.val, by have := h.isLt; have := d.isLt; omega⟩

/-- A lane is its head's channel. -/
theorem lane_eta (k : Fin 128) : laneOf (headOf k) (chanOf k) = k := Fin.ext (Nat.div_add_mod k.val 32)

/-- The place of a node's feature in the long row. -/
def featOf (k : Fin 256) (t : Fin 128) : Fin 32768 := ⟨128 * k.val + t.val, by have := k.isLt; have := t.isLt; omega⟩

/-- What the network is given. -/
@[ext] structure Args where
  /-- The inputs. -/
  x : Fin 16 → Fin 128 → EReal
  /-- The first layer's weights. -/
  w0 : Fin 128 → Fin 128 → EReal
  /-- The first layer's bias. -/
  b0 : Fin 128 → EReal
  /-- The second layer's weights. -/
  w1 : Fin 128 → Fin 128 → EReal
  /-- The second layer's bias. -/
  b1 : Fin 128 → EReal
  /-- The third layer's weights. -/
  w2 : Fin 32768 → Fin 128 → EReal
  /-- The third layer's bias. -/
  b2 : Fin 32768 → EReal
  /-- The graph layer's weights. -/
  gw : Fin 128 → Fin 128 → EReal
  /-- The source attention vectors. -/
  s : Fin 4 → Fin 32 → EReal
  /-- The target attention vectors. -/
  d : Fin 4 → Fin 32 → EReal
  /-- The graph layer's bias. -/
  gb : Fin 128 → EReal
  /-- The last layer's weights. -/
  wl : Fin 256 → Fin 128 → EReal
  /-- The last layer's bias. -/
  bl : Fin 256 → EReal

/-- Every number but the attention vectors is real. -/
structure Args.Real (A : Args) : Prop where
  x : ∀ i j, IsR (A.x i j)
  w0 : ∀ i j, IsR (A.w0 i j)
  b0 : ∀ i, IsR (A.b0 i)
  w1 : ∀ i j, IsR (A.w1 i j)
  b1 : ∀ i, IsR (A.b1 i)
  w2 : ∀ i j, IsR (A.w2 i j)
  b2 : ∀ i, IsR (A.b2 i)
  gw : ∀ i j, IsR (A.gw i j)
  gb : ∀ i, IsR (A.gb i)
  wl : ∀ i j, IsR (A.wl i j)
  bl : ∀ i, IsR (A.bl i)

/-- A node's features after the graph layer's matrix. -/
def feature (A : Args) (b : Fin 16) (k : Fin 256) (c : Fin 128) : EReal :=
  ∑ t, lin (relu (relu A.x A.w0 A.b0) A.w1 A.b1) A.w2 A.b2 b (featOf k t) * A.gw c t

/-- A node's score in a head. -/
def scoreOf (f : Fin 256 → Fin 128 → EReal) (a : Fin 4 → Fin 32 → EReal) (h : Fin 4) (i : Fin 256) : EReal :=
  ∑ d, f i (laneOf h d) * a h d

/-- The attention's weighted mean, at a lane. -/
def mix (f : Fin 256 → Fin 128 → EReal) (s d : Fin 4 → Fin 32 → EReal) (j : Fin 256) (k : Fin 128) : EReal :=
  aggR (fun i => f i k) (scoreOf f s (headOf k)) (scoreOf f d (headOf k)) j

/-- The noise of an entry. -/
def noiseAt (b : Fin 16) (i j : Fin 256) : EReal := Noise.gum (Noise.word (BitVec.ofNat 32 (65536 * b.val + 256 * i.val + j.val)))

/-- The noisy logits of a graph's edges. -/
def logit (A : Args) (b : Fin 16) (i j : Fin 256) : EReal :=
  lin (fun i k => elu (mix (feature A b) A.s A.d i k + A.gb k)) A.wl A.bl i j + noiseAt b i j

/-- The edge between two nodes of a graph. -/
def answer (A : Args) (b : Fin 16) (i j : Fin 256) : EReal := min (hard (logit A b i) j + hard (logit A b j) i) 1

theorem feature_isR {A : Args} (h : A.Real) (b : Fin 16) (k : Fin 256) (c : Fin 128) : IsR (feature A b k c) :=
  IsR.sum _ fun t => IsR.mul (lin_isR (relu_isR (relu_isR h.x h.w0 h.b0) h.w1 h.b1) h.w2 h.b2 _ _) (h.gw _ _)

theorem mix_isR {A : Args} (h : A.Real) (b : Fin 16) (j : Fin 256) (k : Fin 128) : IsR (mix (feature A b) A.s A.d j k) :=
  aggR_isR _ _ _ (fun i => feature_isR h b i k) j

theorem logit_isR {A : Args} (h : A.Real) (b : Fin 16) (i j : Fin 256) : IsR (logit A b i j) :=
  .add (lin_isR (fun i k => elu_isR (.add (mix_isR h b i k) (h.gb k))) h.wl h.bl i j) (Noise.gum_isR _)

end Cert.Spec

end
-- ==== Proof.KHost.lean ====
module

public import proofs.«01_k».proof.Proof.KLine
public import proofs.«01_k».proof.Proof.KNoise
public import proofs.«01_k».proof.Proof.GraphSum
public import proofs.«01_k».proof.Proof.Whole

@[expose] public section

set_option maxRecDepth 16384
set_option maxHeartbeats 4000000

noncomputable section

/-! What the kernel's launch finds: the reshaped weights, the attention's matrix and the noise. -/

namespace Cert.KernelIdeal.Hand

open Cert.KernelIdeal Cert.KernelIdeal.Gen Cert.Ssa Cert.Spec Idealize.ShloMosaic Idealize.ShloMosaic.TcCoe Idealize.ShloMosaic.StableHlo

variable (V : Valuation τ sig (Elt Ideal))

/-- An argument is what it was at launch. -/
theorem hd_arg {b : Ref sig .tc} (h : Lt 13 b) : hd V b = V (Proc.devRef .tc b) := hopsLine.keep V h.below

/-! ## The reshaped arguments -/

/-- The long rows of the weights, cut by node. -/
theorem cut2 (x : FVec Ideal S32768x128 .f32) (n : Fin 256) (t k : Fin 128) :
    shapeCast S256x128x128 x shapeCasts_S32768x128_S256x128x128 (ix3 n t k) = x (ix2 (featOf n t) k) := by
  refine shapeCast_apply _ _ _ _ ?_
  rw [Shape.rowMajor_val_two, Shape.rowMajor_val_three]
  show (128 * n.val + t.val) * 128 + k.val = (n.val * 128 + t.val) * 128 + k.val
  omega

/-- The long bias, cut by node. -/
theorem cut1 (x : FVec Ideal S32768 .f32) (n : Fin 256) (t : Fin 128) : shapeCast S256x128 x shapeCasts_S32768_S256x128 (ix2 n t) = x (ix1 (featOf n t)) := by
  refine shapeCast_apply _ _ _ _ ?_
  rw [Shape.rowMajor_val_one, Shape.rowMajor_val_two]
  show 128 * n.val + t.val = n.val * 128 + t.val
  omega

/-- The third layer's weights, cut by node. -/
theorem w2_at (n : Fin 256) (t k : Fin 128) : (hd V main_call0_v0 : FVec Ideal S256x128x128 .f32) (ix3 n t k)
    = (V (Proc.devRef .tc main_arg5) : FVec Ideal S32768x128 .f32) (ix2 (featOf n t) k) := by
  have e : (hd V main_call0_v0 : FVec Ideal S256x128x128 .f32) = shapeCast S256x128x128 (hd V main_arg5 : FVec Ideal S32768x128 .f32) shapeCasts_S32768x128_S256x128x128 := by
    unfold hd
    rw [hopsLine.reshape V 0 rfl]
    rfl
  rw [e, hd_arg V (b := main_arg5) ⟨rfl, by decide⟩]
  exact cut2 _ n t k

/-- The third layer's bias, cut by node. -/
theorem b2_at (n : Fin 256) (t : Fin 128) : (hd V main_call0_v1 : FVec Ideal S256x128 .f32) (ix2 n t)
    = (V (Proc.devRef .tc main_arg6) : FVec Ideal S32768 .f32) (ix1 (featOf n t)) := by
  have e : (hd V main_call0_v1 : FVec Ideal S256x128 .f32) = shapeCast S256x128 (hd V main_arg6 : FVec Ideal S32768 .f32) shapeCasts_S32768_S256x128 := by
    unfold hd
    rw [hopsLine.reshape V 1 rfl]
    rfl
  rw [e, hd_arg V (b := main_arg6) ⟨rfl, by decide⟩]
  exact cut1 _ n t

/-- A row of 128 numbers, cast to a matrix of one row. -/
theorem row128 (x : FVec Ideal S128 .f32) (k : Fin 128) : shapeCast S1x128 x shapeCasts_S128_S1x128 (ix2 0 k) = x (ix1 k) := by
  refine shapeCast_apply _ _ _ _ ?_
  rw [Shape.rowMajor_val_one, Shape.rowMajor_val_two]
  show k.val = 0 * 128 + k.val
  omega

/-- A row of 256 numbers, cast to a matrix of one row. -/
theorem row256 (x : FVec Ideal S256 .f32) (k : Fin 256) : shapeCast S1x256 x shapeCasts_S256_S1x256 (ix2 0 k) = x (ix1 k) := by
  refine shapeCast_apply _ _ _ _ ?_
  rw [Shape.rowMajor_val_one, Shape.rowMajor_val_two]
  show k.val = 0 * 256 + k.val
  omega

/-- The first layer's bias. -/
theorem b0_at (k : Fin 128) : (hd V main_call0_v215 : FVec Ideal S1x128 .f32) (ix2 0 k) = (V (Proc.devRef .tc main_arg2) : FVec Ideal S128 .f32) (ix1 k) := by
  have e : (hd V main_call0_v215 : FVec Ideal S1x128 .f32) = shapeCast S1x128 (hd V main_arg2 : FVec Ideal S128 .f32) shapeCasts_S128_S1x128 := by
    unfold hd
    rw [hopsLine.reshape V 279 rfl]
    rfl
  rw [e, hd_arg V (b := main_arg2) ⟨rfl, by decide⟩]
  exact row128 _ k

/-- The second layer's bias. -/
theorem b1_at (k : Fin 128) : (hd V main_call0_v216 : FVec Ideal S1x128 .f32) (ix2 0 k) = (V (Proc.devRef .tc main_arg4) : FVec Ideal S128 .f32) (ix1 k) := by
  have e : (hd V main_call0_v216 : FVec Ideal S1x128 .f32) = shapeCast S1x128 (hd V main_arg4 : FVec Ideal S128 .f32) shapeCasts_S128_S1x128 := by
    unfold hd
    rw [hopsLine.reshape V 280 rfl]
    rfl
  rw [e, hd_arg V (b := main_arg4) ⟨rfl, by decide⟩]
  exact row128 _ k

/-- The graph layer's bias. -/
theorem gb_at (k : Fin 128) : (hd V main_call0_v217 : FVec Ideal S1x128 .f32) (ix2 0 k) = (V (Proc.devRef .tc main_arg10) : FVec Ideal S128 .f32) (ix1 k) := by
  have e : (hd V main_call0_v217 : FVec Ideal S1x128 .f32) = shapeCast S1x128 (hd V main_arg10 : FVec Ideal S128 .f32) shapeCasts_S128_S1x128 := by
    unfold hd
    rw [hopsLine.reshape V 281 rfl]
    rfl
  rw [e, hd_arg V (b := main_arg10) ⟨rfl, by decide⟩]
  exact row128 _ k

/-- The last layer's bias. -/
theorem bl_at (k : Fin 256) : (hd V main_call0_v218 : FVec Ideal S1x256 .f32) (ix2 0 k) = (V (Proc.devRef .tc main_arg12) : FVec Ideal S256 .f32) (ix1 k) := by
  have e : (hd V main_call0_v218 : FVec Ideal S1x256 .f32) = shapeCast S1x256 (hd V main_arg12 : FVec Ideal S256 .f32) shapeCasts_S256_S1x256 := by
    unfold hd
    rw [hopsLine.reshape V 282 rfl]
    rfl
  rw [e, hd_arg V (b := main_arg12) ⟨rfl, by decide⟩]
  exact row256 _ k

/-! ## The attention's matrix -/

/-- The identity matrix of the heads. -/
def eye : FVec Ideal S4x4 .f32 :=
  uitofp .f32 (cmpi .eq (addi (iotaInDim S4x4 32 0) (broadcastInDim S4x4 ![] bcast_S_S4x4 (constantI S_ 32 0#32))) (iotaInDim S4x4 32 1))

theorem eye_apply (h g : Fin 4) : eye (ix2 h g) = if h = g then 1 else 0 := by
  have hc : cmpi .eq (addi (iotaInDim S4x4 32 0) (broadcastInDim S4x4 ![] bcast_S_S4x4 (constantI S_ 32 0#32))) (iotaInDim S4x4 32 1) (ix2 h g)
      = if h = g then 1#1 else 0#1 := by
    have hz : broadcastInDim S4x4 ![] bcast_S_S4x4 (constantI S_ 32 0#32) (ix2 h g) = 0#32 := ValueIdx.broadcastInDim_scalar_apply _ _ _
    show IntOp.cmpi .eq (IntOp.addi (BitVec.ofNat 32 h.val) (broadcastInDim S4x4 ![] bcast_S_S4x4 (constantI S_ 32 0#32) (ix2 h g))) (BitVec.ofNat 32 g.val) = _
    rw [hz]
    revert h g
    decide
  refine (congrArg (FloatOps.uitofp (F := Ideal) .f32) hc).trans ?_
  split_ifs
  · show (((1#1).toNat : ℝ) : EReal) = 1
    simp
  · show (((0#1).toNat : ℝ) : EReal) = 0
    simp

/-- The attention vectors down the lanes, a column for each head. -/
def cols (e : FVec Ideal S4x4 .f32) (a : FVec Ideal S4x32 .f32) : FVec Ideal S128x4 .f32 :=
  shapeCast S128x4 (mulf (broadcastInDim S4x32x4 ![0, 1, 2] bcast_S4x1x4_S4x32x4_0_1_2 (broadcastInDim S4x1x4 ![0, 2] bcast_S4x4_S4x1x4_0_2 e))
    (broadcastInDim S4x32x4 ![0, 1, 2] bcast_S4x32x1_S4x32x4_0_1_2 (broadcastInDim S4x32x1 ![0, 1] bcast_S4x32_S4x32x1_0_1 a))) shapeCasts_S4x32x4_S128x4

theorem cols_apply (e : FVec Ideal S4x4 .f32) (a : FVec Ideal S4x32 .f32) (h : Fin 4) (d : Fin 32) (g : Fin 4) :
    cols e a (ix2 (laneOf h d) g) = e (ix2 h g) * a (ix2 h d) := by
  refine (shapeCast_apply _ _ _ (ix3 h d g) ?_).trans (congrArg₂ (· * ·) ?_ ?_)
  · rw [Shape.rowMajor_val_three, Shape.rowMajor_val_two]
    show (h.val * 32 + d.val) * 4 + g.val = (32 * h.val + d.val) * 4 + g.val
    omega
  · refine (broadcastInDim_apply _ _ _ _ (ix3 h 0 g) (by intro a; fin_cases a <;> rfl)).trans ?_
    exact broadcastInDim_apply _ _ _ _ (ix2 h g) (by intro a; fin_cases a <;> rfl)
  · refine (broadcastInDim_apply _ _ _ _ (ix3 h d 0) (by intro a; fin_cases a <;> rfl)).trans ?_
    exact broadcastInDim_apply _ _ _ _ (ix2 h d) (by intro a; fin_cases a <;> rfl)

/-- The heads' identity matrix is there. -/
theorem v7_eq : (hd V main_call0_v7 : FVec Ideal S4x4 .f32) = eye := by
  unfold hd
  rw [hopsLine.unary V 8 rfl, hopsLine.binary V 7 rfl, hopsLine.binary V 6 rfl, hopsLine.unary V 5 rfl, hopsLine.nullary V 4 rfl, hopsLine.nullary V 3 rfl, hopsLine.nullary V 2 rfl]
  simp -implicitDefEqProofs only [TRef.toBuf, TRef.ofBuf, cast_cast, cast_eq]
  rfl

/-- The source vectors' columns. -/
theorem v13_eq : (hd V main_call0_v13 : FVec Ideal S128x4 .f32) = cols (hd V main_call0_v7) (hd V main_arg8) := by
  unfold hd
  rw [hopsLine.reshape V 14 rfl, hopsLine.binary V 13 rfl, hopsLine.unary V 12 rfl, hopsLine.unary V 11 rfl, hopsLine.unary V 10 rfl, hopsLine.unary V 9 rfl]
  simp -implicitDefEqProofs only [TRef.toBuf, TRef.ofBuf, cast_cast, cast_eq]
  rfl

/-- The target vectors' columns. -/
theorem v19_eq : (hd V main_call0_v19 : FVec Ideal S128x4 .f32) = cols (hd V main_call0_v7) (hd V main_arg9) := by
  unfold hd
  rw [hopsLine.reshape V 20 rfl, hopsLine.binary V 19 rfl, hopsLine.unary V 18 rfl, hopsLine.unary V 17 rfl, hopsLine.unary V 16 rfl, hopsLine.unary V 15 rfl]
  simp -implicitDefEqProofs only [TRef.toBuf, TRef.ofBuf, cast_cast, cast_eq]
  rfl

/-- Two groups of four columns side by side, at a column of one of them. -/
theorem two {α : Type} (x0 x1 : S128x4.Idx → α) (h) (k : Fin 128) (g : Fin 2) (e : Fin 4) (c : Fin 8) (hc : c.val = 4 * g.val + e.val) :
    concatenate S128x8 1 [⟨S128x4, x0⟩, ⟨S128x4, x1⟩] h (ix2 k c) = (![x0, x1] g) (ix2 k e) :=
  concatenate_ofFn_apply (t := S128x8) (s₁ := S128x4) 1 ![x0, x1] h rfl 4 rfl (ix2 k c) g
    (by show c.val / 4 = g.val; have := e.isLt; omega) (ix2 k e) (by show e.val = c.val % 4; have := e.isLt; omega)
    (Fin.forall_fin_two.2 ⟨fun _ => rfl, fun ha => absurd rfl ha⟩)

/-- The matrix is the two groups of columns. -/
theorem v20_eq : (hd V main_call0_v20 : FVec Ideal S128x8 .f32) = concatenate S128x8 1 [⟨S128x4, (hd V main_call0_v13 : FVec Ideal S128x4 .f32)⟩,
    ⟨S128x4, (hd V main_call0_v19 : FVec Ideal S128x4 .f32)⟩] concatenates_S128x4_S128x4_S128x8_d1 := by
  unfold hd
  rw [hopsLine.binary V 21 rfl]
  simp -implicitDefEqProofs only [TRef.toBuf, TRef.ofBuf, cast_cast, cast_eq]

/-- A head's source column. -/
theorem src_at (h' : Fin 4) (d : Fin 32) (h : Fin 4) : (hd V main_call0_v20 : FVec Ideal S128x8 .f32) (ix2 (laneOf h' d) (srcCol h))
    = (if h' = h then (1 : EReal) else 0) * (V (Proc.devRef .tc main_arg8) : FVec Ideal S4x32 .f32) (ix2 h' d) := by
  rw [v20_eq, v13_eq, v19_eq, v7_eq, hd_arg V (b := main_arg8) ⟨rfl, by decide⟩, hd_arg V (b := main_arg9) ⟨rfl, by decide⟩]
  refine (two _ _ _ (laneOf h' d) 0 h (srcCol h) (by show h.val = 4 * 0 + h.val; omega)).trans ?_
  exact (cols_apply _ _ h' d h).trans (congrArg₂ (· * ·) (eye_apply h' h) rfl)

/-- A head's target column. -/
theorem dst_at (h' : Fin 4) (d : Fin 32) (h : Fin 4) : (hd V main_call0_v20 : FVec Ideal S128x8 .f32) (ix2 (laneOf h' d) (dstCol h))
    = (if h' = h then (1 : EReal) else 0) * (V (Proc.devRef .tc main_arg9) : FVec Ideal S4x32 .f32) (ix2 h' d) := by
  rw [v20_eq, v13_eq, v19_eq, v7_eq, hd_arg V (b := main_arg8) ⟨rfl, by decide⟩, hd_arg V (b := main_arg9) ⟨rfl, by decide⟩]
  refine (two _ _ _ (laneOf h' d) 1 h (dstCol h) (by show 4 + h.val = 4 * 1 + h.val; omega)).trans ?_
  exact (cols_apply _ _ h' d h).trans (congrArg₂ (· * ·) (eye_apply h' h) rfl)

/-- A sum over the lanes is a sum over the heads and their channels. -/
theorem sum_lanes (g : Fin 128 → EReal) : ∑ k, g k = ∑ h : Fin 4, ∑ d : Fin 32, g (laneOf h d) := by
  rw [← Fintype.sum_prod_type' (f := fun (h : Fin 4) (d : Fin 32) => g (laneOf h d))]
  refine (Equiv.sum_comp (finProdFinEquiv (m := 4) (n := 32)) g).symm.trans (Finset.sum_congr rfl fun p _ => congrArg g (Fin.ext ?_))
  show p.2.val + 32 * p.1.val = 32 * p.1.val + p.2.val
  omega

/-- A column that is one head's vector and zero elsewhere gives the head's score. -/
theorem score_sum (f : Fin 128 → EReal) (p : Fin 128 → EReal) (a : Fin 4 → Fin 32 → EReal) (h : Fin 4)
    (hp : ∀ h' d, p (laneOf h' d) = (if h' = h then 1 else 0) * a h' d) : ∑ k, f k * p k = ∑ d, f (laneOf h d) * a h d := by
  rw [sum_lanes]
  refine (Finset.sum_eq_single h (fun h' _ hn => Finset.sum_eq_zero fun d _ => ?_) fun hn => absurd (Finset.mem_univ h) hn).trans
    (Finset.sum_congr rfl fun d _ => ?_)
  · rw [hp, if_neg hn, zero_mul, mul_zero]
  · rw [hp, if_pos rfl, one_mul]

/-! ## The noise -/

/-- The numbers between zero and one, from the random words. -/
def flat (r : IVec S1048576 32) : FVec Ideal S1048576 .f32 :=
  maximumf (broadcastInDim S1048576 ![] bcast_S_S1048576 (constant S_ .f32 0x00800000#32))
    (addf (mulf (mulf (sitofp .f32 (Host.shrui r (broadcastInDim S1048576 ![] bcast_S_S1048576 (constantI S_ 32 9#32))))
      (broadcastInDim S1048576 ![] bcast_S_S1048576 (constant S_ .f32 0x34000000#32)))
      (broadcastInDim S1048576 ![] bcast_S_S1048576 (constant S_ .f32 0x3F800000#32)))
      (broadcastInDim S1048576 ![] bcast_S_S1048576 (constant S_ .f32 0x00800000#32)))

theorem flat_apply (r : IVec S1048576 32) (i : S1048576.Idx) : flat r i = Noise.uni (r i) := by
  have h1 : ∀ w, broadcastInDim S1048576 ![] bcast_S_S1048576 (constant (F := Ideal) S_ .f32 w) i = Ideal.ofBits .f32 w := fun w => ValueIdx.broadcastInDim_scalar_apply _ _ _
  have h2 : broadcastInDim S1048576 ![] bcast_S_S1048576 (constantI S_ 32 9#32) i = 9#32 := ValueIdx.broadcastInDim_scalar_apply _ _ _
  show max (broadcastInDim S1048576 ![] bcast_S_S1048576 (constant (F := Ideal) S_ .f32 0x00800000#32) i)
    (FloatOps.sitofp (F := Ideal) .f32 (IntOp.shrui .host (r i) (broadcastInDim S1048576 ![] bcast_S_S1048576 (constantI S_ 32 9#32) i))
      * broadcastInDim S1048576 ![] bcast_S_S1048576 (constant (F := Ideal) S_ .f32 0x34000000#32) i
      * broadcastInDim S1048576 ![] bcast_S_S1048576 (constant (F := Ideal) S_ .f32 0x3F800000#32) i
      + broadcastInDim S1048576 ![] bcast_S_S1048576 (constant (F := Ideal) S_ .f32 0x00800000#32) i) = _
  rw [h1, h1, h1, h2]
  rfl

/-- The numbers between zero and one are there. -/
theorem v209_eq : (hd V main_call0_v209 : FVec Ideal S1048576 .f32) = flat (hd V main_call0_v197) := by
  unfold hd
  rw [hopsLine.binary V 273 rfl, hopsLine.unary V 272 rfl, hopsLine.nullary V 271 rfl, hopsLine.binary V 270 rfl, hopsLine.unary V 269 rfl, hopsLine.nullary V 268 rfl, hopsLine.binary V 267 rfl, hopsLine.unary V 266 rfl, hopsLine.nullary V 265 rfl, hopsLine.binary V 264 rfl, hopsLine.unary V 263 rfl, hopsLine.nullary V 262 rfl, hopsLine.unary V 261 rfl, hopsLine.unary V 260 rfl, hopsLine.binary V 259 rfl, hopsLine.unary V 258 rfl, hopsLine.nullary V 257 rfl]
  simp -implicitDefEqProofs only [TRef.toBuf, TRef.ofBuf, cast_cast, cast_eq]
  rfl

/-- The noise, from the numbers between zero and one. -/
def gumbel (u : FVec Ideal S16x256x256 .f32) : FVec Ideal S16x256x256 .f32 := Host.negf (Host.log (Host.negf (Host.log u)))

theorem gumbel_apply (u : FVec Ideal S16x256x256 .f32) (i : S16x256x256.Idx) : gumbel u i = -Ideal.log (-Ideal.log (u i)) := rfl

/-- The noise is there. -/
theorem v214_eq : (hd V main_call0_v214 : FVec Ideal S16x256x256 .f32) = gumbel (hd V main_call0_v210) := by
  unfold hd
  rw [hopsLine.unary V 278 rfl, hopsLine.unary V 277 rfl, hopsLine.unary V 276 rfl, hopsLine.unary V 275 rfl]
  simp -implicitDefEqProofs only [TRef.toBuf, TRef.ofBuf, cast_cast, cast_eq]
  rfl

/-- The noise, entry by entry. -/
theorem noise_at (b : Fin 16) (i j : Fin 256) : (hd V main_call0_v214 : FVec Ideal S16x256x256 .f32) (ix3 b i j) = noiseAt b i j := by
  have hn : 65536 * b.val + 256 * i.val + j.val < 1048576 := by
    have := b.isLt; have := i.isLt; have := j.isLt; omega
  have e2 : (hd V main_call0_v210 : FVec Ideal S16x256x256 .f32) = shapeCast S16x256x256 (hd V main_call0_v209 : FVec Ideal S1048576 .f32) shapeCasts_S1048576_S16x256x256 := by
    unfold hd
    rw [hopsLine.reshape V 274 rfl]
    rfl
  have e3 : (hd V main_call0_v210 : FVec Ideal S16x256x256 .f32) (ix3 b i j) = Noise.uni (Noise.word (BitVec.ofNat 32 (65536 * b.val + 256 * i.val + j.val))) := by
    rw [e2, v209_eq]
    refine (shapeCast_apply _ _ _ (ix1 ⟨65536 * b.val + 256 * i.val + j.val, hn⟩) ?_).trans ?_
    · rw [Shape.rowMajor_val_one, Shape.rowMajor_val_three]
      show 65536 * b.val + 256 * i.val + j.val = (b.val * 256 + i.val) * 256 + j.val
      omega
    · exact (flat_apply _ _).trans (congrArg Noise.uni (word_apply V _))
  rw [v214_eq]
  exact (gumbel_apply _ _).trans (congrArg (fun u => -Ideal.log (-Ideal.log u)) e3)

end Cert.KernelIdeal.Hand

end
-- ==== Proof.Blocks.lean ====
module

public import proofs.«01_k».proof.Proof.KRun
public import proofs.«01_k».proof.Proof.KHost

@[expose] public section

set_option maxRecDepth 16384

noncomputable section

/-! The blocks the kernel's points are given, read off the arrays the launch finds. -/

namespace Cert.KernelIdeal.Hand

open Cert.KernelIdeal Cert.KernelIdeal.Gen Cert.Spec Idealize.ShloMosaic Idealize.ShloMosaic.TcCoe Idealize.ShloMosaic.StableHlo

variable (m : (ℓ : Loc nD τ sig) → Buf (Elt Ideal) ℓ) (c : Dev nD)

/-- A device's contents at launch. -/
def at0 : Valuation τ sig (Elt Ideal) := fun b => m (c, b)

/-- What the launch finds in a buffer. -/
theorem V_eq (b : Ref sig .tc) : V m c b = hd (at0 m c) b := rfl

/-! ## Where each window's block lies -/

theorem idx0 : ∀ (t : Fin cfg0.N) (a : Fin 2), win0_0.index t a = 0 := (by decide +kernel : ∀ (t : Fin grid0.N) (a : Fin 2), win0_0.index t a = 0)
theorem idx1 : ∀ (t : Fin cfg0.N) (a : Fin 2), win0_1.index t a = 0 := (by decide +kernel : ∀ (t : Fin grid0.N) (a : Fin 2), win0_1.index t a = 0)
theorem idx2 : ∀ (t : Fin cfg0.N) (a : Fin 2), win0_2.index t a = 0 := (by decide +kernel : ∀ (t : Fin grid0.N) (a : Fin 2), win0_2.index t a = 0)
theorem idx3 : ∀ (t : Fin cfg0.N) (a : Fin 2), win0_3.index t a = 0 := (by decide +kernel : ∀ (t : Fin grid0.N) (a : Fin 2), win0_3.index t a = 0)
theorem idx4 : ∀ (t : Fin cfg0.N) (a : Fin 2), win0_4.index t a = 0 := (by decide +kernel : ∀ (t : Fin grid0.N) (a : Fin 2), win0_4.index t a = 0)
theorem idx7 : ∀ (t : Fin cfg0.N) (a : Fin 2), win0_7.index t a = 0 := (by decide +kernel : ∀ (t : Fin grid0.N) (a : Fin 2), win0_7.index t a = 0)
theorem idx8 : ∀ (t : Fin cfg0.N) (a : Fin 2), win0_8.index t a = 0 := (by decide +kernel : ∀ (t : Fin grid0.N) (a : Fin 2), win0_8.index t a = 0)
theorem idx9 : ∀ (t : Fin cfg0.N) (a : Fin 2), win0_9.index t a = 0 := (by decide +kernel : ∀ (t : Fin grid0.N) (a : Fin 2), win0_9.index t a = 0)
theorem idx10 : ∀ (t : Fin cfg0.N) (a : Fin 2), win0_10.index t a = 0 := (by decide +kernel : ∀ (t : Fin grid0.N) (a : Fin 2), win0_10.index t a = 0)
theorem idx11 : ∀ (t : Fin cfg0.N) (a : Fin 2), win0_11.index t a = 0 := (by decide +kernel : ∀ (t : Fin grid0.N) (a : Fin 2), win0_11.index t a = 0)

/-- In the first stage a point's block of the third layer's weights is its own. -/
theorem idx5 : ∀ (t : Fin cfg0.N), t.val < 8 → win0_5.index t (0 : Fin 3) = t.val ∧ win0_5.index t (1 : Fin 3) = 0 ∧ win0_5.index t (2 : Fin 3) = 0 :=
  (by decide +kernel : ∀ (t : Fin grid0.N), t.val < 8 → win0_5.index t (0 : Fin 3) = t.val ∧ win0_5.index t (1 : Fin 3) = 0 ∧ win0_5.index t (2 : Fin 3) = 0)

/-- So is its block of the third layer's bias. -/
theorem idx6 : ∀ (t : Fin cfg0.N), t.val < 8 → win0_6.index t (0 : Fin 2) = t.val ∧ win0_6.index t (1 : Fin 2) = 0 :=
  (by decide +kernel : ∀ (t : Fin grid0.N), t.val < 8 → win0_6.index t (0 : Fin 2) = t.val ∧ win0_6.index t (1 : Fin 2) = 0)

/-- In the second stage a point's block of the noise is its own. -/
theorem idx12 : ∀ (t : Fin cfg0.N), 8 ≤ t.val → win0_12.index t (0 : Fin 3) = t.val - 8 ∧ win0_12.index t (1 : Fin 3) = 0 ∧ win0_12.index t (2 : Fin 3) = 0 :=
  (by decide +kernel : ∀ (t : Fin grid0.N), 8 ≤ t.val → win0_12.index t (0 : Fin 3) = t.val - 8 ∧ win0_12.index t (1 : Fin 3) = 0 ∧ win0_12.index t (2 : Fin 3) = 0)

/-- So is its block of the output. -/
theorem idx13 : ∀ (t : Fin cfg0.N), 8 ≤ t.val → win0_13.index t (0 : Fin 3) = t.val - 8 ∧ win0_13.index t (1 : Fin 3) = 0 ∧ win0_13.index t (2 : Fin 3) = 0 :=
  (by decide +kernel : ∀ (t : Fin grid0.N), 8 ≤ t.val → win0_13.index t (0 : Fin 3) = t.val - 8 ∧ win0_13.index t (1 : Fin 3) = 0 ∧ win0_13.index t (2 : Fin 3) = 0)

/-! ## The blocks that are whole arrays -/

theorem blk0 (t : Fin cfg0.N) : (iblk m c 0 t : FVec Ideal S16x128 .f32) = hd (at0 m c) main_arg0 :=
  funext fun z => congrArg (hd (at0 m c) main_arg0) (funext fun a => Fin.ext (Pipeline.Window.rect_emb_val_of_index_zero win0_0 t a (idx0 t a) z))

theorem blk1 (t : Fin cfg0.N) : (iblk m c 1 t : FVec Ideal S128x128 .f32) = hd (at0 m c) main_arg1 :=
  funext fun z => congrArg (hd (at0 m c) main_arg1) (funext fun a => Fin.ext (Pipeline.Window.rect_emb_val_of_index_zero win0_1 t a (idx1 t a) z))

theorem blk2 (t : Fin cfg0.N) : (iblk m c 2 t : FVec Ideal S1x128 .f32) = hd (at0 m c) main_call0_v215 :=
  funext fun z => congrArg (hd (at0 m c) main_call0_v215) (funext fun a => Fin.ext (Pipeline.Window.rect_emb_val_of_index_zero win0_2 t a (idx2 t a) z))

theorem blk3 (t : Fin cfg0.N) : (iblk m c 3 t : FVec Ideal S128x128 .f32) = hd (at0 m c) main_arg3 :=
  funext fun z => congrArg (hd (at0 m c) main_arg3) (funext fun a => Fin.ext (Pipeline.Window.rect_emb_val_of_index_zero win0_3 t a (idx3 t a) z))

theorem blk4 (t : Fin cfg0.N) : (iblk m c 4 t : FVec Ideal S1x128 .f32) = hd (at0 m c) main_call0_v216 :=
  funext fun z => congrArg (hd (at0 m c) main_call0_v216) (funext fun a => Fin.ext (Pipeline.Window.rect_emb_val_of_index_zero win0_4 t a (idx4 t a) z))

theorem blk7 (t : Fin cfg0.N) : (iblk m c 7 t : FVec Ideal S128x128 .f32) = hd (at0 m c) main_arg7 :=
  funext fun z => congrArg (hd (at0 m c) main_arg7) (funext fun a => Fin.ext (Pipeline.Window.rect_emb_val_of_index_zero win0_7 t a (idx7 t a) z))

theorem blk8 (t : Fin cfg0.N) : (iblk m c 8 t : FVec Ideal S128x8 .f32) = hd (at0 m c) main_call0_v20 :=
  funext fun z => congrArg (hd (at0 m c) main_call0_v20) (funext fun a => Fin.ext (Pipeline.Window.rect_emb_val_of_index_zero win0_8 t a (idx8 t a) z))

theorem blk9 (t : Fin cfg0.N) : (iblk m c 9 t : FVec Ideal S1x128 .f32) = hd (at0 m c) main_call0_v217 :=
  funext fun z => congrArg (hd (at0 m c) main_call0_v217) (funext fun a => Fin.ext (Pipeline.Window.rect_emb_val_of_index_zero win0_9 t a (idx9 t a) z))

theorem blk10 (t : Fin cfg0.N) : (iblk m c 10 t : FVec Ideal S256x128 .f32) = hd (at0 m c) main_arg11 :=
  funext fun z => congrArg (hd (at0 m c) main_arg11) (funext fun a => Fin.ext (Pipeline.Window.rect_emb_val_of_index_zero win0_10 t a (idx10 t a) z))

theorem blk11 (t : Fin cfg0.N) : (iblk m c 11 t : FVec Ideal S1x256 .f32) = hd (at0 m c) main_call0_v218 :=
  funext fun z => congrArg (hd (at0 m c) main_call0_v218) (funext fun a => Fin.ext (Pipeline.Window.rect_emb_val_of_index_zero win0_11 t a (idx11 t a) z))

/-! ## The blocks that are parts -/

theorem blk5 (t : Fin cfg0.N) (ht : t.val < 8) (n : Fin 32) (u k : Fin 128) (n' : Fin 256) (hn : n'.val = 32 * t.val + n.val) :
    (iblk m c 5 t : FVec Ideal S32x128x128 .f32) (ix3 n u k) = (hd (at0 m c) main_call0_v0 : FVec Ideal S256x128x128 .f32) (ix3 n' u k) := by
  refine congrArg (hd (at0 m c) main_call0_v0) (funext fun a => Fin.ext ?_)
  obtain ⟨h0, h1, h2⟩ := idx5 t ht
  refine (Pipeline.Window.rect_emb_val win0_5 t (ix3 n u k) a).trans ?_
  fin_cases a
  · show win0_5.index t (0 : Fin 3) * 32 + n.val = n'.val
    rw [h0]; omega
  · show win0_5.index t (1 : Fin 3) * 128 + u.val = u.val
    rw [h1]; omega
  · show win0_5.index t (2 : Fin 3) * 128 + k.val = k.val
    rw [h2]; omega

theorem blk6 (t : Fin cfg0.N) (ht : t.val < 8) (n : Fin 32) (u : Fin 128) (n' : Fin 256) (hn : n'.val = 32 * t.val + n.val) :
    (iblk m c 6 t : FVec Ideal S32x128 .f32) (ix2 n u) = (hd (at0 m c) main_call0_v1 : FVec Ideal S256x128 .f32) (ix2 n' u) := by
  refine congrArg (hd (at0 m c) main_call0_v1) (funext fun a => Fin.ext ?_)
  obtain ⟨h0, h1⟩ := idx6 t ht
  refine (Pipeline.Window.rect_emb_val win0_6 t (ix2 n u) a).trans ?_
  fin_cases a
  · show win0_6.index t (0 : Fin 2) * 32 + n.val = n'.val
    rw [h0]; omega
  · show win0_6.index t (1 : Fin 2) * 128 + u.val = u.val
    rw [h1]; omega

theorem blk12 (t : Fin cfg0.N) (ht : 8 ≤ t.val) (g : Fin 8) (i j : Fin 256) (b : Fin 16) (hb : b.val = (t.val - 8) * 8 + g.val) :
    (iblk m c 12 t : FVec Ideal S8x256x256 .f32) (ix3 g i j) = (hd (at0 m c) main_call0_v214 : FVec Ideal S16x256x256 .f32) (ix3 b i j) := by
  refine congrArg (hd (at0 m c) main_call0_v214) (funext fun a => Fin.ext ?_)
  obtain ⟨h0, h1, h2⟩ := idx12 t ht
  refine (Pipeline.Window.rect_emb_val win0_12 t (ix3 g i j) a).trans ?_
  fin_cases a
  · show win0_12.index t (0 : Fin 3) * 8 + g.val = b.val
    rw [h0]; omega
  · show win0_12.index t (1 : Fin 3) * 256 + i.val = i.val
    rw [h1]; omega
  · show win0_12.index t (2 : Fin 3) * 256 + j.val = j.val
    rw [h2]; omega

/-! ## The carried features, as a graph reads them -/

theorem off2 : ∀ (t : Fin cfg0.N) (g : Fin 8), 8 ≤ t.val → k0_off2 (grid0.coords t) (BitVec.ofNat 32 g.val) = ![0, (t.val - 8) * 8 + g.val, 0, 0] :=
  (by decide +kernel : ∀ (t : Fin grid0.N) (g : Fin 8), 8 ≤ t.val → k0_off2 (grid0.coords t) (BitVec.ofNat 32 g.val) = ![0, (t.val - 8) * 8 + g.val, 0, 0])
theorem off3 : ∀ (t : Fin cfg0.N) (g : Fin 8), 8 ≤ t.val → k0_off3 (grid0.coords t) (BitVec.ofNat 32 g.val) = ![1, (t.val - 8) * 8 + g.val, 0, 0] :=
  (by decide +kernel : ∀ (t : Fin grid0.N) (g : Fin 8), 8 ≤ t.val → k0_off3 (grid0.coords t) (BitVec.ofNat 32 g.val) = ![1, (t.val - 8) * 8 + g.val, 0, 0])
theorem off4 : ∀ (t : Fin cfg0.N) (g : Fin 8), 8 ≤ t.val → k0_off4 (grid0.coords t) (BitVec.ofNat 32 g.val) = ![2, (t.val - 8) * 8 + g.val, 0, 0] :=
  (by decide +kernel : ∀ (t : Fin grid0.N) (g : Fin 8), 8 ≤ t.val → k0_off4 (grid0.coords t) (BitVec.ofNat 32 g.val) = ![2, (t.val - 8) * 8 + g.val, 0, 0])
theorem off5 : ∀ (t : Fin cfg0.N) (g : Fin 8), 8 ≤ t.val → k0_off5 (grid0.coords t) (BitVec.ofNat 32 g.val) = ![3, (t.val - 8) * 8 + g.val, 0, 0] :=
  (by decide +kernel : ∀ (t : Fin grid0.N) (g : Fin 8), 8 ≤ t.val → k0_off5 (grid0.coords t) (BitVec.ofNat 32 g.val) = ![3, (t.val - 8) * 8 + g.val, 0, 0])
theorem off6 : ∀ (t : Fin cfg0.N) (g : Fin 8), 8 ≤ t.val → k0_off6 (grid0.coords t) (BitVec.ofNat 32 g.val) = ![4, (t.val - 8) * 8 + g.val, 0, 0] :=
  (by decide +kernel : ∀ (t : Fin grid0.N) (g : Fin 8), 8 ≤ t.val → k0_off6 (grid0.coords t) (BitVec.ofNat 32 g.val) = ![4, (t.val - 8) * 8 + g.val, 0, 0])
theorem off7 : ∀ (t : Fin cfg0.N) (g : Fin 8), 8 ≤ t.val → k0_off7 (grid0.coords t) (BitVec.ofNat 32 g.val) = ![5, (t.val - 8) * 8 + g.val, 0, 0] :=
  (by decide +kernel : ∀ (t : Fin grid0.N) (g : Fin 8), 8 ≤ t.val → k0_off7 (grid0.coords t) (BitVec.ofNat 32 g.val) = ![5, (t.val - 8) * 8 + g.val, 0, 0])
theorem off8 : ∀ (t : Fin cfg0.N) (g : Fin 8), 8 ≤ t.val → k0_off8 (grid0.coords t) (BitVec.ofNat 32 g.val) = ![6, (t.val - 8) * 8 + g.val, 0, 0] :=
  (by decide +kernel : ∀ (t : Fin grid0.N) (g : Fin 8), 8 ≤ t.val → k0_off8 (grid0.coords t) (BitVec.ofNat 32 g.val) = ![6, (t.val - 8) * 8 + g.val, 0, 0])
theorem off9 : ∀ (t : Fin cfg0.N) (g : Fin 8), 8 ≤ t.val → k0_off9 (grid0.coords t) (BitVec.ofNat 32 g.val) = ![7, (t.val - 8) * 8 + g.val, 0, 0] :=
  (by decide +kernel : ∀ (t : Fin grid0.N) (g : Fin 8), 8 ≤ t.val → k0_off9 (grid0.coords t) (BitVec.ofNat 32 g.val) = ![7, (t.val - 8) * 8 + g.val, 0, 0])

/-- A block of 32 nodes of one graph, read out of the carried features. -/
theorem ld_at (sc : Vec Ideal S8x16x32x128 .f32) (off : Fin 4 → ℕ) (inb : ∀ a, off a + S1x1x32x128.size a ≤ S8x16x32x128.size a) (q : Fin 8) (b : Fin 16)
    (h : off = ![q.val, b.val, 0, 0]) (n : Fin 32) (k : Fin 128) :
    shapeCast S32x128 (View.ld sc (Rect.unit (s := S8x16x32x128) off S1x1x32x128.size inb)) shapeCasts_S1x1x32x128_S32x128 (ix2 n k) = sc (ix4 q b n k) := by
  subst h
  refine (shapeCast_apply _ _ _ (ix4 0 0 n k) ?_).trans (congrArg sc (funext fun a => Fin.ext ?_))
  · rw [Shape.rowMajor_val_four, Shape.rowMajor_val_two]
    show ((0 * 1 + 0) * 32 + n.val) * 128 + k.val = n.val * 128 + k.val
    omega
  · fin_cases a
    · show q.val + 1 * 0 = q.val; omega
    · show b.val + 1 * 0 = b.val; omega
    · show 0 + 1 * n.val = n.val; omega
    · show 0 + 1 * k.val = k.val; omega

/-- The node of a block. -/
def nodeAt (q : Fin 8) (n : Fin 32) : Fin 256 := ⟨32 * q.val + n.val, by have := q.isLt; have := n.isLt; omega⟩

theorem node_eta (i : Fin 256) : nodeAt ⟨i.val / 32, by have := i.isLt; omega⟩ ⟨i.val % 32, by omega⟩ = i := Fin.ext (Nat.div_add_mod i.val 32)

/-- Eight blocks of 32 nodes, one above the other. -/
theorem eight (x0 x1 x2 x3 x4 x5 x6 x7 : FVec Ideal S32x128 .f32) (h) (q : Fin 8) (n : Fin 32) (k : Fin 128) :
    concatenate S256x128 0 [⟨S32x128, x0⟩, ⟨S32x128, x1⟩, ⟨S32x128, x2⟩, ⟨S32x128, x3⟩, ⟨S32x128, x4⟩, ⟨S32x128, x5⟩, ⟨S32x128, x6⟩, ⟨S32x128, x7⟩] h (ix2 (nodeAt q n) k)
      = (![x0, x1, x2, x3, x4, x5, x6, x7] q) (ix2 n k) :=
  concatenate_ofFn_apply (t := S256x128) (s₁ := S32x128) 0 ![x0, x1, x2, x3, x4, x5, x6, x7] h rfl 32 rfl (ix2 (nodeAt q n) k) q
    (by show (32 * q.val + n.val) / 32 = q.val; have := n.isLt; omega) (ix2 n k) (by show n.val = (32 * q.val + n.val) % 32; have := n.isLt; omega)
    (Fin.forall_fin_two.2 ⟨fun ha => absurd rfl ha, fun _ => rfl⟩)

/-- The features of one graph, read out of the carried features. -/
theorem gX_at (t : Fin cfg0.N) (ht : 8 ≤ t.val) (h : k0_cond2 (grid0.coords t) = 1#1) (sc : Vec Ideal S8x16x32x128 .f32) (g : Fin 8) (b : Fin 16)
    (hb : b.val = (t.val - 8) * 8 + g.val) (q : Fin 8) (n : Fin 32) (k : Fin 128) :
    gX (grid0.coords t) h sc g (ix2 (nodeAt q n) k) = sc (ix4 q b n k) := by
  have hq : q = 0 ∨ q = 1 ∨ q = 2 ∨ q = 3 ∨ q = 4 ∨ q = 5 ∨ q = 6 ∨ q = 7 := by revert q; decide
  refine (eight _ _ _ _ _ _ _ _ concatenates_S32x128_S32x128_S32x128_S32x128_S32x128_S32x128_S32x128_S32x128_S256x128_d0 q n k).trans ?_
  rcases hq with rfl | rfl | rfl | rfl | rfl | rfl | rfl | rfl
  · exact ld_at sc _ _ 0 b (by rw [off2 t g ht, hb]; rfl) n k
  · exact ld_at sc _ _ 1 b (by rw [off3 t g ht, hb]; rfl) n k
  · exact ld_at sc _ _ 2 b (by rw [off4 t g ht, hb]; rfl) n k
  · exact ld_at sc _ _ 3 b (by rw [off5 t g ht, hb]; rfl) n k
  · exact ld_at sc _ _ 4 b (by rw [off6 t g ht, hb]; rfl) n k
  · exact ld_at sc _ _ 5 b (by rw [off7 t g ht, hb]; rfl) n k
  · exact ld_at sc _ _ 6 b (by rw [off8 t g ht, hb]; rfl) n k
  · exact ld_at sc _ _ 7 b (by rw [off9 t g ht, hb]; rfl) n k

end Cert.KernelIdeal.Hand

end
-- ==== Proof.PayRead.lean ====
module

public import proofs.«01_k».proof.Proof.Gen.KernelIdeal.Skeleton
public import proofs.«01_k».proof.Proof.Reads
public import Idealize.ShloMosaic.Lib.ValueLayout

@[expose] public section

set_option maxRecDepth 16384

noncomputable section

/-! The block of features the kernel's first stage writes, at an index. -/

namespace Cert.KernelIdeal.Hand

open Cert.KernelIdeal.Gen Cert.Spec Idealize.ShloMosaic

/-- A hidden layer of the kernel. -/
theorem layer_apply (x : FVec Ideal S16x128 .f32) (w : FVec Ideal S128x128 .f32) (b : FVec Ideal S1x128 .f32) (i : Fin 16) (j : Fin 128) :
    maximumf (addf (matmul dot_S16x128_S128x128_S16x128_1_1_0_0_n_n (some .fp32) x w (constant S16x128 .f32 0x00000000#32))
      (broadcastTo S16x128 (shapeCast S1x128 b shapeCasts_S1x128_S1x128) broadcasts_S1x128_S16x128)) (broadcast S16x128 (Scalar.ofBits (F := Ideal) .f32 0x00000000#32)) (ix2 i j)
      = relu (fun i k => x (ix2 i k)) (fun j k => w (ix2 j k)) (fun j => b (ix2 0 j)) i j := by
  refine congrArg₂ max (congrArg₂ (· + ·) ?_ ?_) Ideal.ofBits_zero_f32
  · exact Reads.mm _ 128 rfl rfl _ _ _ _ (fun k => ix2 i k) (fun k => ix2 j k) (by intro k a; fin_cases a <;> rfl) (by intro k a; fin_cases a <;> rfl)
  · exact (broadcastTo_apply _ _ _ (ix2 0 j) (by intro a; fin_cases a <;> rfl)).trans (shapeCast_apply _ _ _ _ rfl)

/-- The block of the first stage: the network's node features through the graph layer's matrix. -/
theorem pay_apply (x : FVec Ideal S16x128 .f32) (w0 : FVec Ideal S128x128 .f32) (b0 : FVec Ideal S1x128 .f32) (w1 : FVec Ideal S128x128 .f32)
    (b1 : FVec Ideal S1x128 .f32) (w2 : FVec Ideal S32x128x128 .f32) (b2 : FVec Ideal S32x128 .f32) (gw : FVec Ideal S128x128 .f32)
    (b : Fin 16) (n : Fin 32) (c : Fin 128) :
    k0_pay1 (F := Ideal) x w0 b0 w1 b1 w2 b2 gw (ix4 0 b n c) = ∑ t : Fin 128,
      lin (relu (relu (fun i k => x (ix2 i k)) (fun j k => w0 (ix2 j k)) (fun j => b0 (ix2 0 j))) (fun j k => w1 (ix2 j k)) (fun j => b1 (ix2 0 j)))
        (fun t k => w2 (ix3 n t k)) (fun t => b2 (ix2 n t)) b t * gw (ix2 c t) := by
  unfold k0_pay1
  refine (shapeCast_apply _ _ _ (ix3 b n c) ?_).trans ?_
  · rw [Shape.rowMajor_val_three, Shape.rowMajor_val_four]
    show (b.val * 32 + n.val) * 128 + c.val = ((0 * 16 + b.val) * 32 + n.val) * 128 + c.val
    omega
  refine (Reads.mm _ 128 rfl rfl _ _ _ _ (fun t => ix3 b n t) (fun t => ix2 c t) (by intro k a; fin_cases a <;> rfl) (by intro k a; fin_cases a <;> rfl)).trans ?_
  refine Finset.sum_congr rfl fun t _ => congrArg₂ (· * ·) (congrArg₂ (· + ·) ?_ ?_) rfl
  · refine (Reads.mm _ 128 rfl rfl _ _ _ _ (fun k => ix2 b k) (fun k => ix3 n t k) (by intro k a; fin_cases a <;> rfl) (by intro k a; fin_cases a <;> rfl)).trans ?_
    refine Finset.sum_congr rfl fun k _ => congrArg₂ (· * ·) ((layer_apply _ _ _ _ _).trans ?_) (shapeCast_apply _ _ _ _ rfl)
    exact congrArg (fun f => relu f _ _ b k) (funext fun i => funext fun l => layer_apply _ _ _ i l)
  · refine (broadcastTo_apply _ _ _ (ix3 0 n t) (by intro a; fin_cases a <;> rfl)).trans ?_
    refine (shapeCast_apply _ _ _ (ix2 n t) ?_).trans (shapeCast_apply _ _ _ _ rfl)
    rw [Shape.rowMajor_val_two, Shape.rowMajor_val_three]
    show n.val * 128 + t.val = (0 * 32 + n.val) * 128 + t.val
    omega

end Cert.KernelIdeal.Hand

end
-- ==== Proof.KFinal.lean ====
module

public import proofs.«01_k».proof.Proof.Blocks
public import proofs.«01_k».proof.Proof.PayRead

@[expose] public section

set_option maxRecDepth 16384

noncomputable section

/-! What the kernel leaves in its result, entry by entry. -/

namespace Cert.KernelIdeal.Hand

open Cert.KernelIdeal Cert.KernelIdeal.Gen Cert.Spec Idealize.ShloMosaic Idealize.ShloMosaic.TcCoe Idealize.ShloMosaic.StableHlo

/-- The network's numbers, out of the launch contents. -/
def argsOf (V : Valuation τ sig (Elt Ideal)) : Args where
  x i j := (V (Proc.devRef .tc main_arg0) : FVec Ideal S16x128 .f32) (ix2 i j)
  w0 i j := (V (Proc.devRef .tc main_arg1) : FVec Ideal S128x128 .f32) (ix2 i j)
  b0 i := (V (Proc.devRef .tc main_arg2) : FVec Ideal S128 .f32) (ix1 i)
  w1 i j := (V (Proc.devRef .tc main_arg3) : FVec Ideal S128x128 .f32) (ix2 i j)
  b1 i := (V (Proc.devRef .tc main_arg4) : FVec Ideal S128 .f32) (ix1 i)
  w2 i j := (V (Proc.devRef .tc main_arg5) : FVec Ideal S32768x128 .f32) (ix2 i j)
  b2 i := (V (Proc.devRef .tc main_arg6) : FVec Ideal S32768 .f32) (ix1 i)
  gw i j := (V (Proc.devRef .tc main_arg7) : FVec Ideal S128x128 .f32) (ix2 i j)
  s h d := (V (Proc.devRef .tc main_arg8) : FVec Ideal S4x32 .f32) (ix2 h d)
  d h d := (V (Proc.devRef .tc main_arg9) : FVec Ideal S4x32 .f32) (ix2 h d)
  gb i := (V (Proc.devRef .tc main_arg10) : FVec Ideal S128 .f32) (ix1 i)
  wl i j := (V (Proc.devRef .tc main_arg11) : FVec Ideal S256x128 .f32) (ix2 i j)
  bl i := (V (Proc.devRef .tc main_arg12) : FVec Ideal S256 .f32) (ix1 i)

/-! ## One graph -/

/-- The attention's mean of a graph, at a lane. -/
theorem agg_at (f : Fin 256 → Fin 128 → EReal) (s d : Fin 4 → Fin 32 → EReal) (hf : ∀ i k, IsR (f i k)) (x : FVec Ideal S256x128 .f32) (p : FVec Ideal S128x8 .f32)
    (hx : ∀ i k, x (ix2 i k) = f i k)
    (hs : ∀ h' e h, p (ix2 (laneOf h' e) (srcCol h)) = (if h' = h then (1 : EReal) else 0) * s h' e)
    (hd : ∀ h' e h, p (ix2 (laneOf h' e) (dstCol h)) = (if h' = h then (1 : EReal) else 0) * d h' e) (j : Fin 256) (k : Fin 128) :
    graphAgg x p (ix2 j k) = mix f s d j k := by
  have e := graphAgg_apply x p j (headOf k) (chanOf k)
  change graphAgg x p (ix2 j (laneOf (headOf k) (chanOf k))) = aggK (fun i => x (ix2 i (laneOf (headOf k) (chanOf k)))) _ _ j at e
  rw [lane_eta] at e
  have e1 : (fun i => x (ix2 i k)) = fun i => f i k := funext fun i => hx i k
  have e2 : (fun i => ∑ k' : Fin 128, x (ix2 i k') * p (ix2 k' (srcCol (headOf k)))) = scoreOf f s (headOf k) := funext fun i =>
    (Finset.sum_congr rfl fun k' _ => congrArg (· * _) (hx i k')).trans (score_sum (f i) (fun k' => p (ix2 k' (srcCol (headOf k)))) s (headOf k) fun h' e => hs h' e (headOf k))
  have e3 : (fun i => ∑ k' : Fin 128, p (ix2 k' (dstCol (headOf k))) * x (ix2 i k')) = scoreOf f d (headOf k) := funext fun i =>
    (Finset.sum_congr rfl fun k' _ => (mul_comm _ _).trans (congrArg (· * _) (hx i k'))).trans
      (score_sum (f i) (fun k' => p (ix2 k' (dstCol (headOf k)))) d (headOf k) fun h' e => hd h' e (headOf k))
  rw [e, e1, e2, e3]
  exact aggK_eq _ _ _ (fun i => hf i k) j

/-- The edges of a graph. -/
theorem graph_at {A : Args} (hA : A.Real) (b : Fin 16) (x : FVec Ideal S256x128 .f32) (p : FVec Ideal S128x8 .f32) (gb : FVec Ideal S1x128 .f32)
    (wl : FVec Ideal S256x128 .f32) (bl : FVec Ideal S1x256 .f32) (g : FVec Ideal S1x256x256 .f32) (hx : ∀ i k, x (ix2 i k) = feature A b i k)
    (hs : ∀ h' e h, p (ix2 (laneOf h' e) (srcCol h)) = (if h' = h then (1 : EReal) else 0) * A.s h' e)
    (hd : ∀ h' e h, p (ix2 (laneOf h' e) (dstCol h)) = (if h' = h then (1 : EReal) else 0) * A.d h' e)
    (hgb : ∀ k, gb (ix2 0 k) = A.gb k) (hwl : ∀ j k, wl (ix2 j k) = A.wl j k) (hbl : ∀ j, bl (ix2 0 j) = A.bl j)
    (hg : ∀ i j, g (ix3 0 i j) = noiseAt b i j) (i j : Fin 256) : graphOut x p gb wl bl g (ix3 0 i j) = answer A b i j := by
  have hz : ∀ i j, graphZ (graphAgg x p) gb wl bl g (ix2 i j) = logit A b i j := fun i j => by
    refine (graphZ_apply _ _ _ _ _ i j).trans (congrArg₂ (· + ·) ?_ (hg i j))
    have e1 : (fun i k => elu (graphAgg x p (ix2 i k) + gb (ix2 0 k))) = fun i k => elu (mix (feature A b) A.s A.d i k + A.gb k) :=
      funext₂ fun i k => congrArg elu (congrArg₂ (· + ·) (agg_at _ _ _ (feature_isR hA b) x p hx hs hd i k) (hgb k))
    rw [e1, funext₂ hwl, funext hbl]
  have hy : ∀ i j, graphY (graphZ (graphAgg x p) gb wl bl g) (ix2 i j) = hard (logit A b i) j := fun i j =>
    (graphY_apply _ i j).trans (congrArg (fun z => hard z j) (funext fun k => hz i k))
  refine (graphAdj_apply _ i j).trans ?_
  rw [hy, hy]
  rfl

variable (m : (ℓ : Loc nD τ sig) → Buf (Elt Ideal) ℓ) (ρ : Dev nD → PrngReg) (c : Dev nD)

/-! ## The features -/

/-- An affine map of which some of the outputs are taken. -/
theorem lin_part {X : Fin 16 → Fin 128 → EReal} (w : Fin 32768 → Fin 128 → EReal) (v : Fin 32768 → EReal) (φ : Fin 128 → Fin 32768) (b : Fin 16) (u : Fin 128) :
    lin X (fun t k => w (φ t) k) (fun t => v (φ t)) b u = lin X w v b (φ u) := rfl

/-- The features of the first stage. -/
theorem feats_at (q : Fin 8) (b : Fin 16) (n : Fin 32) (k : Fin 128) :
    feats m c (ix4 q b n k) = feature (argsOf (at0 m c)) b (nodeAt q n) k := by
  have hq : (ptA q).val < 8 := q.isLt
  refine (pay_apply _ _ _ _ _ _ _ _ b n k).trans (Finset.sum_congr rfl fun u _ => congrArg₂ (· * ·) ?_ ?_)
  · have e0 : (fun i j => (iblk m c 0 (ptA q) : FVec Ideal S16x128 .f32) (ix2 i j)) = (argsOf (at0 m c)).x := by
      rw [blk0, hd_arg _ (b := main_arg0) ⟨rfl, by decide⟩]; rfl
    have e1 : (fun i j => (iblk m c 1 (ptA q) : FVec Ideal S128x128 .f32) (ix2 i j)) = (argsOf (at0 m c)).w0 := by
      rw [blk1, hd_arg _ (b := main_arg1) ⟨rfl, by decide⟩]; rfl
    have e2 : (fun j => (iblk m c 2 (ptA q) : FVec Ideal S1x128 .f32) (ix2 0 j)) = (argsOf (at0 m c)).b0 := by
      rw [blk2]; exact funext fun j => b0_at _ j
    have e3 : (fun i j => (iblk m c 3 (ptA q) : FVec Ideal S128x128 .f32) (ix2 i j)) = (argsOf (at0 m c)).w1 := by
      rw [blk3, hd_arg _ (b := main_arg3) ⟨rfl, by decide⟩]; rfl
    have e4 : (fun j => (iblk m c 4 (ptA q) : FVec Ideal S1x128 .f32) (ix2 0 j)) = (argsOf (at0 m c)).b1 := by
      rw [blk4]; exact funext fun j => b1_at _ j
    have e5 : (fun t k => (iblk m c 5 (ptA q) : FVec Ideal S32x128x128 .f32) (ix3 n t k)) = fun t k => (argsOf (at0 m c)).w2 (featOf (nodeAt q n) t) k :=
      funext₂ fun t k => (blk5 m c (ptA q) hq n t k (nodeAt q n) rfl).trans (w2_at _ _ _ _)
    have e6 : (fun t => (iblk m c 6 (ptA q) : FVec Ideal S32x128 .f32) (ix2 n t)) = fun t => (argsOf (at0 m c)).b2 (featOf (nodeAt q n) t) :=
      funext fun t => (blk6 m c (ptA q) hq n t (nodeAt q n) rfl).trans (b2_at _ _ _)
    change lin (relu (relu (fun i j => (iblk m c 0 (ptA q) : FVec Ideal S16x128 .f32) (ix2 i j)) (fun i j => (iblk m c 1 (ptA q) : FVec Ideal S128x128 .f32) (ix2 i j))
      (fun j => (iblk m c 2 (ptA q) : FVec Ideal S1x128 .f32) (ix2 0 j))) (fun i j => (iblk m c 3 (ptA q) : FVec Ideal S128x128 .f32) (ix2 i j))
      (fun j => (iblk m c 4 (ptA q) : FVec Ideal S1x128 .f32) (ix2 0 j))) (fun t k => (iblk m c 5 (ptA q) : FVec Ideal S32x128x128 .f32) (ix3 n t k))
      (fun t => (iblk m c 6 (ptA q) : FVec Ideal S32x128 .f32) (ix2 n t)) b u = _
    rw [e0, e1, e2, e3, e4, e5, e6]
    exact lin_part _ _ (featOf (nodeAt q n)) b u
  · rw [blk7, hd_arg _ (b := main_arg7) ⟨rfl, by decide⟩]; rfl

/-! ## The output -/

/-- What the kernel leaves in its result. -/
def res : FVec Ideal S16x256x256 .f32 := fun y => answer (argsOf (at0 m c)) (y 0) (y 1) (y 2)

/-- The block of the output a point of the second stage writes. -/
theorem outB_at (hA : (argsOf (at0 m c)).Real) (t : Fin cfg0.N) (ht : 8 ≤ t.val) (g : Fin 8) (i j : Fin 256) (b : Fin 16) (hb : b.val = (t.val - 8) * 8 + g.val) :
    outB m c t (ix3 g i j) = answer (argsOf (at0 m c)) b i j := by
  unfold outB
  rw [dif_pos ht]
  refine graph_at hA b _ _ _ _ _ _ (fun i k => ?_) ?_ ?_ ?_ ?_ ?_ ?_ i j
  · have e := gX_at t ht ((hcond0_1 t).mpr ht) (feats m c) g b hb ⟨i.val / 32, by have := i.isLt; omega⟩ ⟨i.val % 32, by omega⟩ k
    rw [feats_at, node_eta] at e
    exact e
  · rw [blk8]; exact src_at (at0 m c)
  · rw [blk8]; exact dst_at (at0 m c)
  · rw [blk9]; exact gb_at (at0 m c)
  · rw [blk10, hd_arg _ (b := main_arg11) ⟨rfl, by decide⟩]; exact fun _ _ => rfl
  · rw [blk11]; exact bl_at (at0 m c)
  · exact fun i j => (blk12 m c t ht g i j b hb).trans (noise_at _ b i j)

/-- Only the second stage writes back. -/
theorem flush_late (t : Fin cfg0.N) (h : (cfg0.win 13).flush t = true) : 8 ≤ t.val := by
  by_contra hlt
  rw [(idle13 t (by omega)).2] at h
  exact absurd h (by decide)

/-- What is written back is the block of the result. -/
theorem flushed_eq (hA : (argsOf (at0 m c)).Real) (t : Fin cfg0.N) (h : (cfg0.win 13).flush t = true) :
    (dats m 0 c).flushed 13 t = ((cfg0.win 13).blk t).view.read (Elt Ideal) (res m c) := by
  have ht := flush_late t h
  have hN : t.val < 10 := lt_of_lt_of_eq t.isLt (show cfg0.N = 10 from N_0)
  obtain ⟨h0, h1, h2⟩ := idx13 t ht
  show (cfg0.win 13).cut (grid0.coords t) ((dats m 0 c).after 13 t) = _
  rw [after0_13]
  have key : ∀ z : S8x256x256.Idx, outB m c t z = res m c ((win0_13.rect t).emb z) := fun z => by
    have hz : (z 0).val < 8 := (z 0).isLt
    have e : z = ix3 (z 0) (z 1) (z 2) := funext fun a => by fin_cases a <;> rfl
    have e' : (win0_13.rect t).emb z = (ix3 ⟨(t.val - 8) * 8 + (z 0).val, by omega⟩ (z 1) (z 2) : S16x256x256.Idx) := funext fun a => Fin.ext (by
      refine (Pipeline.Window.rect_emb_val win0_13 t z a).trans ?_
      fin_cases a
      · show win0_13.index t (0 : Fin 3) * 8 + (z 0).val = (t.val - 8) * 8 + (z 0).val
        rw [h0]
      · show win0_13.index t (1 : Fin 3) * 256 + (z 1).val = (z 1).val
        rw [h1]; omega
      · show win0_13.index t (2 : Fin 3) * 256 + (z 2).val = (z 2).val
        rw [h2]; omega)
    rw [e']
    exact (congrArg (outB m c t) e).trans (outB_at m c hA t ht (z 0) (z 1) (z 2) ⟨(t.val - 8) * 8 + (z 0).val, by omega⟩ rfl)
  exact funext key

/-- The second stage writes back at both of its points. -/
theorem flush13 : ∀ t : Fin cfg0.N, 8 ≤ t.val → (cfg0.win 13).flush t = true :=
  (by decide +kernel : ∀ t : Fin grid0.N, 8 ≤ t.val → (cfg0.win 13).flush t = true)

/-- The block a point of the second stage writes is of its full size. -/
theorem xsize13 : ∀ (t : Fin cfg0.N) (a : Fin 3), win0_13.xsize (grid0.coords t) a = S8x256x256.size a :=
  (by decide +kernel : ∀ (t : Fin grid0.N) (a : Fin 3), win0_13.xsize (grid0.coords t) a = S8x256x256.size a)

/-- Every entry of the result is written back. -/
theorem cover (i : S16x256x256.Idx) : ∃ t : Fin cfg0.N, (cfg0.win 13).flush t = true ∧ i ∈ ((cfg0.win 13).blk t).view.set := by
  have hi : (i 0).val < 16 := (i 0).isLt
  let t0 : Fin cfg0.N := ⟨8 + (i 0).val / 8, by rw [show cfg0.N = 10 from N_0]; omega⟩
  have ht : 8 ≤ t0.val := Nat.le_add_right _ _
  refine ⟨t0, flush13 t0 ht, ?_⟩
  show i ∈ ((View.whole main_v0).slice (win0_13.rect t0)).set
  erw [View.set_slice_whole]
  refine (Pipeline.Window.mem_rect_iff win0_13 t0 i (by rfl)).mpr fun a => ?_
  obtain ⟨h0, h1, h2⟩ := idx13 t0 ht
  have hv : t0.val - 8 = (i 0).val / 8 := Nat.add_sub_cancel_left _ _
  rw [hv] at h0
  fin_cases a
  · show win0_13.index t0 (0 : Fin 3) * 8 ≤ (i 0).val ∧ (i 0).val < win0_13.index t0 (0 : Fin 3) * 8 + win0_13.xsize (grid0.coords t0) (0 : Fin 3)
    rw [h0, xsize13 t0 0]
    show (i 0).val / 8 * 8 ≤ (i 0).val ∧ (i 0).val < (i 0).val / 8 * 8 + 8
    omega
  · show win0_13.index t0 (1 : Fin 3) * 256 ≤ (i 1).val ∧ (i 1).val < win0_13.index t0 (1 : Fin 3) * 256 + win0_13.xsize (grid0.coords t0) (1 : Fin 3)
    rw [h1, xsize13 t0 1]
    have : (i 1).val < 256 := (i 1).isLt
    show 0 * 256 ≤ (i 1).val ∧ (i 1).val < 0 * 256 + 256
    omega
  · show win0_13.index t0 (2 : Fin 3) * 256 ≤ (i 2).val ∧ (i 2).val < win0_13.index t0 (2 : Fin 3) * 256 + win0_13.xsize (grid0.coords t0) (2 : Fin 3)
    rw [h2, xsize13 t0 2]
    have : (i 2).val < 256 := (i 2).isLt
    show 0 * 256 ≤ (i 2).val ∧ (i 2).val < 0 * 256 + 256
    omega

/-- The result's array at the end of the launch. -/
theorem final (hA : (argsOf (at0 m c)).Real) : (dats m 0 c).arrAt 13 cfg0.N = res m c :=
  (dats m 0 c).arrAt_eq_of_cover 13 (res m c) (flushed_eq m c hA) cover

end Cert.KernelIdeal.Hand

end
-- ==== Proof.RFacts.lean ====
module

public import proofs.«01_k».proof.ReferenceIdeal
public import Idealize.ShloMosaic.Lib.Decide

@[expose] public section

noncomputable section

/-! The side conditions the reference states about its shapes. -/

namespace Cert.ReferenceIdeal.Hand

open Cert.ReferenceIdeal Idealize.ShloMosaic

set_option maxRecDepth 8192 in
/-- Every shape fact of the reference, by computation. -/
instance facts₀ : Facts₀ := by constructor <;> decide

instance facts : Facts where

end Cert.ReferenceIdeal.Hand

end
-- ==== Proof.RRun.lean ====
module

public import proofs.«01_k».proof.Proof.Ssa
public import proofs.«01_k».proof.Proof.RFacts
public import Idealize.ShloMosaic.Lib.Pipeline.Frame

@[expose] public section

set_option maxRecDepth 16384

noncomputable section

/-! The reference's operations in order, as one line in which each writes the next tensor value, and its run. -/

namespace Cert.ReferenceIdeal.Hand

open Cert.ReferenceIdeal Cert.ReferenceIdeal.Facts₀ Cert.Ssa Idealize.ShloMosaic Idealize.ShloMosaic.TcCoe Idealize.SL.Sem Idealize.ShloMosaic.StableHlo

variable {F : FTy → Type} [FloatOps F]

/-- Part 0 of the operations. -/
abbrev ops0 : List (HloOp τ sig (Elt F)) :=
  [ unary main_arg1 main_v0 ((transpose S128x128 [1, 0] · transposes_S128x128_S128x128_1_0) : (⟨S128x128, .f32⟩ : BufTy).Contents (Elt F) → (⟨S128x128, .f32⟩ : BufTy).Contents (Elt F)),
    binary main_arg0 main_v0 main_v1 ((fun l r => Host.dotGeneral dot_S16x128_S128x128_S16x128_1_0_0_1_n_n none l r) : (⟨S16x128, .f32⟩ : BufTy).Contents (Elt F) → (⟨S128x128, .f32⟩ : BufTy).Contents (Elt F) → (⟨S16x128, .f32⟩ : BufTy).Contents (Elt F)),
    unary main_arg2 main_v2 (broadcastInDim S1x128 ![1] bcast_S128_S1x128_1 : (⟨S128, .f32⟩ : BufTy).Contents (Elt F) → (⟨S1x128, .f32⟩ : BufTy).Contents (Elt F)),
    unary main_v2 main_v3 (broadcastInDim S16x128 ![0, 1] bcast_S1x128_S16x128_0_1 : (⟨S1x128, .f32⟩ : BufTy).Contents (Elt F) → (⟨S16x128, .f32⟩ : BufTy).Contents (Elt F)),
    binary main_v1 main_v3 main_v4 (addf : (⟨S16x128, .f32⟩ : BufTy).Contents (Elt F) → (⟨S16x128, .f32⟩ : BufTy).Contents (Elt F) → (⟨S16x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S16x128, .f32⟩) main_call0_v0) (broadcastInDim S16x128 ![] bcast_S_S16x128),
    TRef.binary (TRef.of (T := ⟨S16x128, .f32⟩) main_v4) (TRef.of (T := ⟨S16x128, .f32⟩) main_call0_v0) (TRef.of (T := ⟨S16x128, .f32⟩) main_v5) maximumf,
    unary main_arg3 main_v6 ((transpose S128x128 [1, 0] · transposes_S128x128_S128x128_1_0) : (⟨S128x128, .f32⟩ : BufTy).Contents (Elt F) → (⟨S128x128, .f32⟩ : BufTy).Contents (Elt F)),
    binary main_v5 main_v6 main_v7 ((fun l r => Host.dotGeneral dot_S16x128_S128x128_S16x128_1_0_0_1_n_n none l r) : (⟨S16x128, .f32⟩ : BufTy).Contents (Elt F) → (⟨S128x128, .f32⟩ : BufTy).Contents (Elt F) → (⟨S16x128, .f32⟩ : BufTy).Contents (Elt F)),
    unary main_arg4 main_v8 (broadcastInDim S1x128 ![1] bcast_S128_S1x128_1 : (⟨S128, .f32⟩ : BufTy).Contents (Elt F) → (⟨S1x128, .f32⟩ : BufTy).Contents (Elt F)),
    unary main_v8 main_v9 (broadcastInDim S16x128 ![0, 1] bcast_S1x128_S16x128_0_1 : (⟨S1x128, .f32⟩ : BufTy).Contents (Elt F) → (⟨S16x128, .f32⟩ : BufTy).Contents (Elt F)),
    binary main_v7 main_v9 main_v10 (addf : (⟨S16x128, .f32⟩ : BufTy).Contents (Elt F) → (⟨S16x128, .f32⟩ : BufTy).Contents (Elt F) → (⟨S16x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S16x128, .f32⟩) main_call1_v0) (broadcastInDim S16x128 ![] bcast_S_S16x128),
    TRef.binary (TRef.of (T := ⟨S16x128, .f32⟩) main_v10) (TRef.of (T := ⟨S16x128, .f32⟩) main_call1_v0) (TRef.of (T := ⟨S16x128, .f32⟩) main_v11) maximumf,
    unary main_arg5 main_v12 ((transpose S128x32768 [1, 0] · transposes_S32768x128_S128x32768_1_0) : (⟨S32768x128, .f32⟩ : BufTy).Contents (Elt F) → (⟨S128x32768, .f32⟩ : BufTy).Contents (Elt F)),
    binary main_v11 main_v12 main_v13 ((fun l r => Host.dotGeneral dot_S16x128_S128x32768_S16x32768_1_0_0_1_n_n none l r) : (⟨S16x128, .f32⟩ : BufTy).Contents (Elt F) → (⟨S128x32768, .f32⟩ : BufTy).Contents (Elt F) → (⟨S16x32768, .f32⟩ : BufTy).Contents (Elt F)),
    unary main_arg6 main_v14 (broadcastInDim S1x32768 ![1] bcast_S32768_S1x32768_1 : (⟨S32768, .f32⟩ : BufTy).Contents (Elt F) → (⟨S1x32768, .f32⟩ : BufTy).Contents (Elt F)),
    unary main_v14 main_v15 (broadcastInDim S16x32768 ![0, 1] bcast_S1x32768_S16x32768_0_1 : (⟨S1x32768, .f32⟩ : BufTy).Contents (Elt F) → (⟨S16x32768, .f32⟩ : BufTy).Contents (Elt F)),
    binary main_v13 main_v15 main_v16 (addf : (⟨S16x32768, .f32⟩ : BufTy).Contents (Elt F) → (⟨S16x32768, .f32⟩ : BufTy).Contents (Elt F) → (⟨S16x32768, .f32⟩ : BufTy).Contents (Elt F)),
    reshape main_v16 main_v17 (rfl : (.f32 : EltTy) = .f32) shapeCasts_S16x32768_S4096x128,
    unary main_arg7 main_v18 ((transpose S128x128 [1, 0] · transposes_S128x128_S128x128_1_0) : (⟨S128x128, .f32⟩ : BufTy).Contents (Elt F) → (⟨S128x128, .f32⟩ : BufTy).Contents (Elt F)),
    binary main_v17 main_v18 main_v19 ((fun l r => Host.dotGeneral dot_S4096x128_S128x128_S4096x128_1_0_0_1_n_n none l r) : (⟨S4096x128, .f32⟩ : BufTy).Contents (Elt F) → (⟨S128x128, .f32⟩ : BufTy).Contents (Elt F) → (⟨S4096x128, .f32⟩ : BufTy).Contents (Elt F)),
    reshape main_v19 main_v20 (rfl : (.f32 : EltTy) = .f32) shapeCasts_S4096x128_S16x256x4x32,
    unary main_arg8 main_v21 (broadcastInDim S1x1x4x32 ![2, 3] bcast_S4x32_S1x1x4x32_2_3 : (⟨S4x32, .f32⟩ : BufTy).Contents (Elt F) → (⟨S1x1x4x32, .f32⟩ : BufTy).Contents (Elt F)),
    unary main_v21 main_v22 (broadcastInDim S16x256x4x32 ![0, 1, 2, 3] bcast_S1x1x4x32_S16x256x4x32_0_1_2_3 : (⟨S1x1x4x32, .f32⟩ : BufTy).Contents (Elt F) → (⟨S16x256x4x32, .f32⟩ : BufTy).Contents (Elt F)),
    binary main_v20 main_v22 main_v23 (mulf : (⟨S16x256x4x32, .f32⟩ : BufTy).Contents (Elt F) → (⟨S16x256x4x32, .f32⟩ : BufTy).Contents (Elt F) → (⟨S16x256x4x32, .f32⟩ : BufTy).Contents (Elt F)),
    nullary main_cst (constant S_ .f32 0x00000000#32),
    binary main_v23 main_cst main_v24 ((fun x v => Host.reduceAdd x v reducesTo_S16x256x4x32_S16x256x4_d3 h_S_) : (⟨S16x256x4x32, .f32⟩ : BufTy).Contents (Elt F) → (⟨S_, .f32⟩ : BufTy).Contents (Elt F) → (⟨S16x256x4, .f32⟩ : BufTy).Contents (Elt F)),
    unary main_arg9 main_v25 (broadcastInDim S1x1x4x32 ![2, 3] bcast_S4x32_S1x1x4x32_2_3 : (⟨S4x32, .f32⟩ : BufTy).Contents (Elt F) → (⟨S1x1x4x32, .f32⟩ : BufTy).Contents (Elt F)),
    unary main_v25 main_v26 (broadcastInDim S16x256x4x32 ![0, 1, 2, 3] bcast_S1x1x4x32_S16x256x4x32_0_1_2_3 : (⟨S1x1x4x32, .f32⟩ : BufTy).Contents (Elt F) → (⟨S16x256x4x32, .f32⟩ : BufTy).Contents (Elt F)),
    binary main_v20 main_v26 main_v27 (mulf : (⟨S16x256x4x32, .f32⟩ : BufTy).Contents (Elt F) → (⟨S16x256x4x32, .f32⟩ : BufTy).Contents (Elt F) → (⟨S16x256x4x32, .f32⟩ : BufTy).Contents (Elt F)),
    nullary main_cst_0 (constant S_ .f32 0x00000000#32),
    binary main_v27 main_cst_0 main_v28 ((fun x v => Host.reduceAdd x v reducesTo_S16x256x4x32_S16x256x4_d3 h_S_) : (⟨S16x256x4x32, .f32⟩ : BufTy).Contents (Elt F) → (⟨S_, .f32⟩ : BufTy).Contents (Elt F) → (⟨S16x256x4, .f32⟩ : BufTy).Contents (Elt F)),
    unary main_v24 main_v29 (broadcastInDim S16x256x1x4 ![0, 1, 3] bcast_S16x256x4_S16x256x1x4_0_1_3 : (⟨S16x256x4, .f32⟩ : BufTy).Contents (Elt F) → (⟨S16x256x1x4, .f32⟩ : BufTy).Contents (Elt F)),
    unary main_v28 main_v30 (broadcastInDim S16x1x256x4 ![0, 2, 3] bcast_S16x256x4_S16x1x256x4_0_2_3 : (⟨S16x256x4, .f32⟩ : BufTy).Contents (Elt F) → (⟨S16x1x256x4, .f32⟩ : BufTy).Contents (Elt F)),
    unary main_v29 main_v31 (broadcastInDim S16x256x256x4 ![0, 1, 2, 3] bcast_S16x256x1x4_S16x256x256x4_0_1_2_3 : (⟨S16x256x1x4, .f32⟩ : BufTy).Contents (Elt F) → (⟨S16x256x256x4, .f32⟩ : BufTy).Contents (Elt F)),
    unary main_v30 main_v32 (broadcastInDim S16x256x256x4 ![0, 1, 2, 3] bcast_S16x1x256x4_S16x256x256x4_0_1_2_3 : (⟨S16x1x256x4, .f32⟩ : BufTy).Contents (Elt F) → (⟨S16x256x256x4, .f32⟩ : BufTy).Contents (Elt F)),
    binary main_v31 main_v32 main_v33 (addf : (⟨S16x256x256x4, .f32⟩ : BufTy).Contents (Elt F) → (⟨S16x256x256x4, .f32⟩ : BufTy).Contents (Elt F) → (⟨S16x256x256x4, .f32⟩ : BufTy).Contents (Elt F)),
    nullary main_cst_1 (constant S_ .f32 0x3E4CCCCD#32),
    TRef.nullary (TRef.of (T := ⟨S_, .f32⟩) main_call2_cst) (constant S_ .f32 0x00000000#32),
    TRef.unary (TRef.of (T := ⟨S_, .f32⟩) main_call2_cst) (TRef.of (T := ⟨S16x256x256x4, .f32⟩) main_call2_v0) (broadcastInDim S16x256x256x4 ![] bcast_S_S16x256x256x4),
    TRef.binary (TRef.of (T := ⟨S16x256x256x4, .f32⟩) main_v33) (TRef.of (T := ⟨S16x256x256x4, .f32⟩) main_call2_v0) (TRef.of (T := ⟨S16x256x256x4, .i1⟩) main_call2_v1) (cmpf .oge),
    TRef.unary (TRef.of (T := ⟨S_, .f32⟩) main_cst_1) (TRef.of (T := ⟨S_, .f32⟩) main_call2_v2) id,
    TRef.unary (TRef.of (T := ⟨S_, .f32⟩) main_call2_v2) (TRef.of (T := ⟨S16x256x256x4, .f32⟩) main_call2_v3) (broadcastInDim S16x256x256x4 ![] bcast_S_S16x256x256x4),
    TRef.binary (TRef.of (T := ⟨S16x256x256x4, .f32⟩) main_call2_v3) (TRef.of (T := ⟨S16x256x256x4, .f32⟩) main_v33) (TRef.of (T := ⟨S16x256x256x4, .f32⟩) main_call2_v4) mulf,
    TRef.ternary (TRef.of (T := ⟨S16x256x256x4, .i1⟩) main_call2_v1) (TRef.of (T := ⟨S16x256x256x4, .f32⟩) main_v33) (TRef.of (T := ⟨S16x256x256x4, .f32⟩) main_call2_v4) (TRef.of (T := ⟨S16x256x256x4, .f32⟩) main_v34) select,
    nullary main_v35 (iotaInDim S256 32 0),
    unary main_v35 main_v36 (broadcastInDim S256x1 ![0] bcast_S256_S256x1_0 : (⟨S256, .i32⟩ : BufTy).Contents (Elt F) → (⟨S256x1, .i32⟩ : BufTy).Contents (Elt F)),
    unary main_v35 main_v37 (broadcastInDim S1x256 ![1] bcast_S256_S1x256_1 : (⟨S256, .i32⟩ : BufTy).Contents (Elt F) → (⟨S1x256, .i32⟩ : BufTy).Contents (Elt F)),
    unary main_v36 main_v38 (broadcastInDim S256x256 ![0, 1] bcast_S256x1_S256x256_0_1 : (⟨S256x1, .i32⟩ : BufTy).Contents (Elt F) → (⟨S256x256, .i32⟩ : BufTy).Contents (Elt F)),
    unary main_v37 main_v39 (broadcastInDim S256x256 ![0, 1] bcast_S1x256_S256x256_0_1 : (⟨S1x256, .i32⟩ : BufTy).Contents (Elt F) → (⟨S256x256, .i32⟩ : BufTy).Contents (Elt F)),
    binary main_v38 main_v39 main_v40 (cmpi .sle : (⟨S256x256, .i32⟩ : BufTy).Contents (Elt F) → (⟨S256x256, .i32⟩ : BufTy).Contents (Elt F) → (⟨S256x256, .i1⟩ : BufTy).Contents (Elt F)),
    unary main_v40 main_v41 (broadcastInDim S1x256x256x1 ![1, 2] bcast_S256x256_S1x256x256x1_1_2 : (⟨S256x256, .i1⟩ : BufTy).Contents (Elt F) → (⟨S1x256x256x1, .i1⟩ : BufTy).Contents (Elt F)),
    nullary main_cst_2 (constant S_ .f32 0xFF800000#32),
    TRef.unary (TRef.of (T := ⟨S_, .f32⟩) main_cst_2) (TRef.of (T := ⟨S_, .f32⟩) main_call3_v0) id,
    TRef.unary (TRef.of (T := ⟨S1x256x256x1, .i1⟩) main_v41) (TRef.of (T := ⟨S16x256x256x4, .i1⟩) main_call3_v1) (broadcastInDim S16x256x256x4 ![0, 1, 2, 3] bcast_S1x256x256x1_S16x256x256x4_0_1_2_3),
    TRef.unary (TRef.of (T := ⟨S_, .f32⟩) main_call3_v0) (TRef.of (T := ⟨S16x256x256x4, .f32⟩) main_call3_v2) (broadcastInDim S16x256x256x4 ![] bcast_S_S16x256x256x4),
    TRef.ternary (TRef.of (T := ⟨S16x256x256x4, .i1⟩) main_call3_v1) (TRef.of (T := ⟨S16x256x256x4, .f32⟩) main_v34) (TRef.of (T := ⟨S16x256x256x4, .f32⟩) main_call3_v2) (TRef.of (T := ⟨S16x256x256x4, .f32⟩) main_v42) select,
    nullary main_cst_3 (constant S_ .f32 0xFF800000#32),
    binary main_v42 main_cst_3 main_v43 ((fun x v => Host.reduce FloatOps.maximumf x v reducesTo_S16x256x256x4_S16x256x4_d1 h_S_) : (⟨S16x256x256x4, .f32⟩ : BufTy).Contents (Elt F) → (⟨S_, .f32⟩ : BufTy).Contents (Elt F) → (⟨S16x256x4, .f32⟩ : BufTy).Contents (Elt F)),
    unary main_v43 main_v44 (broadcastInDim S16x1x256x4 ![0, 2, 3] bcast_S16x256x4_S16x1x256x4_0_2_3 : (⟨S16x256x4, .f32⟩ : BufTy).Contents (Elt F) → (⟨S16x1x256x4, .f32⟩ : BufTy).Contents (Elt F)),
    unary main_v44 main_v45 (broadcastInDim S16x256x256x4 ![0, 1, 2, 3] bcast_S16x1x256x4_S16x256x256x4_0_1_2_3 : (⟨S16x1x256x4, .f32⟩ : BufTy).Contents (Elt F) → (⟨S16x256x256x4, .f32⟩ : BufTy).Contents (Elt F)),
    binary main_v42 main_v45 main_v46 (subf : (⟨S16x256x256x4, .f32⟩ : BufTy).Contents (Elt F) → (⟨S16x256x256x4, .f32⟩ : BufTy).Contents (Elt F) → (⟨S16x256x256x4, .f32⟩ : BufTy).Contents (Elt F)),
    unary main_v46 main_v47 (Host.exp : (⟨S16x256x256x4, .f32⟩ : BufTy).Contents (Elt F) → (⟨S16x256x256x4, .f32⟩ : BufTy).Contents (Elt F)),
    nullary main_cst_4 (constant S_ .f32 0x00000000#32),
    binary main_v47 main_cst_4 main_v48 ((fun x v => Host.reduceAdd x v reducesTo_S16x256x256x4_S16x256x4_d1 h_S_) : (⟨S16x256x256x4, .f32⟩ : BufTy).Contents (Elt F) → (⟨S_, .f32⟩ : BufTy).Contents (Elt F) → (⟨S16x256x4, .f32⟩ : BufTy).Contents (Elt F)),
    unary main_v48 main_v49 (broadcastInDim S16x1x256x4 ![0, 2, 3] bcast_S16x256x4_S16x1x256x4_0_2_3 : (⟨S16x256x4, .f32⟩ : BufTy).Contents (Elt F) → (⟨S16x1x256x4, .f32⟩ : BufTy).Contents (Elt F)),
    nullary main_cst_5 (constant S_ .f32 0x24E69595#32),
    unary main_cst_5 main_v50 (broadcastInDim S16x1x256x4 ![] bcast_S_S16x1x256x4 : (⟨S_, .f32⟩ : BufTy).Contents (Elt F) → (⟨S16x1x256x4, .f32⟩ : BufTy).Contents (Elt F)),
    binary main_v49 main_v50 main_v51 (addf : (⟨S16x1x256x4, .f32⟩ : BufTy).Contents (Elt F) → (⟨S16x1x256x4, .f32⟩ : BufTy).Contents (Elt F) → (⟨S16x1x256x4, .f32⟩ : BufTy).Contents (Elt F)),
    unary main_v51 main_v52 (broadcastInDim S16x256x256x4 ![0, 1, 2, 3] bcast_S16x1x256x4_S16x256x256x4_0_1_2_3 : (⟨S16x1x256x4, .f32⟩ : BufTy).Contents (Elt F) → (⟨S16x256x256x4, .f32⟩ : BufTy).Contents (Elt F)) ]

set_option maxHeartbeats 4000000 in
theorem part0_eq (c : Dev nD) : main_part0 (F := F) c = seq ops0 := rfl

/-- Part 1 of the operations. -/
abbrev ops1 : List (HloOp τ sig (Elt F)) :=
  [ binary main_v47 main_v52 main_v53 (Host.divf : (⟨S16x256x256x4, .f32⟩ : BufTy).Contents (Elt F) → (⟨S16x256x256x4, .f32⟩ : BufTy).Contents (Elt F) → (⟨S16x256x256x4, .f32⟩ : BufTy).Contents (Elt F)),
    unary main_v20 main_v54 (broadcastInDim S16x256x1x4x32 ![0, 1, 3, 4] bcast_S16x256x4x32_S16x256x1x4x32_0_1_3_4 : (⟨S16x256x4x32, .f32⟩ : BufTy).Contents (Elt F) → (⟨S16x256x1x4x32, .f32⟩ : BufTy).Contents (Elt F)),
    unary main_v53 main_v55 (broadcastInDim S16x256x256x4x1 ![0, 1, 2, 3] bcast_S16x256x256x4_S16x256x256x4x1_0_1_2_3 : (⟨S16x256x256x4, .f32⟩ : BufTy).Contents (Elt F) → (⟨S16x256x256x4x1, .f32⟩ : BufTy).Contents (Elt F)),
    unary main_v54 main_v56 (broadcastInDim S16x256x256x4x32 ![0, 1, 2, 3, 4] bcast_S16x256x1x4x32_S16x256x256x4x32_0_1_2_3_4 : (⟨S16x256x1x4x32, .f32⟩ : BufTy).Contents (Elt F) → (⟨S16x256x256x4x32, .f32⟩ : BufTy).Contents (Elt F)),
    unary main_v55 main_v57 (broadcastInDim S16x256x256x4x32 ![0, 1, 2, 3, 4] bcast_S16x256x256x4x1_S16x256x256x4x32_0_1_2_3_4 : (⟨S16x256x256x4x1, .f32⟩ : BufTy).Contents (Elt F) → (⟨S16x256x256x4x32, .f32⟩ : BufTy).Contents (Elt F)),
    binary main_v56 main_v57 main_v58 (mulf : (⟨S16x256x256x4x32, .f32⟩ : BufTy).Contents (Elt F) → (⟨S16x256x256x4x32, .f32⟩ : BufTy).Contents (Elt F) → (⟨S16x256x256x4x32, .f32⟩ : BufTy).Contents (Elt F)),
    nullary main_cst_6 (constant S_ .f32 0x00000000#32),
    binary main_v58 main_cst_6 main_v59 ((fun x v => Host.reduceAdd x v reducesTo_S16x256x256x4x32_S16x256x4x32_d1 h_S_) : (⟨S16x256x256x4x32, .f32⟩ : BufTy).Contents (Elt F) → (⟨S_, .f32⟩ : BufTy).Contents (Elt F) → (⟨S16x256x4x32, .f32⟩ : BufTy).Contents (Elt F)),
    reshape main_v59 main_v60 (rfl : (.f32 : EltTy) = .f32) shapeCasts_S16x256x4x32_S16x256x128,
    unary main_arg10 main_v61 (broadcastInDim S1x1x128 ![2] bcast_S128_S1x1x128_2 : (⟨S128, .f32⟩ : BufTy).Contents (Elt F) → (⟨S1x1x128, .f32⟩ : BufTy).Contents (Elt F)),
    unary main_v61 main_v62 (broadcastInDim S16x256x128 ![0, 1, 2] bcast_S1x1x128_S16x256x128_0_1_2 : (⟨S1x1x128, .f32⟩ : BufTy).Contents (Elt F) → (⟨S16x256x128, .f32⟩ : BufTy).Contents (Elt F)),
    binary main_v60 main_v62 main_v63 (addf : (⟨S16x256x128, .f32⟩ : BufTy).Contents (Elt F) → (⟨S16x256x128, .f32⟩ : BufTy).Contents (Elt F) → (⟨S16x256x128, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S16x256x128, .f32⟩) main_call4_v0) (broadcastInDim S16x256x128 ![] bcast_S_S16x256x128),
    TRef.binary (TRef.of (T := ⟨S16x256x128, .f32⟩) main_v63) (TRef.of (T := ⟨S16x256x128, .f32⟩) main_call4_v0) (TRef.of (T := ⟨S16x256x128, .i1⟩) main_call4_v1) (cmpf .ogt),
    TRef.nullary (TRef.of (T := ⟨S_, .f32⟩) main_call4_cst_0) (constant S_ .f32 0x00000000#32),
    TRef.unary (TRef.of (T := ⟨S_, .f32⟩) main_call4_cst_0) (TRef.of (T := ⟨S16x256x128, .f32⟩) main_call4_v2) (broadcastInDim S16x256x128 ![] bcast_S_S16x256x128),
    TRef.binary (TRef.of (T := ⟨S16x256x128, .f32⟩) main_v63) (TRef.of (T := ⟨S16x256x128, .f32⟩) main_call4_v2) (TRef.of (T := ⟨S16x256x128, .i1⟩) main_call4_v3) (cmpf .ogt),
    TRef.nullary (TRef.of (T := ⟨S_, .f32⟩) main_call4_cst_1) (constant S_ .f32 0x00000000#32),
    TRef.unary (TRef.of (T := ⟨S_, .f32⟩) main_call4_cst_1) (TRef.of (T := ⟨S_, .f32⟩) main_call4_call0_v0) id,
    TRef.unary (TRef.of (T := ⟨S_, .f32⟩) main_call4_call0_v0) (TRef.of (T := ⟨S16x256x128, .f32⟩) main_call4_call0_v1) (broadcastInDim S16x256x128 ![] bcast_S_S16x256x128),
    TRef.ternary (TRef.of (T := ⟨S16x256x128, .i1⟩) main_call4_v3) (TRef.of (T := ⟨S16x256x128, .f32⟩) main_call4_call0_v1) (TRef.of (T := ⟨S16x256x128, .f32⟩) main_v63) (TRef.of (T := ⟨S16x256x128, .f32⟩) main_call4_v4) select,
    TRef.unary (TRef.of (T := ⟨S16x256x128, .f32⟩) main_call4_v4) (TRef.of (T := ⟨S16x256x128, .f32⟩) main_call4_v5) Host.expm1,
    TRef.nullary (TRef.of (T := ⟨S_, .f32⟩) main_call4_cst_2) (constant S_ .f32 0x3F800000#32),
    TRef.unary (TRef.of (T := ⟨S_, .f32⟩) main_call4_cst_2) (TRef.of (T := ⟨S16x256x128, .f32⟩) main_call4_v6) (broadcastInDim S16x256x128 ![] bcast_S_S16x256x128),
    TRef.binary (TRef.of (T := ⟨S16x256x128, .f32⟩) main_call4_v6) (TRef.of (T := ⟨S16x256x128, .f32⟩) main_call4_v5) (TRef.of (T := ⟨S16x256x128, .f32⟩) main_call4_v7) mulf,
    TRef.ternary (TRef.of (T := ⟨S16x256x128, .i1⟩) main_call4_v1) (TRef.of (T := ⟨S16x256x128, .f32⟩) main_v63) (TRef.of (T := ⟨S16x256x128, .f32⟩) main_call4_v7) (TRef.of (T := ⟨S16x256x128, .f32⟩) main_v64) select,
    unary main_arg11 main_v65 ((transpose S128x256 [1, 0] · transposes_S256x128_S128x256_1_0) : (⟨S256x128, .f32⟩ : BufTy).Contents (Elt F) → (⟨S128x256, .f32⟩ : BufTy).Contents (Elt F)),
    binary main_v64 main_v65 main_v66 ((fun l r => Host.dotGeneral dot_S16x256x128_S128x256_S16x256x256_2_0_01_1_n_n none l r) : (⟨S16x256x128, .f32⟩ : BufTy).Contents (Elt F) → (⟨S128x256, .f32⟩ : BufTy).Contents (Elt F) → (⟨S16x256x256, .f32⟩ : BufTy).Contents (Elt F)),
    unary main_arg12 main_v67 (broadcastInDim S1x1x256 ![2] bcast_S256_S1x1x256_2 : (⟨S256, .f32⟩ : BufTy).Contents (Elt F) → (⟨S1x1x256, .f32⟩ : BufTy).Contents (Elt F)),
    unary main_v67 main_v68 (broadcastInDim S16x256x256 ![0, 1, 2] bcast_S1x1x256_S16x256x256_0_1_2 : (⟨S1x1x256, .f32⟩ : BufTy).Contents (Elt F) → (⟨S16x256x256, .f32⟩ : BufTy).Contents (Elt F)),
    binary main_v66 main_v68 main_v69 (addf : (⟨S16x256x256, .f32⟩ : BufTy).Contents (Elt F) → (⟨S16x256x256, .f32⟩ : BufTy).Contents (Elt F) → (⟨S16x256x256, .f32⟩ : BufTy).Contents (Elt F)),
    nullary main_c (constantI S_ 32 0#32),
    unary main_c main_v70 (broadcastInDim S16x256x256 ![] bcast_S_S16x256x256 : (⟨S_, .i32⟩ : BufTy).Contents (Elt F) → (⟨S16x256x256, .i32⟩ : BufTy).Contents (Elt F)),
    nullary main_c_7 (constantI S_ 32 0#32),
    unary main_c_7 main_v71 (broadcastInDim S16x256x256 ![] bcast_S_S16x256x256 : (⟨S_, .i32⟩ : BufTy).Contents (Elt F) → (⟨S16x256x256, .i32⟩ : BufTy).Contents (Elt F)),
    binary main_v70 main_v71 main_v72 (addi : (⟨S16x256x256, .i32⟩ : BufTy).Contents (Elt F) → (⟨S16x256x256, .i32⟩ : BufTy).Contents (Elt F) → (⟨S16x256x256, .i32⟩ : BufTy).Contents (Elt F)),
    nullary main_v73 (iotaInDim S1048576 32 0),
    reshape main_v73 main_v74 (rfl : (.i32 : EltTy) = .i32) shapeCasts_S1048576_S16x256x256,
    nullary main_c_8 (constantI S_ 32 42#32),
    unary main_c_8 main_v75 (broadcastInDim S16x256x256 ![] bcast_S_S16x256x256 : (⟨S_, .i32⟩ : BufTy).Contents (Elt F) → (⟨S16x256x256, .i32⟩ : BufTy).Contents (Elt F)),
    binary main_v74 main_v75 main_v76 (addi : (⟨S16x256x256, .i32⟩ : BufTy).Contents (Elt F) → (⟨S16x256x256, .i32⟩ : BufTy).Contents (Elt F) → (⟨S16x256x256, .i32⟩ : BufTy).Contents (Elt F)),
    binary main_v72 main_v76 main_v77 (addi : (⟨S16x256x256, .i32⟩ : BufTy).Contents (Elt F) → (⟨S16x256x256, .i32⟩ : BufTy).Contents (Elt F) → (⟨S16x256x256, .i32⟩ : BufTy).Contents (Elt F)),
    nullary main_c_9 (constantI S_ 32 13#32),
    unary main_c_9 main_v78 (broadcastInDim S16x256x256 ![] bcast_S_S16x256x256 : (⟨S_, .i32⟩ : BufTy).Contents (Elt F) → (⟨S16x256x256, .i32⟩ : BufTy).Contents (Elt F)),
    binary main_v76 main_v78 main_v79 (Host.shli : (⟨S16x256x256, .i32⟩ : BufTy).Contents (Elt F) → (⟨S16x256x256, .i32⟩ : BufTy).Contents (Elt F) → (⟨S16x256x256, .i32⟩ : BufTy).Contents (Elt F)),
    nullary main_c_10 (constantI S_ 32 19#32),
    unary main_c_10 main_v80 (broadcastInDim S16x256x256 ![] bcast_S_S16x256x256 : (⟨S_, .i32⟩ : BufTy).Contents (Elt F) → (⟨S16x256x256, .i32⟩ : BufTy).Contents (Elt F)),
    binary main_v76 main_v80 main_v81 (Host.shrui : (⟨S16x256x256, .i32⟩ : BufTy).Contents (Elt F) → (⟨S16x256x256, .i32⟩ : BufTy).Contents (Elt F) → (⟨S16x256x256, .i32⟩ : BufTy).Contents (Elt F)),
    binary main_v79 main_v81 main_v82 (ori : (⟨S16x256x256, .i32⟩ : BufTy).Contents (Elt F) → (⟨S16x256x256, .i32⟩ : BufTy).Contents (Elt F) → (⟨S16x256x256, .i32⟩ : BufTy).Contents (Elt F)),
    binary main_v77 main_v82 main_v83 (xori : (⟨S16x256x256, .i32⟩ : BufTy).Contents (Elt F) → (⟨S16x256x256, .i32⟩ : BufTy).Contents (Elt F) → (⟨S16x256x256, .i32⟩ : BufTy).Contents (Elt F)),
    binary main_v77 main_v83 main_v84 (addi : (⟨S16x256x256, .i32⟩ : BufTy).Contents (Elt F) → (⟨S16x256x256, .i32⟩ : BufTy).Contents (Elt F) → (⟨S16x256x256, .i32⟩ : BufTy).Contents (Elt F)),
    nullary main_c_11 (constantI S_ 32 15#32),
    unary main_c_11 main_v85 (broadcastInDim S16x256x256 ![] bcast_S_S16x256x256 : (⟨S_, .i32⟩ : BufTy).Contents (Elt F) → (⟨S16x256x256, .i32⟩ : BufTy).Contents (Elt F)),
    binary main_v83 main_v85 main_v86 (Host.shli : (⟨S16x256x256, .i32⟩ : BufTy).Contents (Elt F) → (⟨S16x256x256, .i32⟩ : BufTy).Contents (Elt F) → (⟨S16x256x256, .i32⟩ : BufTy).Contents (Elt F)),
    nullary main_c_12 (constantI S_ 32 17#32),
    unary main_c_12 main_v87 (broadcastInDim S16x256x256 ![] bcast_S_S16x256x256 : (⟨S_, .i32⟩ : BufTy).Contents (Elt F) → (⟨S16x256x256, .i32⟩ : BufTy).Contents (Elt F)),
    binary main_v83 main_v87 main_v88 (Host.shrui : (⟨S16x256x256, .i32⟩ : BufTy).Contents (Elt F) → (⟨S16x256x256, .i32⟩ : BufTy).Contents (Elt F) → (⟨S16x256x256, .i32⟩ : BufTy).Contents (Elt F)),
    binary main_v86 main_v88 main_v89 (ori : (⟨S16x256x256, .i32⟩ : BufTy).Contents (Elt F) → (⟨S16x256x256, .i32⟩ : BufTy).Contents (Elt F) → (⟨S16x256x256, .i32⟩ : BufTy).Contents (Elt F)),
    binary main_v84 main_v89 main_v90 (xori : (⟨S16x256x256, .i32⟩ : BufTy).Contents (Elt F) → (⟨S16x256x256, .i32⟩ : BufTy).Contents (Elt F) → (⟨S16x256x256, .i32⟩ : BufTy).Contents (Elt F)),
    binary main_v84 main_v90 main_v91 (addi : (⟨S16x256x256, .i32⟩ : BufTy).Contents (Elt F) → (⟨S16x256x256, .i32⟩ : BufTy).Contents (Elt F) → (⟨S16x256x256, .i32⟩ : BufTy).Contents (Elt F)),
    nullary main_c_13 (constantI S_ 32 26#32),
    unary main_c_13 main_v92 (broadcastInDim S16x256x256 ![] bcast_S_S16x256x256 : (⟨S_, .i32⟩ : BufTy).Contents (Elt F) → (⟨S16x256x256, .i32⟩ : BufTy).Contents (Elt F)),
    binary main_v90 main_v92 main_v93 (Host.shli : (⟨S16x256x256, .i32⟩ : BufTy).Contents (Elt F) → (⟨S16x256x256, .i32⟩ : BufTy).Contents (Elt F) → (⟨S16x256x256, .i32⟩ : BufTy).Contents (Elt F)),
    nullary main_c_14 (constantI S_ 32 6#32),
    unary main_c_14 main_v94 (broadcastInDim S16x256x256 ![] bcast_S_S16x256x256 : (⟨S_, .i32⟩ : BufTy).Contents (Elt F) → (⟨S16x256x256, .i32⟩ : BufTy).Contents (Elt F)),
    binary main_v90 main_v94 main_v95 (Host.shrui : (⟨S16x256x256, .i32⟩ : BufTy).Contents (Elt F) → (⟨S16x256x256, .i32⟩ : BufTy).Contents (Elt F) → (⟨S16x256x256, .i32⟩ : BufTy).Contents (Elt F)),
    binary main_v93 main_v95 main_v96 (ori : (⟨S16x256x256, .i32⟩ : BufTy).Contents (Elt F) → (⟨S16x256x256, .i32⟩ : BufTy).Contents (Elt F) → (⟨S16x256x256, .i32⟩ : BufTy).Contents (Elt F)),
    binary main_v91 main_v96 main_v97 (xori : (⟨S16x256x256, .i32⟩ : BufTy).Contents (Elt F) → (⟨S16x256x256, .i32⟩ : BufTy).Contents (Elt F) → (⟨S16x256x256, .i32⟩ : BufTy).Contents (Elt F)),
    binary main_v91 main_v97 main_v98 (addi : (⟨S16x256x256, .i32⟩ : BufTy).Contents (Elt F) → (⟨S16x256x256, .i32⟩ : BufTy).Contents (Elt F) → (⟨S16x256x256, .i32⟩ : BufTy).Contents (Elt F)),
    nullary main_c_15 (constantI S_ 32 6#32),
    unary main_c_15 main_v99 (broadcastInDim S16x256x256 ![] bcast_S_S16x256x256 : (⟨S_, .i32⟩ : BufTy).Contents (Elt F) → (⟨S16x256x256, .i32⟩ : BufTy).Contents (Elt F)),
    binary main_v97 main_v99 main_v100 (Host.shli : (⟨S16x256x256, .i32⟩ : BufTy).Contents (Elt F) → (⟨S16x256x256, .i32⟩ : BufTy).Contents (Elt F) → (⟨S16x256x256, .i32⟩ : BufTy).Contents (Elt F)),
    nullary main_c_16 (constantI S_ 32 26#32) ]

set_option maxHeartbeats 4000000 in
theorem part1_eq (c : Dev nD) : main_part1 (F := F) c = seq ops1 := rfl

/-- Part 2 of the operations. -/
abbrev ops2 : List (HloOp τ sig (Elt F)) :=
  [ unary main_c_16 main_v101 (broadcastInDim S16x256x256 ![] bcast_S_S16x256x256 : (⟨S_, .i32⟩ : BufTy).Contents (Elt F) → (⟨S16x256x256, .i32⟩ : BufTy).Contents (Elt F)),
    binary main_v97 main_v101 main_v102 (Host.shrui : (⟨S16x256x256, .i32⟩ : BufTy).Contents (Elt F) → (⟨S16x256x256, .i32⟩ : BufTy).Contents (Elt F) → (⟨S16x256x256, .i32⟩ : BufTy).Contents (Elt F)),
    binary main_v100 main_v102 main_v103 (ori : (⟨S16x256x256, .i32⟩ : BufTy).Contents (Elt F) → (⟨S16x256x256, .i32⟩ : BufTy).Contents (Elt F) → (⟨S16x256x256, .i32⟩ : BufTy).Contents (Elt F)),
    binary main_v98 main_v103 main_v104 (xori : (⟨S16x256x256, .i32⟩ : BufTy).Contents (Elt F) → (⟨S16x256x256, .i32⟩ : BufTy).Contents (Elt F) → (⟨S16x256x256, .i32⟩ : BufTy).Contents (Elt F)),
    nullary main_c_17 (constantI S_ 32 42#32),
    unary main_c_17 main_v105 (broadcastInDim S16x256x256 ![] bcast_S_S16x256x256 : (⟨S_, .i32⟩ : BufTy).Contents (Elt F) → (⟨S16x256x256, .i32⟩ : BufTy).Contents (Elt F)),
    binary main_v98 main_v105 main_v106 (addi : (⟨S16x256x256, .i32⟩ : BufTy).Contents (Elt F) → (⟨S16x256x256, .i32⟩ : BufTy).Contents (Elt F) → (⟨S16x256x256, .i32⟩ : BufTy).Contents (Elt F)),
    nullary main_c_18 (constantI S_ 32 466689008#32),
    unary main_c_18 main_v107 (broadcastInDim S16x256x256 ![] bcast_S_S16x256x256 : (⟨S_, .i32⟩ : BufTy).Contents (Elt F) → (⟨S16x256x256, .i32⟩ : BufTy).Contents (Elt F)),
    binary main_v104 main_v107 main_v108 (addi : (⟨S16x256x256, .i32⟩ : BufTy).Contents (Elt F) → (⟨S16x256x256, .i32⟩ : BufTy).Contents (Elt F) → (⟨S16x256x256, .i32⟩ : BufTy).Contents (Elt F)),
    nullary main_c_19 (constantI S_ 32 1#32),
    unary main_c_19 main_v109 (broadcastInDim S16x256x256 ![] bcast_S_S16x256x256 : (⟨S_, .i32⟩ : BufTy).Contents (Elt F) → (⟨S16x256x256, .i32⟩ : BufTy).Contents (Elt F)),
    binary main_v108 main_v109 main_v110 (addi : (⟨S16x256x256, .i32⟩ : BufTy).Contents (Elt F) → (⟨S16x256x256, .i32⟩ : BufTy).Contents (Elt F) → (⟨S16x256x256, .i32⟩ : BufTy).Contents (Elt F)),
    binary main_v106 main_v110 main_v111 (addi : (⟨S16x256x256, .i32⟩ : BufTy).Contents (Elt F) → (⟨S16x256x256, .i32⟩ : BufTy).Contents (Elt F) → (⟨S16x256x256, .i32⟩ : BufTy).Contents (Elt F)),
    nullary main_c_20 (constantI S_ 32 17#32),
    unary main_c_20 main_v112 (broadcastInDim S16x256x256 ![] bcast_S_S16x256x256 : (⟨S_, .i32⟩ : BufTy).Contents (Elt F) → (⟨S16x256x256, .i32⟩ : BufTy).Contents (Elt F)),
    binary main_v110 main_v112 main_v113 (Host.shli : (⟨S16x256x256, .i32⟩ : BufTy).Contents (Elt F) → (⟨S16x256x256, .i32⟩ : BufTy).Contents (Elt F) → (⟨S16x256x256, .i32⟩ : BufTy).Contents (Elt F)),
    nullary main_c_21 (constantI S_ 32 15#32),
    unary main_c_21 main_v114 (broadcastInDim S16x256x256 ![] bcast_S_S16x256x256 : (⟨S_, .i32⟩ : BufTy).Contents (Elt F) → (⟨S16x256x256, .i32⟩ : BufTy).Contents (Elt F)),
    binary main_v110 main_v114 main_v115 (Host.shrui : (⟨S16x256x256, .i32⟩ : BufTy).Contents (Elt F) → (⟨S16x256x256, .i32⟩ : BufTy).Contents (Elt F) → (⟨S16x256x256, .i32⟩ : BufTy).Contents (Elt F)),
    binary main_v113 main_v115 main_v116 (ori : (⟨S16x256x256, .i32⟩ : BufTy).Contents (Elt F) → (⟨S16x256x256, .i32⟩ : BufTy).Contents (Elt F) → (⟨S16x256x256, .i32⟩ : BufTy).Contents (Elt F)),
    binary main_v111 main_v116 main_v117 (xori : (⟨S16x256x256, .i32⟩ : BufTy).Contents (Elt F) → (⟨S16x256x256, .i32⟩ : BufTy).Contents (Elt F) → (⟨S16x256x256, .i32⟩ : BufTy).Contents (Elt F)),
    binary main_v111 main_v117 main_v118 (addi : (⟨S16x256x256, .i32⟩ : BufTy).Contents (Elt F) → (⟨S16x256x256, .i32⟩ : BufTy).Contents (Elt F) → (⟨S16x256x256, .i32⟩ : BufTy).Contents (Elt F)),
    nullary main_c_22 (constantI S_ 32 29#32),
    unary main_c_22 main_v119 (broadcastInDim S16x256x256 ![] bcast_S_S16x256x256 : (⟨S_, .i32⟩ : BufTy).Contents (Elt F) → (⟨S16x256x256, .i32⟩ : BufTy).Contents (Elt F)),
    binary main_v117 main_v119 main_v120 (Host.shli : (⟨S16x256x256, .i32⟩ : BufTy).Contents (Elt F) → (⟨S16x256x256, .i32⟩ : BufTy).Contents (Elt F) → (⟨S16x256x256, .i32⟩ : BufTy).Contents (Elt F)),
    nullary main_c_23 (constantI S_ 32 3#32),
    unary main_c_23 main_v121 (broadcastInDim S16x256x256 ![] bcast_S_S16x256x256 : (⟨S_, .i32⟩ : BufTy).Contents (Elt F) → (⟨S16x256x256, .i32⟩ : BufTy).Contents (Elt F)),
    binary main_v117 main_v121 main_v122 (Host.shrui : (⟨S16x256x256, .i32⟩ : BufTy).Contents (Elt F) → (⟨S16x256x256, .i32⟩ : BufTy).Contents (Elt F) → (⟨S16x256x256, .i32⟩ : BufTy).Contents (Elt F)),
    binary main_v120 main_v122 main_v123 (ori : (⟨S16x256x256, .i32⟩ : BufTy).Contents (Elt F) → (⟨S16x256x256, .i32⟩ : BufTy).Contents (Elt F) → (⟨S16x256x256, .i32⟩ : BufTy).Contents (Elt F)),
    binary main_v118 main_v123 main_v124 (xori : (⟨S16x256x256, .i32⟩ : BufTy).Contents (Elt F) → (⟨S16x256x256, .i32⟩ : BufTy).Contents (Elt F) → (⟨S16x256x256, .i32⟩ : BufTy).Contents (Elt F)),
    binary main_v118 main_v124 main_v125 (addi : (⟨S16x256x256, .i32⟩ : BufTy).Contents (Elt F) → (⟨S16x256x256, .i32⟩ : BufTy).Contents (Elt F) → (⟨S16x256x256, .i32⟩ : BufTy).Contents (Elt F)),
    nullary main_c_24 (constantI S_ 32 16#32),
    unary main_c_24 main_v126 (broadcastInDim S16x256x256 ![] bcast_S_S16x256x256 : (⟨S_, .i32⟩ : BufTy).Contents (Elt F) → (⟨S16x256x256, .i32⟩ : BufTy).Contents (Elt F)),
    binary main_v124 main_v126 main_v127 (Host.shli : (⟨S16x256x256, .i32⟩ : BufTy).Contents (Elt F) → (⟨S16x256x256, .i32⟩ : BufTy).Contents (Elt F) → (⟨S16x256x256, .i32⟩ : BufTy).Contents (Elt F)),
    nullary main_c_25 (constantI S_ 32 16#32),
    unary main_c_25 main_v128 (broadcastInDim S16x256x256 ![] bcast_S_S16x256x256 : (⟨S_, .i32⟩ : BufTy).Contents (Elt F) → (⟨S16x256x256, .i32⟩ : BufTy).Contents (Elt F)),
    binary main_v124 main_v128 main_v129 (Host.shrui : (⟨S16x256x256, .i32⟩ : BufTy).Contents (Elt F) → (⟨S16x256x256, .i32⟩ : BufTy).Contents (Elt F) → (⟨S16x256x256, .i32⟩ : BufTy).Contents (Elt F)),
    binary main_v127 main_v129 main_v130 (ori : (⟨S16x256x256, .i32⟩ : BufTy).Contents (Elt F) → (⟨S16x256x256, .i32⟩ : BufTy).Contents (Elt F) → (⟨S16x256x256, .i32⟩ : BufTy).Contents (Elt F)),
    binary main_v125 main_v130 main_v131 (xori : (⟨S16x256x256, .i32⟩ : BufTy).Contents (Elt F) → (⟨S16x256x256, .i32⟩ : BufTy).Contents (Elt F) → (⟨S16x256x256, .i32⟩ : BufTy).Contents (Elt F)),
    binary main_v125 main_v131 main_v132 (addi : (⟨S16x256x256, .i32⟩ : BufTy).Contents (Elt F) → (⟨S16x256x256, .i32⟩ : BufTy).Contents (Elt F) → (⟨S16x256x256, .i32⟩ : BufTy).Contents (Elt F)),
    nullary main_c_26 (constantI S_ 32 24#32),
    unary main_c_26 main_v133 (broadcastInDim S16x256x256 ![] bcast_S_S16x256x256 : (⟨S_, .i32⟩ : BufTy).Contents (Elt F) → (⟨S16x256x256, .i32⟩ : BufTy).Contents (Elt F)),
    binary main_v131 main_v133 main_v134 (Host.shli : (⟨S16x256x256, .i32⟩ : BufTy).Contents (Elt F) → (⟨S16x256x256, .i32⟩ : BufTy).Contents (Elt F) → (⟨S16x256x256, .i32⟩ : BufTy).Contents (Elt F)),
    nullary main_c_27 (constantI S_ 32 8#32),
    unary main_c_27 main_v135 (broadcastInDim S16x256x256 ![] bcast_S_S16x256x256 : (⟨S_, .i32⟩ : BufTy).Contents (Elt F) → (⟨S16x256x256, .i32⟩ : BufTy).Contents (Elt F)),
    binary main_v131 main_v135 main_v136 (Host.shrui : (⟨S16x256x256, .i32⟩ : BufTy).Contents (Elt F) → (⟨S16x256x256, .i32⟩ : BufTy).Contents (Elt F) → (⟨S16x256x256, .i32⟩ : BufTy).Contents (Elt F)),
    binary main_v134 main_v136 main_v137 (ori : (⟨S16x256x256, .i32⟩ : BufTy).Contents (Elt F) → (⟨S16x256x256, .i32⟩ : BufTy).Contents (Elt F) → (⟨S16x256x256, .i32⟩ : BufTy).Contents (Elt F)),
    binary main_v132 main_v137 main_v138 (xori : (⟨S16x256x256, .i32⟩ : BufTy).Contents (Elt F) → (⟨S16x256x256, .i32⟩ : BufTy).Contents (Elt F) → (⟨S16x256x256, .i32⟩ : BufTy).Contents (Elt F)),
    nullary main_c_28 (constantI S_ 32 466689008#32),
    unary main_c_28 main_v139 (broadcastInDim S16x256x256 ![] bcast_S_S16x256x256 : (⟨S_, .i32⟩ : BufTy).Contents (Elt F) → (⟨S16x256x256, .i32⟩ : BufTy).Contents (Elt F)),
    binary main_v132 main_v139 main_v140 (addi : (⟨S16x256x256, .i32⟩ : BufTy).Contents (Elt F) → (⟨S16x256x256, .i32⟩ : BufTy).Contents (Elt F) → (⟨S16x256x256, .i32⟩ : BufTy).Contents (Elt F)),
    nullary main_c_29 (constantI S_ 32 0#32),
    unary main_c_29 main_v141 (broadcastInDim S16x256x256 ![] bcast_S_S16x256x256 : (⟨S_, .i32⟩ : BufTy).Contents (Elt F) → (⟨S16x256x256, .i32⟩ : BufTy).Contents (Elt F)),
    binary main_v138 main_v141 main_v142 (addi : (⟨S16x256x256, .i32⟩ : BufTy).Contents (Elt F) → (⟨S16x256x256, .i32⟩ : BufTy).Contents (Elt F) → (⟨S16x256x256, .i32⟩ : BufTy).Contents (Elt F)),
    nullary main_c_30 (constantI S_ 32 2#32),
    unary main_c_30 main_v143 (broadcastInDim S16x256x256 ![] bcast_S_S16x256x256 : (⟨S_, .i32⟩ : BufTy).Contents (Elt F) → (⟨S16x256x256, .i32⟩ : BufTy).Contents (Elt F)),
    binary main_v142 main_v143 main_v144 (addi : (⟨S16x256x256, .i32⟩ : BufTy).Contents (Elt F) → (⟨S16x256x256, .i32⟩ : BufTy).Contents (Elt F) → (⟨S16x256x256, .i32⟩ : BufTy).Contents (Elt F)),
    binary main_v140 main_v144 main_v145 (addi : (⟨S16x256x256, .i32⟩ : BufTy).Contents (Elt F) → (⟨S16x256x256, .i32⟩ : BufTy).Contents (Elt F) → (⟨S16x256x256, .i32⟩ : BufTy).Contents (Elt F)),
    nullary main_c_31 (constantI S_ 32 13#32) ]

set_option maxHeartbeats 4000000 in
theorem part2_eq (c : Dev nD) : main_part2 (F := F) c = seq ops2 := rfl

/-- Part 3 of the operations. -/
abbrev ops3 : List (HloOp τ sig (Elt F)) :=
  [ unary main_c_31 main_v146 (broadcastInDim S16x256x256 ![] bcast_S_S16x256x256 : (⟨S_, .i32⟩ : BufTy).Contents (Elt F) → (⟨S16x256x256, .i32⟩ : BufTy).Contents (Elt F)),
    binary main_v144 main_v146 main_v147 (Host.shli : (⟨S16x256x256, .i32⟩ : BufTy).Contents (Elt F) → (⟨S16x256x256, .i32⟩ : BufTy).Contents (Elt F) → (⟨S16x256x256, .i32⟩ : BufTy).Contents (Elt F)),
    nullary main_c_32 (constantI S_ 32 19#32),
    unary main_c_32 main_v148 (broadcastInDim S16x256x256 ![] bcast_S_S16x256x256 : (⟨S_, .i32⟩ : BufTy).Contents (Elt F) → (⟨S16x256x256, .i32⟩ : BufTy).Contents (Elt F)),
    binary main_v144 main_v148 main_v149 (Host.shrui : (⟨S16x256x256, .i32⟩ : BufTy).Contents (Elt F) → (⟨S16x256x256, .i32⟩ : BufTy).Contents (Elt F) → (⟨S16x256x256, .i32⟩ : BufTy).Contents (Elt F)),
    binary main_v147 main_v149 main_v150 (ori : (⟨S16x256x256, .i32⟩ : BufTy).Contents (Elt F) → (⟨S16x256x256, .i32⟩ : BufTy).Contents (Elt F) → (⟨S16x256x256, .i32⟩ : BufTy).Contents (Elt F)),
    binary main_v145 main_v150 main_v151 (xori : (⟨S16x256x256, .i32⟩ : BufTy).Contents (Elt F) → (⟨S16x256x256, .i32⟩ : BufTy).Contents (Elt F) → (⟨S16x256x256, .i32⟩ : BufTy).Contents (Elt F)),
    binary main_v145 main_v151 main_v152 (addi : (⟨S16x256x256, .i32⟩ : BufTy).Contents (Elt F) → (⟨S16x256x256, .i32⟩ : BufTy).Contents (Elt F) → (⟨S16x256x256, .i32⟩ : BufTy).Contents (Elt F)),
    nullary main_c_33 (constantI S_ 32 15#32),
    unary main_c_33 main_v153 (broadcastInDim S16x256x256 ![] bcast_S_S16x256x256 : (⟨S_, .i32⟩ : BufTy).Contents (Elt F) → (⟨S16x256x256, .i32⟩ : BufTy).Contents (Elt F)),
    binary main_v151 main_v153 main_v154 (Host.shli : (⟨S16x256x256, .i32⟩ : BufTy).Contents (Elt F) → (⟨S16x256x256, .i32⟩ : BufTy).Contents (Elt F) → (⟨S16x256x256, .i32⟩ : BufTy).Contents (Elt F)),
    nullary main_c_34 (constantI S_ 32 17#32),
    unary main_c_34 main_v155 (broadcastInDim S16x256x256 ![] bcast_S_S16x256x256 : (⟨S_, .i32⟩ : BufTy).Contents (Elt F) → (⟨S16x256x256, .i32⟩ : BufTy).Contents (Elt F)),
    binary main_v151 main_v155 main_v156 (Host.shrui : (⟨S16x256x256, .i32⟩ : BufTy).Contents (Elt F) → (⟨S16x256x256, .i32⟩ : BufTy).Contents (Elt F) → (⟨S16x256x256, .i32⟩ : BufTy).Contents (Elt F)),
    binary main_v154 main_v156 main_v157 (ori : (⟨S16x256x256, .i32⟩ : BufTy).Contents (Elt F) → (⟨S16x256x256, .i32⟩ : BufTy).Contents (Elt F) → (⟨S16x256x256, .i32⟩ : BufTy).Contents (Elt F)),
    binary main_v152 main_v157 main_v158 (xori : (⟨S16x256x256, .i32⟩ : BufTy).Contents (Elt F) → (⟨S16x256x256, .i32⟩ : BufTy).Contents (Elt F) → (⟨S16x256x256, .i32⟩ : BufTy).Contents (Elt F)),
    binary main_v152 main_v158 main_v159 (addi : (⟨S16x256x256, .i32⟩ : BufTy).Contents (Elt F) → (⟨S16x256x256, .i32⟩ : BufTy).Contents (Elt F) → (⟨S16x256x256, .i32⟩ : BufTy).Contents (Elt F)),
    nullary main_c_35 (constantI S_ 32 26#32),
    unary main_c_35 main_v160 (broadcastInDim S16x256x256 ![] bcast_S_S16x256x256 : (⟨S_, .i32⟩ : BufTy).Contents (Elt F) → (⟨S16x256x256, .i32⟩ : BufTy).Contents (Elt F)),
    binary main_v158 main_v160 main_v161 (Host.shli : (⟨S16x256x256, .i32⟩ : BufTy).Contents (Elt F) → (⟨S16x256x256, .i32⟩ : BufTy).Contents (Elt F) → (⟨S16x256x256, .i32⟩ : BufTy).Contents (Elt F)),
    nullary main_c_36 (constantI S_ 32 6#32),
    unary main_c_36 main_v162 (broadcastInDim S16x256x256 ![] bcast_S_S16x256x256 : (⟨S_, .i32⟩ : BufTy).Contents (Elt F) → (⟨S16x256x256, .i32⟩ : BufTy).Contents (Elt F)),
    binary main_v158 main_v162 main_v163 (Host.shrui : (⟨S16x256x256, .i32⟩ : BufTy).Contents (Elt F) → (⟨S16x256x256, .i32⟩ : BufTy).Contents (Elt F) → (⟨S16x256x256, .i32⟩ : BufTy).Contents (Elt F)),
    binary main_v161 main_v163 main_v164 (ori : (⟨S16x256x256, .i32⟩ : BufTy).Contents (Elt F) → (⟨S16x256x256, .i32⟩ : BufTy).Contents (Elt F) → (⟨S16x256x256, .i32⟩ : BufTy).Contents (Elt F)),
    binary main_v159 main_v164 main_v165 (xori : (⟨S16x256x256, .i32⟩ : BufTy).Contents (Elt F) → (⟨S16x256x256, .i32⟩ : BufTy).Contents (Elt F) → (⟨S16x256x256, .i32⟩ : BufTy).Contents (Elt F)),
    binary main_v159 main_v165 main_v166 (addi : (⟨S16x256x256, .i32⟩ : BufTy).Contents (Elt F) → (⟨S16x256x256, .i32⟩ : BufTy).Contents (Elt F) → (⟨S16x256x256, .i32⟩ : BufTy).Contents (Elt F)),
    nullary main_c_37 (constantI S_ 32 6#32),
    unary main_c_37 main_v167 (broadcastInDim S16x256x256 ![] bcast_S_S16x256x256 : (⟨S_, .i32⟩ : BufTy).Contents (Elt F) → (⟨S16x256x256, .i32⟩ : BufTy).Contents (Elt F)),
    binary main_v165 main_v167 main_v168 (Host.shli : (⟨S16x256x256, .i32⟩ : BufTy).Contents (Elt F) → (⟨S16x256x256, .i32⟩ : BufTy).Contents (Elt F) → (⟨S16x256x256, .i32⟩ : BufTy).Contents (Elt F)),
    nullary main_c_38 (constantI S_ 32 26#32),
    unary main_c_38 main_v169 (broadcastInDim S16x256x256 ![] bcast_S_S16x256x256 : (⟨S_, .i32⟩ : BufTy).Contents (Elt F) → (⟨S16x256x256, .i32⟩ : BufTy).Contents (Elt F)),
    binary main_v165 main_v169 main_v170 (Host.shrui : (⟨S16x256x256, .i32⟩ : BufTy).Contents (Elt F) → (⟨S16x256x256, .i32⟩ : BufTy).Contents (Elt F) → (⟨S16x256x256, .i32⟩ : BufTy).Contents (Elt F)),
    binary main_v168 main_v170 main_v171 (ori : (⟨S16x256x256, .i32⟩ : BufTy).Contents (Elt F) → (⟨S16x256x256, .i32⟩ : BufTy).Contents (Elt F) → (⟨S16x256x256, .i32⟩ : BufTy).Contents (Elt F)),
    binary main_v166 main_v171 main_v172 (xori : (⟨S16x256x256, .i32⟩ : BufTy).Contents (Elt F) → (⟨S16x256x256, .i32⟩ : BufTy).Contents (Elt F) → (⟨S16x256x256, .i32⟩ : BufTy).Contents (Elt F)),
    nullary main_c_39 (constantI S_ 32 0#32),
    unary main_c_39 main_v173 (broadcastInDim S16x256x256 ![] bcast_S_S16x256x256 : (⟨S_, .i32⟩ : BufTy).Contents (Elt F) → (⟨S16x256x256, .i32⟩ : BufTy).Contents (Elt F)),
    binary main_v166 main_v173 main_v174 (addi : (⟨S16x256x256, .i32⟩ : BufTy).Contents (Elt F) → (⟨S16x256x256, .i32⟩ : BufTy).Contents (Elt F) → (⟨S16x256x256, .i32⟩ : BufTy).Contents (Elt F)),
    nullary main_c_40 (constantI S_ 32 42#32),
    unary main_c_40 main_v175 (broadcastInDim S16x256x256 ![] bcast_S_S16x256x256 : (⟨S_, .i32⟩ : BufTy).Contents (Elt F) → (⟨S16x256x256, .i32⟩ : BufTy).Contents (Elt F)),
    binary main_v172 main_v175 main_v176 (addi : (⟨S16x256x256, .i32⟩ : BufTy).Contents (Elt F) → (⟨S16x256x256, .i32⟩ : BufTy).Contents (Elt F) → (⟨S16x256x256, .i32⟩ : BufTy).Contents (Elt F)),
    nullary main_c_41 (constantI S_ 32 3#32),
    unary main_c_41 main_v177 (broadcastInDim S16x256x256 ![] bcast_S_S16x256x256 : (⟨S_, .i32⟩ : BufTy).Contents (Elt F) → (⟨S16x256x256, .i32⟩ : BufTy).Contents (Elt F)),
    binary main_v176 main_v177 main_v178 (addi : (⟨S16x256x256, .i32⟩ : BufTy).Contents (Elt F) → (⟨S16x256x256, .i32⟩ : BufTy).Contents (Elt F) → (⟨S16x256x256, .i32⟩ : BufTy).Contents (Elt F)),
    binary main_v174 main_v178 main_v179 (addi : (⟨S16x256x256, .i32⟩ : BufTy).Contents (Elt F) → (⟨S16x256x256, .i32⟩ : BufTy).Contents (Elt F) → (⟨S16x256x256, .i32⟩ : BufTy).Contents (Elt F)),
    nullary main_c_42 (constantI S_ 32 17#32),
    unary main_c_42 main_v180 (broadcastInDim S16x256x256 ![] bcast_S_S16x256x256 : (⟨S_, .i32⟩ : BufTy).Contents (Elt F) → (⟨S16x256x256, .i32⟩ : BufTy).Contents (Elt F)),
    binary main_v178 main_v180 main_v181 (Host.shli : (⟨S16x256x256, .i32⟩ : BufTy).Contents (Elt F) → (⟨S16x256x256, .i32⟩ : BufTy).Contents (Elt F) → (⟨S16x256x256, .i32⟩ : BufTy).Contents (Elt F)),
    nullary main_c_43 (constantI S_ 32 15#32),
    unary main_c_43 main_v182 (broadcastInDim S16x256x256 ![] bcast_S_S16x256x256 : (⟨S_, .i32⟩ : BufTy).Contents (Elt F) → (⟨S16x256x256, .i32⟩ : BufTy).Contents (Elt F)),
    binary main_v178 main_v182 main_v183 (Host.shrui : (⟨S16x256x256, .i32⟩ : BufTy).Contents (Elt F) → (⟨S16x256x256, .i32⟩ : BufTy).Contents (Elt F) → (⟨S16x256x256, .i32⟩ : BufTy).Contents (Elt F)),
    binary main_v181 main_v183 main_v184 (ori : (⟨S16x256x256, .i32⟩ : BufTy).Contents (Elt F) → (⟨S16x256x256, .i32⟩ : BufTy).Contents (Elt F) → (⟨S16x256x256, .i32⟩ : BufTy).Contents (Elt F)),
    binary main_v179 main_v184 main_v185 (xori : (⟨S16x256x256, .i32⟩ : BufTy).Contents (Elt F) → (⟨S16x256x256, .i32⟩ : BufTy).Contents (Elt F) → (⟨S16x256x256, .i32⟩ : BufTy).Contents (Elt F)),
    binary main_v179 main_v185 main_v186 (addi : (⟨S16x256x256, .i32⟩ : BufTy).Contents (Elt F) → (⟨S16x256x256, .i32⟩ : BufTy).Contents (Elt F) → (⟨S16x256x256, .i32⟩ : BufTy).Contents (Elt F)),
    nullary main_c_44 (constantI S_ 32 29#32),
    unary main_c_44 main_v187 (broadcastInDim S16x256x256 ![] bcast_S_S16x256x256 : (⟨S_, .i32⟩ : BufTy).Contents (Elt F) → (⟨S16x256x256, .i32⟩ : BufTy).Contents (Elt F)),
    binary main_v185 main_v187 main_v188 (Host.shli : (⟨S16x256x256, .i32⟩ : BufTy).Contents (Elt F) → (⟨S16x256x256, .i32⟩ : BufTy).Contents (Elt F) → (⟨S16x256x256, .i32⟩ : BufTy).Contents (Elt F)),
    nullary main_c_45 (constantI S_ 32 3#32),
    unary main_c_45 main_v189 (broadcastInDim S16x256x256 ![] bcast_S_S16x256x256 : (⟨S_, .i32⟩ : BufTy).Contents (Elt F) → (⟨S16x256x256, .i32⟩ : BufTy).Contents (Elt F)),
    binary main_v185 main_v189 main_v190 (Host.shrui : (⟨S16x256x256, .i32⟩ : BufTy).Contents (Elt F) → (⟨S16x256x256, .i32⟩ : BufTy).Contents (Elt F) → (⟨S16x256x256, .i32⟩ : BufTy).Contents (Elt F)),
    binary main_v188 main_v190 main_v191 (ori : (⟨S16x256x256, .i32⟩ : BufTy).Contents (Elt F) → (⟨S16x256x256, .i32⟩ : BufTy).Contents (Elt F) → (⟨S16x256x256, .i32⟩ : BufTy).Contents (Elt F)) ]

set_option maxHeartbeats 4000000 in
theorem part3_eq (c : Dev nD) : main_part3 (F := F) c = seq ops3 := rfl

/-- Part 4 of the operations. -/
abbrev ops4 : List (HloOp τ sig (Elt F)) :=
  [ binary main_v186 main_v191 main_v192 (xori : (⟨S16x256x256, .i32⟩ : BufTy).Contents (Elt F) → (⟨S16x256x256, .i32⟩ : BufTy).Contents (Elt F) → (⟨S16x256x256, .i32⟩ : BufTy).Contents (Elt F)),
    binary main_v186 main_v192 main_v193 (addi : (⟨S16x256x256, .i32⟩ : BufTy).Contents (Elt F) → (⟨S16x256x256, .i32⟩ : BufTy).Contents (Elt F) → (⟨S16x256x256, .i32⟩ : BufTy).Contents (Elt F)),
    nullary main_c_46 (constantI S_ 32 16#32),
    unary main_c_46 main_v194 (broadcastInDim S16x256x256 ![] bcast_S_S16x256x256 : (⟨S_, .i32⟩ : BufTy).Contents (Elt F) → (⟨S16x256x256, .i32⟩ : BufTy).Contents (Elt F)),
    binary main_v192 main_v194 main_v195 (Host.shli : (⟨S16x256x256, .i32⟩ : BufTy).Contents (Elt F) → (⟨S16x256x256, .i32⟩ : BufTy).Contents (Elt F) → (⟨S16x256x256, .i32⟩ : BufTy).Contents (Elt F)),
    nullary main_c_47 (constantI S_ 32 16#32),
    unary main_c_47 main_v196 (broadcastInDim S16x256x256 ![] bcast_S_S16x256x256 : (⟨S_, .i32⟩ : BufTy).Contents (Elt F) → (⟨S16x256x256, .i32⟩ : BufTy).Contents (Elt F)),
    binary main_v192 main_v196 main_v197 (Host.shrui : (⟨S16x256x256, .i32⟩ : BufTy).Contents (Elt F) → (⟨S16x256x256, .i32⟩ : BufTy).Contents (Elt F) → (⟨S16x256x256, .i32⟩ : BufTy).Contents (Elt F)),
    binary main_v195 main_v197 main_v198 (ori : (⟨S16x256x256, .i32⟩ : BufTy).Contents (Elt F) → (⟨S16x256x256, .i32⟩ : BufTy).Contents (Elt F) → (⟨S16x256x256, .i32⟩ : BufTy).Contents (Elt F)),
    binary main_v193 main_v198 main_v199 (xori : (⟨S16x256x256, .i32⟩ : BufTy).Contents (Elt F) → (⟨S16x256x256, .i32⟩ : BufTy).Contents (Elt F) → (⟨S16x256x256, .i32⟩ : BufTy).Contents (Elt F)),
    binary main_v193 main_v199 main_v200 (addi : (⟨S16x256x256, .i32⟩ : BufTy).Contents (Elt F) → (⟨S16x256x256, .i32⟩ : BufTy).Contents (Elt F) → (⟨S16x256x256, .i32⟩ : BufTy).Contents (Elt F)),
    nullary main_c_48 (constantI S_ 32 24#32),
    unary main_c_48 main_v201 (broadcastInDim S16x256x256 ![] bcast_S_S16x256x256 : (⟨S_, .i32⟩ : BufTy).Contents (Elt F) → (⟨S16x256x256, .i32⟩ : BufTy).Contents (Elt F)),
    binary main_v199 main_v201 main_v202 (Host.shli : (⟨S16x256x256, .i32⟩ : BufTy).Contents (Elt F) → (⟨S16x256x256, .i32⟩ : BufTy).Contents (Elt F) → (⟨S16x256x256, .i32⟩ : BufTy).Contents (Elt F)),
    nullary main_c_49 (constantI S_ 32 8#32),
    unary main_c_49 main_v203 (broadcastInDim S16x256x256 ![] bcast_S_S16x256x256 : (⟨S_, .i32⟩ : BufTy).Contents (Elt F) → (⟨S16x256x256, .i32⟩ : BufTy).Contents (Elt F)),
    binary main_v199 main_v203 main_v204 (Host.shrui : (⟨S16x256x256, .i32⟩ : BufTy).Contents (Elt F) → (⟨S16x256x256, .i32⟩ : BufTy).Contents (Elt F) → (⟨S16x256x256, .i32⟩ : BufTy).Contents (Elt F)),
    binary main_v202 main_v204 main_v205 (ori : (⟨S16x256x256, .i32⟩ : BufTy).Contents (Elt F) → (⟨S16x256x256, .i32⟩ : BufTy).Contents (Elt F) → (⟨S16x256x256, .i32⟩ : BufTy).Contents (Elt F)),
    binary main_v200 main_v205 main_v206 (xori : (⟨S16x256x256, .i32⟩ : BufTy).Contents (Elt F) → (⟨S16x256x256, .i32⟩ : BufTy).Contents (Elt F) → (⟨S16x256x256, .i32⟩ : BufTy).Contents (Elt F)),
    nullary main_c_50 (constantI S_ 32 42#32),
    unary main_c_50 main_v207 (broadcastInDim S16x256x256 ![] bcast_S_S16x256x256 : (⟨S_, .i32⟩ : BufTy).Contents (Elt F) → (⟨S16x256x256, .i32⟩ : BufTy).Contents (Elt F)),
    binary main_v200 main_v207 main_v208 (addi : (⟨S16x256x256, .i32⟩ : BufTy).Contents (Elt F) → (⟨S16x256x256, .i32⟩ : BufTy).Contents (Elt F) → (⟨S16x256x256, .i32⟩ : BufTy).Contents (Elt F)),
    nullary main_c_51 (constantI S_ 32 466689008#32),
    unary main_c_51 main_v209 (broadcastInDim S16x256x256 ![] bcast_S_S16x256x256 : (⟨S_, .i32⟩ : BufTy).Contents (Elt F) → (⟨S16x256x256, .i32⟩ : BufTy).Contents (Elt F)),
    binary main_v206 main_v209 main_v210 (addi : (⟨S16x256x256, .i32⟩ : BufTy).Contents (Elt F) → (⟨S16x256x256, .i32⟩ : BufTy).Contents (Elt F) → (⟨S16x256x256, .i32⟩ : BufTy).Contents (Elt F)),
    nullary main_c_52 (constantI S_ 32 4#32),
    unary main_c_52 main_v211 (broadcastInDim S16x256x256 ![] bcast_S_S16x256x256 : (⟨S_, .i32⟩ : BufTy).Contents (Elt F) → (⟨S16x256x256, .i32⟩ : BufTy).Contents (Elt F)),
    binary main_v210 main_v211 main_v212 (addi : (⟨S16x256x256, .i32⟩ : BufTy).Contents (Elt F) → (⟨S16x256x256, .i32⟩ : BufTy).Contents (Elt F) → (⟨S16x256x256, .i32⟩ : BufTy).Contents (Elt F)),
    binary main_v208 main_v212 main_v213 (addi : (⟨S16x256x256, .i32⟩ : BufTy).Contents (Elt F) → (⟨S16x256x256, .i32⟩ : BufTy).Contents (Elt F) → (⟨S16x256x256, .i32⟩ : BufTy).Contents (Elt F)),
    nullary main_c_53 (constantI S_ 32 13#32),
    unary main_c_53 main_v214 (broadcastInDim S16x256x256 ![] bcast_S_S16x256x256 : (⟨S_, .i32⟩ : BufTy).Contents (Elt F) → (⟨S16x256x256, .i32⟩ : BufTy).Contents (Elt F)),
    binary main_v212 main_v214 main_v215 (Host.shli : (⟨S16x256x256, .i32⟩ : BufTy).Contents (Elt F) → (⟨S16x256x256, .i32⟩ : BufTy).Contents (Elt F) → (⟨S16x256x256, .i32⟩ : BufTy).Contents (Elt F)),
    nullary main_c_54 (constantI S_ 32 19#32),
    unary main_c_54 main_v216 (broadcastInDim S16x256x256 ![] bcast_S_S16x256x256 : (⟨S_, .i32⟩ : BufTy).Contents (Elt F) → (⟨S16x256x256, .i32⟩ : BufTy).Contents (Elt F)),
    binary main_v212 main_v216 main_v217 (Host.shrui : (⟨S16x256x256, .i32⟩ : BufTy).Contents (Elt F) → (⟨S16x256x256, .i32⟩ : BufTy).Contents (Elt F) → (⟨S16x256x256, .i32⟩ : BufTy).Contents (Elt F)),
    binary main_v215 main_v217 main_v218 (ori : (⟨S16x256x256, .i32⟩ : BufTy).Contents (Elt F) → (⟨S16x256x256, .i32⟩ : BufTy).Contents (Elt F) → (⟨S16x256x256, .i32⟩ : BufTy).Contents (Elt F)),
    binary main_v213 main_v218 main_v219 (xori : (⟨S16x256x256, .i32⟩ : BufTy).Contents (Elt F) → (⟨S16x256x256, .i32⟩ : BufTy).Contents (Elt F) → (⟨S16x256x256, .i32⟩ : BufTy).Contents (Elt F)),
    binary main_v213 main_v219 main_v220 (addi : (⟨S16x256x256, .i32⟩ : BufTy).Contents (Elt F) → (⟨S16x256x256, .i32⟩ : BufTy).Contents (Elt F) → (⟨S16x256x256, .i32⟩ : BufTy).Contents (Elt F)),
    nullary main_c_55 (constantI S_ 32 15#32),
    unary main_c_55 main_v221 (broadcastInDim S16x256x256 ![] bcast_S_S16x256x256 : (⟨S_, .i32⟩ : BufTy).Contents (Elt F) → (⟨S16x256x256, .i32⟩ : BufTy).Contents (Elt F)),
    binary main_v219 main_v221 main_v222 (Host.shli : (⟨S16x256x256, .i32⟩ : BufTy).Contents (Elt F) → (⟨S16x256x256, .i32⟩ : BufTy).Contents (Elt F) → (⟨S16x256x256, .i32⟩ : BufTy).Contents (Elt F)),
    nullary main_c_56 (constantI S_ 32 17#32),
    unary main_c_56 main_v223 (broadcastInDim S16x256x256 ![] bcast_S_S16x256x256 : (⟨S_, .i32⟩ : BufTy).Contents (Elt F) → (⟨S16x256x256, .i32⟩ : BufTy).Contents (Elt F)),
    binary main_v219 main_v223 main_v224 (Host.shrui : (⟨S16x256x256, .i32⟩ : BufTy).Contents (Elt F) → (⟨S16x256x256, .i32⟩ : BufTy).Contents (Elt F) → (⟨S16x256x256, .i32⟩ : BufTy).Contents (Elt F)),
    binary main_v222 main_v224 main_v225 (ori : (⟨S16x256x256, .i32⟩ : BufTy).Contents (Elt F) → (⟨S16x256x256, .i32⟩ : BufTy).Contents (Elt F) → (⟨S16x256x256, .i32⟩ : BufTy).Contents (Elt F)),
    binary main_v220 main_v225 main_v226 (xori : (⟨S16x256x256, .i32⟩ : BufTy).Contents (Elt F) → (⟨S16x256x256, .i32⟩ : BufTy).Contents (Elt F) → (⟨S16x256x256, .i32⟩ : BufTy).Contents (Elt F)),
    binary main_v220 main_v226 main_v227 (addi : (⟨S16x256x256, .i32⟩ : BufTy).Contents (Elt F) → (⟨S16x256x256, .i32⟩ : BufTy).Contents (Elt F) → (⟨S16x256x256, .i32⟩ : BufTy).Contents (Elt F)),
    nullary main_c_57 (constantI S_ 32 26#32),
    unary main_c_57 main_v228 (broadcastInDim S16x256x256 ![] bcast_S_S16x256x256 : (⟨S_, .i32⟩ : BufTy).Contents (Elt F) → (⟨S16x256x256, .i32⟩ : BufTy).Contents (Elt F)),
    binary main_v226 main_v228 main_v229 (Host.shli : (⟨S16x256x256, .i32⟩ : BufTy).Contents (Elt F) → (⟨S16x256x256, .i32⟩ : BufTy).Contents (Elt F) → (⟨S16x256x256, .i32⟩ : BufTy).Contents (Elt F)),
    nullary main_c_58 (constantI S_ 32 6#32),
    unary main_c_58 main_v230 (broadcastInDim S16x256x256 ![] bcast_S_S16x256x256 : (⟨S_, .i32⟩ : BufTy).Contents (Elt F) → (⟨S16x256x256, .i32⟩ : BufTy).Contents (Elt F)),
    binary main_v226 main_v230 main_v231 (Host.shrui : (⟨S16x256x256, .i32⟩ : BufTy).Contents (Elt F) → (⟨S16x256x256, .i32⟩ : BufTy).Contents (Elt F) → (⟨S16x256x256, .i32⟩ : BufTy).Contents (Elt F)),
    binary main_v229 main_v231 main_v232 (ori : (⟨S16x256x256, .i32⟩ : BufTy).Contents (Elt F) → (⟨S16x256x256, .i32⟩ : BufTy).Contents (Elt F) → (⟨S16x256x256, .i32⟩ : BufTy).Contents (Elt F)),
    binary main_v227 main_v232 main_v233 (xori : (⟨S16x256x256, .i32⟩ : BufTy).Contents (Elt F) → (⟨S16x256x256, .i32⟩ : BufTy).Contents (Elt F) → (⟨S16x256x256, .i32⟩ : BufTy).Contents (Elt F)),
    binary main_v227 main_v233 main_v234 (addi : (⟨S16x256x256, .i32⟩ : BufTy).Contents (Elt F) → (⟨S16x256x256, .i32⟩ : BufTy).Contents (Elt F) → (⟨S16x256x256, .i32⟩ : BufTy).Contents (Elt F)),
    nullary main_c_59 (constantI S_ 32 6#32),
    unary main_c_59 main_v235 (broadcastInDim S16x256x256 ![] bcast_S_S16x256x256 : (⟨S_, .i32⟩ : BufTy).Contents (Elt F) → (⟨S16x256x256, .i32⟩ : BufTy).Contents (Elt F)),
    binary main_v233 main_v235 main_v236 (Host.shli : (⟨S16x256x256, .i32⟩ : BufTy).Contents (Elt F) → (⟨S16x256x256, .i32⟩ : BufTy).Contents (Elt F) → (⟨S16x256x256, .i32⟩ : BufTy).Contents (Elt F)),
    nullary main_c_60 (constantI S_ 32 26#32) ]

set_option maxHeartbeats 4000000 in
theorem part4_eq (c : Dev nD) : main_part4 (F := F) c = seq ops4 := rfl

/-- Part 5 of the operations. -/
abbrev ops5 : List (HloOp τ sig (Elt F)) :=
  [ unary main_c_60 main_v237 (broadcastInDim S16x256x256 ![] bcast_S_S16x256x256 : (⟨S_, .i32⟩ : BufTy).Contents (Elt F) → (⟨S16x256x256, .i32⟩ : BufTy).Contents (Elt F)),
    binary main_v233 main_v237 main_v238 (Host.shrui : (⟨S16x256x256, .i32⟩ : BufTy).Contents (Elt F) → (⟨S16x256x256, .i32⟩ : BufTy).Contents (Elt F) → (⟨S16x256x256, .i32⟩ : BufTy).Contents (Elt F)),
    binary main_v236 main_v238 main_v239 (ori : (⟨S16x256x256, .i32⟩ : BufTy).Contents (Elt F) → (⟨S16x256x256, .i32⟩ : BufTy).Contents (Elt F) → (⟨S16x256x256, .i32⟩ : BufTy).Contents (Elt F)),
    binary main_v234 main_v239 main_v240 (xori : (⟨S16x256x256, .i32⟩ : BufTy).Contents (Elt F) → (⟨S16x256x256, .i32⟩ : BufTy).Contents (Elt F) → (⟨S16x256x256, .i32⟩ : BufTy).Contents (Elt F)),
    nullary main_c_61 (constantI S_ 32 466689008#32),
    unary main_c_61 main_v241 (broadcastInDim S16x256x256 ![] bcast_S_S16x256x256 : (⟨S_, .i32⟩ : BufTy).Contents (Elt F) → (⟨S16x256x256, .i32⟩ : BufTy).Contents (Elt F)),
    binary main_v234 main_v241 main_v242 (addi : (⟨S16x256x256, .i32⟩ : BufTy).Contents (Elt F) → (⟨S16x256x256, .i32⟩ : BufTy).Contents (Elt F) → (⟨S16x256x256, .i32⟩ : BufTy).Contents (Elt F)),
    nullary main_c_62 (constantI S_ 32 0#32),
    unary main_c_62 main_v243 (broadcastInDim S16x256x256 ![] bcast_S_S16x256x256 : (⟨S_, .i32⟩ : BufTy).Contents (Elt F) → (⟨S16x256x256, .i32⟩ : BufTy).Contents (Elt F)),
    binary main_v240 main_v243 main_v244 (addi : (⟨S16x256x256, .i32⟩ : BufTy).Contents (Elt F) → (⟨S16x256x256, .i32⟩ : BufTy).Contents (Elt F) → (⟨S16x256x256, .i32⟩ : BufTy).Contents (Elt F)),
    nullary main_c_63 (constantI S_ 32 5#32),
    unary main_c_63 main_v245 (broadcastInDim S16x256x256 ![] bcast_S_S16x256x256 : (⟨S_, .i32⟩ : BufTy).Contents (Elt F) → (⟨S16x256x256, .i32⟩ : BufTy).Contents (Elt F)),
    binary main_v244 main_v245 main_v246 (addi : (⟨S16x256x256, .i32⟩ : BufTy).Contents (Elt F) → (⟨S16x256x256, .i32⟩ : BufTy).Contents (Elt F) → (⟨S16x256x256, .i32⟩ : BufTy).Contents (Elt F)),
    binary main_v242 main_v246 main_v247 (xori : (⟨S16x256x256, .i32⟩ : BufTy).Contents (Elt F) → (⟨S16x256x256, .i32⟩ : BufTy).Contents (Elt F) → (⟨S16x256x256, .i32⟩ : BufTy).Contents (Elt F)),
    nullary main_c_64 (constantI S_ 32 9#32),
    unary main_c_64 main_v248 (broadcastInDim S16x256x256 ![] bcast_S_S16x256x256 : (⟨S_, .i32⟩ : BufTy).Contents (Elt F) → (⟨S16x256x256, .i32⟩ : BufTy).Contents (Elt F)),
    binary main_v247 main_v248 main_v249 (Host.shrui : (⟨S16x256x256, .i32⟩ : BufTy).Contents (Elt F) → (⟨S16x256x256, .i32⟩ : BufTy).Contents (Elt F) → (⟨S16x256x256, .i32⟩ : BufTy).Contents (Elt F)),
    unary main_v249 main_v250 (id : (⟨S16x256x256, .i32⟩ : BufTy).Contents (Elt F) → (⟨S16x256x256, .i32⟩ : BufTy).Contents (Elt F)),
    unary main_v250 main_v251 (sitofp .f32 : (⟨S16x256x256, .i32⟩ : BufTy).Contents (Elt F) → (⟨S16x256x256, .f32⟩ : BufTy).Contents (Elt F)),
    nullary main_cst_65 (constant S_ .f32 0x34000000#32),
    unary main_cst_65 main_v252 (broadcastInDim S16x256x256 ![] bcast_S_S16x256x256 : (⟨S_, .f32⟩ : BufTy).Contents (Elt F) → (⟨S16x256x256, .f32⟩ : BufTy).Contents (Elt F)),
    binary main_v251 main_v252 main_v253 (mulf : (⟨S16x256x256, .f32⟩ : BufTy).Contents (Elt F) → (⟨S16x256x256, .f32⟩ : BufTy).Contents (Elt F) → (⟨S16x256x256, .f32⟩ : BufTy).Contents (Elt F)),
    nullary main_cst_66 (constant S_ .f32 0x3F800000#32),
    unary main_cst_66 main_v254 (broadcastInDim S16x256x256 ![] bcast_S_S16x256x256 : (⟨S_, .f32⟩ : BufTy).Contents (Elt F) → (⟨S16x256x256, .f32⟩ : BufTy).Contents (Elt F)),
    binary main_v253 main_v254 main_v255 (mulf : (⟨S16x256x256, .f32⟩ : BufTy).Contents (Elt F) → (⟨S16x256x256, .f32⟩ : BufTy).Contents (Elt F) → (⟨S16x256x256, .f32⟩ : BufTy).Contents (Elt F)),
    nullary main_cst_67 (constant S_ .f32 0x00800000#32),
    unary main_cst_67 main_v256 (broadcastInDim S16x256x256 ![] bcast_S_S16x256x256 : (⟨S_, .f32⟩ : BufTy).Contents (Elt F) → (⟨S16x256x256, .f32⟩ : BufTy).Contents (Elt F)),
    binary main_v255 main_v256 main_v257 (addf : (⟨S16x256x256, .f32⟩ : BufTy).Contents (Elt F) → (⟨S16x256x256, .f32⟩ : BufTy).Contents (Elt F) → (⟨S16x256x256, .f32⟩ : BufTy).Contents (Elt F)),
    nullary main_cst_68 (constant S_ .f32 0x00800000#32),
    unary main_cst_68 main_v258 (broadcastInDim S16x256x256 ![] bcast_S_S16x256x256 : (⟨S_, .f32⟩ : BufTy).Contents (Elt F) → (⟨S16x256x256, .f32⟩ : BufTy).Contents (Elt F)),
    binary main_v258 main_v257 main_v259 (maximumf : (⟨S16x256x256, .f32⟩ : BufTy).Contents (Elt F) → (⟨S16x256x256, .f32⟩ : BufTy).Contents (Elt F) → (⟨S16x256x256, .f32⟩ : BufTy).Contents (Elt F)),
    unary main_v259 main_v260 (Host.log : (⟨S16x256x256, .f32⟩ : BufTy).Contents (Elt F) → (⟨S16x256x256, .f32⟩ : BufTy).Contents (Elt F)),
    unary main_v260 main_v261 (Host.negf : (⟨S16x256x256, .f32⟩ : BufTy).Contents (Elt F) → (⟨S16x256x256, .f32⟩ : BufTy).Contents (Elt F)),
    unary main_v261 main_v262 (Host.log : (⟨S16x256x256, .f32⟩ : BufTy).Contents (Elt F) → (⟨S16x256x256, .f32⟩ : BufTy).Contents (Elt F)),
    unary main_v262 main_v263 (Host.negf : (⟨S16x256x256, .f32⟩ : BufTy).Contents (Elt F) → (⟨S16x256x256, .f32⟩ : BufTy).Contents (Elt F)),
    binary main_v69 main_v263 main_v264 (addf : (⟨S16x256x256, .f32⟩ : BufTy).Contents (Elt F) → (⟨S16x256x256, .f32⟩ : BufTy).Contents (Elt F) → (⟨S16x256x256, .f32⟩ : BufTy).Contents (Elt F)),
    nullary main_cst_69 (constant S_ .f32 0x3F800000#32),
    unary main_cst_69 main_v265 (broadcastInDim S16x256x256 ![] bcast_S_S16x256x256 : (⟨S_, .f32⟩ : BufTy).Contents (Elt F) → (⟨S16x256x256, .f32⟩ : BufTy).Contents (Elt F)),
    binary main_v264 main_v265 main_v266 (Host.divf : (⟨S16x256x256, .f32⟩ : BufTy).Contents (Elt F) → (⟨S16x256x256, .f32⟩ : BufTy).Contents (Elt F) → (⟨S16x256x256, .f32⟩ : BufTy).Contents (Elt F)),
    nullary main_cst_70 (constant S_ .f32 0xFF800000#32),
    binary main_v266 main_cst_70 main_v267 ((fun x v => Host.reduce FloatOps.maximumf x v reducesTo_S16x256x256_S16x256_d2 h_S_) : (⟨S16x256x256, .f32⟩ : BufTy).Contents (Elt F) → (⟨S_, .f32⟩ : BufTy).Contents (Elt F) → (⟨S16x256, .f32⟩ : BufTy).Contents (Elt F)),
    nullary main_cst_71 (constant S_ .f32 0xFF800000#32),
    unary main_cst_71 main_v268 (broadcastInDim S16x256 ![] bcast_S_S16x256 : (⟨S_, .f32⟩ : BufTy).Contents (Elt F) → (⟨S16x256, .f32⟩ : BufTy).Contents (Elt F)),
    binary main_v268 main_v267 main_v269 (maximumf : (⟨S16x256, .f32⟩ : BufTy).Contents (Elt F) → (⟨S16x256, .f32⟩ : BufTy).Contents (Elt F) → (⟨S16x256, .f32⟩ : BufTy).Contents (Elt F)),
    unary main_v269 main_v270 (broadcastInDim S16x256x1 ![0, 1] bcast_S16x256_S16x256x1_0_1 : (⟨S16x256, .f32⟩ : BufTy).Contents (Elt F) → (⟨S16x256x1, .f32⟩ : BufTy).Contents (Elt F)),
    unary main_v270 main_v271 (broadcastInDim S16x256x256 ![0, 1, 2] bcast_S16x256x1_S16x256x256_0_1_2 : (⟨S16x256x1, .f32⟩ : BufTy).Contents (Elt F) → (⟨S16x256x256, .f32⟩ : BufTy).Contents (Elt F)),
    binary main_v266 main_v271 main_v272 (subf : (⟨S16x256x256, .f32⟩ : BufTy).Contents (Elt F) → (⟨S16x256x256, .f32⟩ : BufTy).Contents (Elt F) → (⟨S16x256x256, .f32⟩ : BufTy).Contents (Elt F)),
    unary main_v272 main_v273 (Host.exp : (⟨S16x256x256, .f32⟩ : BufTy).Contents (Elt F) → (⟨S16x256x256, .f32⟩ : BufTy).Contents (Elt F)),
    nullary main_cst_72 (constant S_ .f32 0x00000000#32),
    binary main_v273 main_cst_72 main_v274 ((fun x v => Host.reduceAdd x v reducesTo_S16x256x256_S16x256_d2 h_S_) : (⟨S16x256x256, .f32⟩ : BufTy).Contents (Elt F) → (⟨S_, .f32⟩ : BufTy).Contents (Elt F) → (⟨S16x256, .f32⟩ : BufTy).Contents (Elt F)),
    unary main_v274 main_v275 (broadcastInDim S16x256x1 ![0, 1] bcast_S16x256_S16x256x1_0_1 : (⟨S16x256, .f32⟩ : BufTy).Contents (Elt F) → (⟨S16x256x1, .f32⟩ : BufTy).Contents (Elt F)),
    unary main_v275 main_v276 (broadcastInDim S16x256x256 ![0, 1, 2] bcast_S16x256x1_S16x256x256_0_1_2 : (⟨S16x256x1, .f32⟩ : BufTy).Contents (Elt F) → (⟨S16x256x256, .f32⟩ : BufTy).Contents (Elt F)),
    binary main_v273 main_v276 main_v277 (Host.divf : (⟨S16x256x256, .f32⟩ : BufTy).Contents (Elt F) → (⟨S16x256x256, .f32⟩ : BufTy).Contents (Elt F) → (⟨S16x256x256, .f32⟩ : BufTy).Contents (Elt F)),
    TRef.nullary (TRef.of (T := ⟨S16x256x256, .i32⟩) main_call5_v0) (iotaInDim S16x256x256 32 2),
    TRef.nullary (TRef.of (T := ⟨S_, .f32⟩) main_call5_cst) (constant S_ .f32 0xFF800000#32),
    TRef.nullary (TRef.of (T := ⟨S_, .i32⟩) main_call5_c) (constantI S_ 32 0#32),
    TRef.quaternary (TRef.of (T := ⟨S16x256x256, .f32⟩) main_v277) (TRef.of (T := ⟨S16x256x256, .i32⟩) main_call5_v0) (TRef.of (T := ⟨S_, .f32⟩) main_call5_cst) (TRef.of (T := ⟨S_, .i32⟩) main_call5_c) (TRef.of (T := ⟨S16x256, .f32⟩) main_call5_v1_0) (fun x y u v j => (Host.argReduce reducer_argmax_f32_i32 x y u v reducesTo_S16x256x256_S16x256_d2 h_S_ j).1),
    TRef.quaternary (TRef.of (T := ⟨S16x256x256, .f32⟩) main_v277) (TRef.of (T := ⟨S16x256x256, .i32⟩) main_call5_v0) (TRef.of (T := ⟨S_, .f32⟩) main_call5_cst) (TRef.of (T := ⟨S_, .i32⟩) main_call5_c) (TRef.of (T := ⟨S16x256, .i32⟩) main_v278) (fun x y u v j => (Host.argReduce reducer_argmax_f32_i32 x y u v reducesTo_S16x256x256_S16x256_d2 h_S_ j).2),
    TRef.unary (TRef.of (T := ⟨S16x256, .i32⟩) main_v278) (TRef.of (T := ⟨S16x256x1, .i32⟩) main_call6_v0) (broadcastInDim S16x256x1 ![0, 1] bcast_S16x256_S16x256x1_0_1),
    TRef.nullary (TRef.of (T := ⟨S1x1x256, .i32⟩) main_call6_v1) (iotaInDim S1x1x256 32 2),
    TRef.unary (TRef.of (T := ⟨S16x256x1, .i32⟩) main_call6_v0) (TRef.of (T := ⟨S16x256x256, .i32⟩) main_call6_v2) (broadcastInDim S16x256x256 ![0, 1, 2] bcast_S16x256x1_S16x256x256_0_1_2),
    TRef.unary (TRef.of (T := ⟨S1x1x256, .i32⟩) main_call6_v1) (TRef.of (T := ⟨S16x256x256, .i32⟩) main_call6_v3) (broadcastInDim S16x256x256 ![0, 1, 2] bcast_S1x1x256_S16x256x256_0_1_2),
    TRef.binary (TRef.of (T := ⟨S16x256x256, .i32⟩) main_call6_v2) (TRef.of (T := ⟨S16x256x256, .i32⟩) main_call6_v3) (TRef.of (T := ⟨S16x256x256, .i1⟩) main_call6_v4) (cmpi .eq),
    TRef.unary (TRef.of (T := ⟨S16x256x256, .i1⟩) main_call6_v4) (TRef.of (T := ⟨S16x256x256, .f32⟩) main_v279) (uitofp .f32),
    binary main_v279 main_v277 main_v280 (addf : (⟨S16x256x256, .f32⟩ : BufTy).Contents (Elt F) → (⟨S16x256x256, .f32⟩ : BufTy).Contents (Elt F) → (⟨S16x256x256, .f32⟩ : BufTy).Contents (Elt F)),
    binary main_v280 main_v277 main_v281 (subf : (⟨S16x256x256, .f32⟩ : BufTy).Contents (Elt F) → (⟨S16x256x256, .f32⟩ : BufTy).Contents (Elt F) → (⟨S16x256x256, .f32⟩ : BufTy).Contents (Elt F)),
    unary main_v281 main_v282 ((transpose S16x256x256 [0, 2, 1] · transposes_S16x256x256_S16x256x256_0_2_1) : (⟨S16x256x256, .f32⟩ : BufTy).Contents (Elt F) → (⟨S16x256x256, .f32⟩ : BufTy).Contents (Elt F)),
    binary main_v281 main_v282 main_v283 (addf : (⟨S16x256x256, .f32⟩ : BufTy).Contents (Elt F) → (⟨S16x256x256, .f32⟩ : BufTy).Contents (Elt F) → (⟨S16x256x256, .f32⟩ : BufTy).Contents (Elt F)),
    nullary main_cst_73 (constant S_ .f32 0x00000000#32) ]

set_option maxHeartbeats 4000000 in
theorem part5_eq (c : Dev nD) : main_part5 (F := F) c = seq ops5 := rfl

/-- Part 6 of the operations. -/
abbrev ops6 : List (HloOp τ sig (Elt F)) :=
  [ nullary main_cst_74 (constant S_ .f32 0x3F800000#32),
    TRef.unary (TRef.of (T := ⟨S_, .f32⟩) main_cst_73) (TRef.of (T := ⟨S_, .f32⟩) main_call7_v0) id,
    TRef.unary (TRef.of (T := ⟨S_, .f32⟩) main_call7_v0) (TRef.of (T := ⟨S16x256x256, .f32⟩) main_call7_v1) (broadcastInDim S16x256x256 ![] bcast_S_S16x256x256),
    TRef.binary (TRef.of (T := ⟨S16x256x256, .f32⟩) main_call7_v1) (TRef.of (T := ⟨S16x256x256, .f32⟩) main_v283) (TRef.of (T := ⟨S16x256x256, .f32⟩) main_call7_v2) maximumf,
    TRef.unary (TRef.of (T := ⟨S_, .f32⟩) main_cst_74) (TRef.of (T := ⟨S_, .f32⟩) main_call7_v3) id,
    TRef.unary (TRef.of (T := ⟨S_, .f32⟩) main_call7_v3) (TRef.of (T := ⟨S16x256x256, .f32⟩) main_call7_v4) (broadcastInDim S16x256x256 ![] bcast_S_S16x256x256),
    TRef.binary (TRef.of (T := ⟨S16x256x256, .f32⟩) main_call7_v4) (TRef.of (T := ⟨S16x256x256, .f32⟩) main_call7_v2) (TRef.of (T := ⟨S16x256x256, .f32⟩) main_v284) minimumf ]

set_option maxHeartbeats 4000000 in
theorem part6_eq (c : Dev nD) : main_part6 (F := F) c = seq ops6 := rfl

set_option maxHeartbeats 4000000 in
theorem line0 : Line 13 (ops0 : List (HloOp τ sig (Elt F))) := by
  repeat first
    | exact trivial
    | (with_reducible refine line_binary _ _ _ _ ?_ ?_ ?_ ?_); (· exact ⟨rfl, rfl⟩); (· exact ⟨rfl, by decide⟩); (· exact ⟨rfl, by decide⟩)
    | (with_reducible refine line_unary _ _ _ ?_ ?_ ?_); (· exact ⟨rfl, rfl⟩); (· exact ⟨rfl, by decide⟩)
    | (with_reducible refine line_nullary _ _ ?_ ?_); (· exact ⟨rfl, rfl⟩)
    | (with_reducible refine line_reshape _ _ _ _ ?_ ?_ ?_); (· exact ⟨rfl, rfl⟩); (· exact ⟨rfl, by decide⟩)
    | (with_reducible refine line_ternary _ _ _ _ _ ?_ ?_ ?_ ?_ ?_); (· exact ⟨rfl, rfl⟩); (· exact ⟨rfl, by decide⟩); (· exact ⟨rfl, by decide⟩); (· exact ⟨rfl, by decide⟩)
    | (with_reducible refine line_quaternary _ _ _ _ _ _ ?_ ?_ ?_ ?_ ?_ ?_); (· exact ⟨rfl, rfl⟩); (· exact ⟨rfl, by decide⟩); (· exact ⟨rfl, by decide⟩); (· exact ⟨rfl, by decide⟩); (· exact ⟨rfl, by decide⟩)
set_option maxHeartbeats 4000000 in
theorem line1 : Line 86 (ops1 : List (HloOp τ sig (Elt F))) := by
  repeat first
    | exact trivial
    | (with_reducible refine line_binary _ _ _ _ ?_ ?_ ?_ ?_); (· exact ⟨rfl, rfl⟩); (· exact ⟨rfl, by decide⟩); (· exact ⟨rfl, by decide⟩)
    | (with_reducible refine line_unary _ _ _ ?_ ?_ ?_); (· exact ⟨rfl, rfl⟩); (· exact ⟨rfl, by decide⟩)
    | (with_reducible refine line_nullary _ _ ?_ ?_); (· exact ⟨rfl, rfl⟩)
    | (with_reducible refine line_reshape _ _ _ _ ?_ ?_ ?_); (· exact ⟨rfl, rfl⟩); (· exact ⟨rfl, by decide⟩)
    | (with_reducible refine line_ternary _ _ _ _ _ ?_ ?_ ?_ ?_ ?_); (· exact ⟨rfl, rfl⟩); (· exact ⟨rfl, by decide⟩); (· exact ⟨rfl, by decide⟩); (· exact ⟨rfl, by decide⟩)
    | (with_reducible refine line_quaternary _ _ _ _ _ _ ?_ ?_ ?_ ?_ ?_ ?_); (· exact ⟨rfl, rfl⟩); (· exact ⟨rfl, by decide⟩); (· exact ⟨rfl, by decide⟩); (· exact ⟨rfl, by decide⟩); (· exact ⟨rfl, by decide⟩)
set_option maxHeartbeats 4000000 in
theorem line2 : Line 160 (ops2 : List (HloOp τ sig (Elt F))) := by
  repeat first
    | exact trivial
    | (with_reducible refine line_binary _ _ _ _ ?_ ?_ ?_ ?_); (· exact ⟨rfl, rfl⟩); (· exact ⟨rfl, by decide⟩); (· exact ⟨rfl, by decide⟩)
    | (with_reducible refine line_unary _ _ _ ?_ ?_ ?_); (· exact ⟨rfl, rfl⟩); (· exact ⟨rfl, by decide⟩)
    | (with_reducible refine line_nullary _ _ ?_ ?_); (· exact ⟨rfl, rfl⟩)
    | (with_reducible refine line_reshape _ _ _ _ ?_ ?_ ?_); (· exact ⟨rfl, rfl⟩); (· exact ⟨rfl, by decide⟩)
    | (with_reducible refine line_ternary _ _ _ _ _ ?_ ?_ ?_ ?_ ?_); (· exact ⟨rfl, rfl⟩); (· exact ⟨rfl, by decide⟩); (· exact ⟨rfl, by decide⟩); (· exact ⟨rfl, by decide⟩)
    | (with_reducible refine line_quaternary _ _ _ _ _ _ ?_ ?_ ?_ ?_ ?_ ?_); (· exact ⟨rfl, rfl⟩); (· exact ⟨rfl, by decide⟩); (· exact ⟨rfl, by decide⟩); (· exact ⟨rfl, by decide⟩); (· exact ⟨rfl, by decide⟩)
set_option maxHeartbeats 4000000 in
theorem line3 : Line 220 (ops3 : List (HloOp τ sig (Elt F))) := by
  repeat first
    | exact trivial
    | (with_reducible refine line_binary _ _ _ _ ?_ ?_ ?_ ?_); (· exact ⟨rfl, rfl⟩); (· exact ⟨rfl, by decide⟩); (· exact ⟨rfl, by decide⟩)
    | (with_reducible refine line_unary _ _ _ ?_ ?_ ?_); (· exact ⟨rfl, rfl⟩); (· exact ⟨rfl, by decide⟩)
    | (with_reducible refine line_nullary _ _ ?_ ?_); (· exact ⟨rfl, rfl⟩)
    | (with_reducible refine line_reshape _ _ _ _ ?_ ?_ ?_); (· exact ⟨rfl, rfl⟩); (· exact ⟨rfl, by decide⟩)
    | (with_reducible refine line_ternary _ _ _ _ _ ?_ ?_ ?_ ?_ ?_); (· exact ⟨rfl, rfl⟩); (· exact ⟨rfl, by decide⟩); (· exact ⟨rfl, by decide⟩); (· exact ⟨rfl, by decide⟩)
    | (with_reducible refine line_quaternary _ _ _ _ _ _ ?_ ?_ ?_ ?_ ?_ ?_); (· exact ⟨rfl, rfl⟩); (· exact ⟨rfl, by decide⟩); (· exact ⟨rfl, by decide⟩); (· exact ⟨rfl, by decide⟩); (· exact ⟨rfl, by decide⟩)
set_option maxHeartbeats 4000000 in
theorem line4 : Line 280 (ops4 : List (HloOp τ sig (Elt F))) := by
  repeat first
    | exact trivial
    | (with_reducible refine line_binary _ _ _ _ ?_ ?_ ?_ ?_); (· exact ⟨rfl, rfl⟩); (· exact ⟨rfl, by decide⟩); (· exact ⟨rfl, by decide⟩)
    | (with_reducible refine line_unary _ _ _ ?_ ?_ ?_); (· exact ⟨rfl, rfl⟩); (· exact ⟨rfl, by decide⟩)
    | (with_reducible refine line_nullary _ _ ?_ ?_); (· exact ⟨rfl, rfl⟩)
    | (with_reducible refine line_reshape _ _ _ _ ?_ ?_ ?_); (· exact ⟨rfl, rfl⟩); (· exact ⟨rfl, by decide⟩)
    | (with_reducible refine line_ternary _ _ _ _ _ ?_ ?_ ?_ ?_ ?_); (· exact ⟨rfl, rfl⟩); (· exact ⟨rfl, by decide⟩); (· exact ⟨rfl, by decide⟩); (· exact ⟨rfl, by decide⟩)
    | (with_reducible refine line_quaternary _ _ _ _ _ _ ?_ ?_ ?_ ?_ ?_ ?_); (· exact ⟨rfl, rfl⟩); (· exact ⟨rfl, by decide⟩); (· exact ⟨rfl, by decide⟩); (· exact ⟨rfl, by decide⟩); (· exact ⟨rfl, by decide⟩)
set_option maxHeartbeats 4000000 in
theorem line5 : Line 340 (ops5 : List (HloOp τ sig (Elt F))) := by
  repeat first
    | exact trivial
    | (with_reducible refine line_binary _ _ _ _ ?_ ?_ ?_ ?_); (· exact ⟨rfl, rfl⟩); (· exact ⟨rfl, by decide⟩); (· exact ⟨rfl, by decide⟩)
    | (with_reducible refine line_unary _ _ _ ?_ ?_ ?_); (· exact ⟨rfl, rfl⟩); (· exact ⟨rfl, by decide⟩)
    | (with_reducible refine line_nullary _ _ ?_ ?_); (· exact ⟨rfl, rfl⟩)
    | (with_reducible refine line_reshape _ _ _ _ ?_ ?_ ?_); (· exact ⟨rfl, rfl⟩); (· exact ⟨rfl, by decide⟩)
    | (with_reducible refine line_ternary _ _ _ _ _ ?_ ?_ ?_ ?_ ?_); (· exact ⟨rfl, rfl⟩); (· exact ⟨rfl, by decide⟩); (· exact ⟨rfl, by decide⟩); (· exact ⟨rfl, by decide⟩)
    | (with_reducible refine line_quaternary _ _ _ _ _ _ ?_ ?_ ?_ ?_ ?_ ?_); (· exact ⟨rfl, rfl⟩); (· exact ⟨rfl, by decide⟩); (· exact ⟨rfl, by decide⟩); (· exact ⟨rfl, by decide⟩); (· exact ⟨rfl, by decide⟩)
set_option maxHeartbeats 4000000 in
theorem line6 : Line 409 (ops6 : List (HloOp τ sig (Elt F))) := by
  repeat first
    | exact trivial
    | (with_reducible refine line_binary _ _ _ _ ?_ ?_ ?_ ?_); (· exact ⟨rfl, rfl⟩); (· exact ⟨rfl, by decide⟩); (· exact ⟨rfl, by decide⟩)
    | (with_reducible refine line_unary _ _ _ ?_ ?_ ?_); (· exact ⟨rfl, rfl⟩); (· exact ⟨rfl, by decide⟩)
    | (with_reducible refine line_nullary _ _ ?_ ?_); (· exact ⟨rfl, rfl⟩)
    | (with_reducible refine line_reshape _ _ _ _ ?_ ?_ ?_); (· exact ⟨rfl, rfl⟩); (· exact ⟨rfl, by decide⟩)
    | (with_reducible refine line_ternary _ _ _ _ _ ?_ ?_ ?_ ?_ ?_); (· exact ⟨rfl, rfl⟩); (· exact ⟨rfl, by decide⟩); (· exact ⟨rfl, by decide⟩); (· exact ⟨rfl, by decide⟩)
    | (with_reducible refine line_quaternary _ _ _ _ _ _ ?_ ?_ ?_ ?_ ?_ ?_); (· exact ⟨rfl, rfl⟩); (· exact ⟨rfl, by decide⟩); (· exact ⟨rfl, by decide⟩); (· exact ⟨rfl, by decide⟩); (· exact ⟨rfl, by decide⟩)

/-- The operations of the reference. -/
def ops : List (HloOp τ sig (Elt F)) := ops0 ++ (ops1 ++ (ops2 ++ (ops3 ++ (ops4 ++ (ops5 ++ ops6)))))

/-- Each operation writes the next tensor value. -/
theorem line : Line 13 (ops : List (HloOp τ sig (Elt F))) :=
  line0.append (line1.append (line2.append (line3.append (line4.append (line5.append line6)))))

theorem main_eq (c : Dev nD) : main (F := F) c = seq ops := by
  simp only [ops, seq_append, ← part0_eq c, ← part1_eq c, ← part2_eq c, ← part3_eq c, ← part4_eq c, ← part5_eq c, ← part6_eq c]
  rfl

theorem no_scopedRefs : (Finset.univ.filter fun b : Ref sig .tc => b.isScoped) = ∅ := by decide

theorem no_scopedSems : (Finset.univ.filter fun sm : SemLoc sig => sm.isScoped .tc) = ∅ := by decide

/-- The reference runs, and leaves in every buffer what its operations make of the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq no_scopedRefs no_scopedSems defs main (fun _ => ops) main_eq (fun _ => line.sub) m ρ fun _ => line.fresh

/-- An argument is left as it was. -/
theorem arg_kept (V : Valuation τ sig (Elt F)) {b : Ref sig .tc} (h : Lt 13 b) : after ops V (Proc.devRef .tc b) = V (Proc.devRef .tc b) :=
  line.keep V h.below

end Cert.ReferenceIdeal.Hand

end
-- ==== Proof.RStage.lean ====
module

public import proofs.«01_k».proof.Proof.RRun
public import Idealize.ShloMosaic.PureOps.Ideal.Laws

@[expose] public section

set_option maxRecDepth 16384

noncomputable section

/-! The reference's stages as functions of the values they read, and the values of its run as these stages. -/

namespace Cert.ReferenceIdeal.Hand

open Cert.ReferenceIdeal Cert.ReferenceIdeal.Facts₀ Cert.Ssa Idealize.ShloMosaic Idealize.ShloMosaic.TcCoe Idealize.ShloMosaic.StableHlo

/-- A dense layer of sixteen rows, its negative values cut. -/
def hid (x : FVec Ideal S16x128 .f32) (w : FVec Ideal S128x128 .f32) (b : FVec Ideal S128 .f32) : FVec Ideal S16x128 .f32 :=
  maximumf (addf (Host.dotGeneral dot_S16x128_S128x128_S16x128_1_0_0_1_n_n none x (transpose S128x128 [1, 0] w transposes_S128x128_S128x128_1_0))
    (broadcastInDim S16x128 ![0, 1] bcast_S1x128_S16x128_0_1 (broadcastInDim S1x128 ![1] bcast_S128_S1x128_1 b)))
    (broadcastInDim S16x128 ![] bcast_S_S16x128 (constant S_ .f32 0x00000000#32))

/-- The node features, a row for each graph and node, before the attention's own product. -/
def nodes (h : FVec Ideal S16x128 .f32) (w : FVec Ideal S32768x128 .f32) (b : FVec Ideal S32768 .f32) : FVec Ideal S16x32768 .f32 :=
  addf (Host.dotGeneral dot_S16x128_S128x32768_S16x32768_1_0_0_1_n_n none h (transpose S128x32768 [1, 0] w transposes_S32768x128_S128x32768_1_0))
    (broadcastInDim S16x32768 ![0, 1] bcast_S1x32768_S16x32768_0_1 (broadcastInDim S1x32768 ![1] bcast_S32768_S1x32768_1 b))

/-- The features the attention works on, by graph, node, head and channel. -/
def heads (n : FVec Ideal S16x32768 .f32) (w : FVec Ideal S128x128 .f32) : FVec Ideal S16x256x4x32 .f32 :=
  shapeCast S16x256x4x32 (Host.dotGeneral dot_S4096x128_S128x128_S4096x128_1_0_0_1_n_n none
    (shapeCast S4096x128 n shapeCasts_S16x32768_S4096x128) (transpose S128x128 [1, 0] w transposes_S128x128_S128x128_1_0))
    shapeCasts_S4096x128_S16x256x4x32

/-- A head's features against one of its attention vectors. -/
def attv (f : FVec Ideal S16x256x4x32 .f32) (a : FVec Ideal S4x32 .f32) : FVec Ideal S16x256x4 .f32 :=
  Host.reduceAdd (mulf f (broadcastInDim S16x256x4x32 ![0, 1, 2, 3] bcast_S1x1x4x32_S16x256x4x32_0_1_2_3
    (broadcastInDim S1x1x4x32 ![2, 3] bcast_S4x32_S1x1x4x32_2_3 a))) (constant S_ .f32 0x00000000#32) reducesTo_S16x256x4x32_S16x256x4_d3 h_S_

/-- The sum of a source's score and a target's. -/
def pairs (s d : FVec Ideal S16x256x4 .f32) : FVec Ideal S16x256x256x4 .f32 :=
  addf (broadcastInDim S16x256x256x4 ![0, 1, 2, 3] bcast_S16x256x1x4_S16x256x256x4_0_1_2_3 (broadcastInDim S16x256x1x4 ![0, 1, 3] bcast_S16x256x4_S16x256x1x4_0_1_3 s))
    (broadcastInDim S16x256x256x4 ![0, 1, 2, 3] bcast_S16x1x256x4_S16x256x256x4_0_1_2_3 (broadcastInDim S16x1x256x4 ![0, 2, 3] bcast_S16x256x4_S16x1x256x4_0_2_3 d))

/-- The leaky activation. -/
def leak (s : FVec Ideal S16x256x256x4 .f32) : FVec Ideal S16x256x256x4 .f32 :=
  select (cmpf .oge s (broadcastInDim S16x256x256x4 ![] bcast_S_S16x256x256x4 (constant S_ .f32 0x00000000#32))) s
    (mulf (broadcastInDim S16x256x256x4 ![] bcast_S_S16x256x256x4 (constant S_ .f32 0x3E4CCCCD#32)) s)

/-- Where there is an edge. -/
def edges : IVec S1x256x256x1 1 :=
  broadcastInDim S1x256x256x1 ![1, 2] bcast_S256x256_S1x256x256x1_1_2
    (cmpi .sle (broadcastInDim S256x256 ![0, 1] bcast_S256x1_S256x256_0_1 (broadcastInDim S256x1 ![0] bcast_S256_S256x1_0 (iotaInDim S256 32 0)))
      (broadcastInDim S256x256 ![0, 1] bcast_S1x256_S256x256_0_1 (broadcastInDim S1x256 ![1] bcast_S256_S1x256_1 (iotaInDim S256 32 0))))

/-- The scores, minus infinity where there is no edge. -/
def masked (s : FVec Ideal S16x256x256x4 .f32) : FVec Ideal S16x256x256x4 .f32 :=
  select (broadcastInDim S16x256x256x4 ![0, 1, 2, 3] bcast_S1x256x256x1_S16x256x256x4_0_1_2_3 edges) s
    (broadcastInDim S16x256x256x4 ![] bcast_S_S16x256x256x4 (constant S_ .f32 0xFF800000#32))

/-- The exponentials of the scores less each target's largest. -/
def expo (s : FVec Ideal S16x256x256x4 .f32) : FVec Ideal S16x256x256x4 .f32 :=
  Host.exp (subf s (broadcastInDim S16x256x256x4 ![0, 1, 2, 3] bcast_S16x1x256x4_S16x256x256x4_0_1_2_3 (broadcastInDim S16x1x256x4 ![0, 2, 3] bcast_S16x256x4_S16x1x256x4_0_2_3
    (Host.reduce FloatOps.maximumf s (constant S_ .f32 0xFF800000#32) reducesTo_S16x256x256x4_S16x256x4_d1 h_S_))))

/-- The attention weights. -/
def attn (e : FVec Ideal S16x256x256x4 .f32) : FVec Ideal S16x256x256x4 .f32 :=
  Host.divf e (broadcastInDim S16x256x256x4 ![0, 1, 2, 3] bcast_S16x1x256x4_S16x256x256x4_0_1_2_3 (addf (broadcastInDim S16x1x256x4 ![0, 2, 3] bcast_S16x256x4_S16x1x256x4_0_2_3
    (Host.reduceAdd e (constant S_ .f32 0x00000000#32) reducesTo_S16x256x256x4_S16x256x4_d1 h_S_))
    (broadcastInDim S16x1x256x4 ![] bcast_S_S16x1x256x4 (constant S_ .f32 0x24E69595#32))))

/-- The features gathered along the edges. -/
def gath (f : FVec Ideal S16x256x4x32 .f32) (a : FVec Ideal S16x256x256x4 .f32) : FVec Ideal S16x256x4x32 .f32 :=
  Host.reduceAdd (mulf
    (broadcastInDim S16x256x256x4x32 ![0, 1, 2, 3, 4] bcast_S16x256x1x4x32_S16x256x256x4x32_0_1_2_3_4 (broadcastInDim S16x256x1x4x32 ![0, 1, 3, 4] bcast_S16x256x4x32_S16x256x1x4x32_0_1_3_4 f))
    (broadcastInDim S16x256x256x4x32 ![0, 1, 2, 3, 4] bcast_S16x256x256x4x1_S16x256x256x4x32_0_1_2_3_4 (broadcastInDim S16x256x256x4x1 ![0, 1, 2, 3] bcast_S16x256x256x4_S16x256x256x4x1_0_1_2_3 a)))
    (constant S_ .f32 0x00000000#32) reducesTo_S16x256x256x4x32_S16x256x4x32_d1 h_S_

/-- The gathered features with their bias. -/
def biased (m : FVec Ideal S16x256x4x32 .f32) (b : FVec Ideal S128 .f32) : FVec Ideal S16x256x128 .f32 :=
  addf (shapeCast S16x256x128 m shapeCasts_S16x256x4x32_S16x256x128)
    (broadcastInDim S16x256x128 ![0, 1, 2] bcast_S1x1x128_S16x256x128_0_1_2 (broadcastInDim S1x1x128 ![2] bcast_S128_S1x1x128_2 b))

/-- The values that are not positive, zero in place of the others. -/
def low (o : FVec Ideal S16x256x128 .f32) : FVec Ideal S16x256x128 .f32 :=
  select (cmpf .ogt o (broadcastInDim S16x256x128 ![] bcast_S_S16x256x128 (constant (F := Ideal) S_ .f32 0x00000000#32)))
    (broadcastInDim S16x256x128 ![] bcast_S_S16x256x128 (constant (F := Ideal) S_ .f32 0x00000000#32)) o

/-- The exponential linear unit, from the values and their parts that are not positive. -/
def unit (o l : FVec Ideal S16x256x128 .f32) : FVec Ideal S16x256x128 .f32 :=
  select (cmpf .ogt o (broadcastInDim S16x256x128 ![] bcast_S_S16x256x128 (constant (F := Ideal) S_ .f32 0x00000000#32))) o
    (mulf (broadcastInDim S16x256x128 ![] bcast_S_S16x256x128 (constant S_ .f32 0x3F800000#32)) (Host.expm1 l))

/-- The last layer. -/
def last (e : FVec Ideal S16x256x128 .f32) (w : FVec Ideal S256x128 .f32) (b : FVec Ideal S256 .f32) : FVec Ideal S16x256x256 .f32 :=
  addf (Host.dotGeneral dot_S16x256x128_S128x256_S16x256x256_2_0_01_1_n_n none e (transpose S128x256 [1, 0] w transposes_S256x128_S128x256_1_0))
    (broadcastInDim S16x256x256 ![0, 1, 2] bcast_S1x1x256_S16x256x256_0_1_2 (broadcastInDim S1x1x256 ![2] bcast_S256_S1x1x256_2 b))

/-- A scalar constant everywhere. -/
def scal (b : BitVec 32) : FVec Ideal S16x256x256 .f32 := broadcastInDim S16x256x256 ![] bcast_S_S16x256x256 (constant S_ .f32 b)

/-- An integer constant everywhere. -/
def scali (b : BitVec 32) : IVec S16x256x256 32 := broadcastInDim S16x256x256 ![] bcast_S_S16x256x256 (constantI S_ 32 b)

/-- The noise, from the random words. -/
def noise (r : IVec S16x256x256 32) : FVec Ideal S16x256x256 .f32 :=
  Host.negf (Host.log (Host.negf (Host.log (maximumf (scal 0x00800000#32)
    (addf (mulf (mulf (sitofp .f32 (Host.shrui r (scali 9#32))) (scal 0x34000000#32)) (scal 0x3F800000#32)) (scal 0x00800000#32))))))

/-- The logits with the noise, at temperature one. -/
def tempered (l g : FVec Ideal S16x256x256 .f32) : FVec Ideal S16x256x256 .f32 := Host.divf (addf l g) (scal 0x3F800000#32)

/-- The exponentials of a row less its largest. -/
def rowExp (z : FVec Ideal S16x256x256 .f32) : FVec Ideal S16x256x256 .f32 :=
  Host.exp (subf z (broadcastInDim S16x256x256 ![0, 1, 2] bcast_S16x256x1_S16x256x256_0_1_2 (broadcastInDim S16x256x1 ![0, 1] bcast_S16x256_S16x256x1_0_1
    (maximumf (broadcastInDim S16x256 ![] bcast_S_S16x256 (constant S_ .f32 0xFF800000#32))
      (Host.reduce FloatOps.maximumf z (constant S_ .f32 0xFF800000#32) reducesTo_S16x256x256_S16x256_d2 h_S_)))))

/-- The softmax of each row. -/
def softmax (e : FVec Ideal S16x256x256 .f32) : FVec Ideal S16x256x256 .f32 :=
  Host.divf e (broadcastInDim S16x256x256 ![0, 1, 2] bcast_S16x256x1_S16x256x256_0_1_2 (broadcastInDim S16x256x1 ![0, 1] bcast_S16x256_S16x256x1_0_1
    (Host.reduceAdd e (constant S_ .f32 0x00000000#32) reducesTo_S16x256x256_S16x256_d2 h_S_)))

/-- The first place of each row's largest value. -/
def pick (y : FVec Ideal S16x256x256 .f32) : IVec S16x256 32 := fun j =>
  (Host.argReduce reducer_argmax_f32_i32 y (iotaInDim S16x256x256 32 2) (constant S_ .f32 0xFF800000#32) (constantI S_ 32 0#32) reducesTo_S16x256x256_S16x256_d2 h_S_ j).2

/-- The place numbers of each row. -/
def places : IVec S16x256x256 32 := broadcastInDim S16x256x256 ![0, 1, 2] bcast_S1x1x256_S16x256x256_0_1_2 (iotaInDim S1x1x256 32 2)

/-- A row's number at each of its places. -/
def spread (i : IVec S16x256 32) : IVec S16x256x256 32 :=
  broadcastInDim S16x256x256 ![0, 1, 2] bcast_S16x256x1_S16x256x256_0_1_2 (broadcastInDim S16x256x1 ![0, 1] bcast_S16x256_S16x256x1_0_1 i)

/-- One where two numbers agree, zero elsewhere. -/
def oneHot (i p : IVec S16x256x256 32) : FVec Ideal S16x256x256 .f32 := uitofp .f32 (cmpi .eq i p)

/-- The straight-through choice. -/
def straight (h y : FVec Ideal S16x256x256 .f32) : FVec Ideal S16x256x256 .f32 := subf (addf h y) y

/-- The symmetric adjacency, cut to the unit interval. -/
def adj (a : FVec Ideal S16x256x256 .f32) : FVec Ideal S16x256x256 .f32 :=
  minimumf (scal 0x3F800000#32) (maximumf (scal 0x00000000#32) (addf a (transpose S16x256x256 [0, 2, 1] a transposes_S16x256x256_S16x256x256_0_2_1)))

/-! ## The run's values as stages -/

variable (V : Valuation τ sig (Elt Ideal))

/-- What the run leaves in a buffer. -/
def rd (r : Ref sig .tc) : (Proc.devRef .tc r : DevRef τ sig).ty.Contents (Elt Ideal) := after ops V (Proc.devRef .tc r)

theorem rd_v5 : rd V main_v5 = hid (rd V main_arg0) (rd V main_arg1) (rd V main_arg2) := by
  unfold rd
  rw [line.binary V 7 rfl, line.binary V 4 rfl, line.binary V 1 rfl, line.unary V 0 rfl, line.unary V 3 rfl, line.unary V 2 rfl, line.unary V 6 rfl, line.nullary V 5 rfl]
  rfl

theorem rd_v11 : rd V main_v11 = hid (rd V main_v5) (rd V main_arg3) (rd V main_arg4) := by
  unfold rd
  rw [line.binary V 15 rfl, line.binary V 12 rfl, line.binary V 9 rfl, line.unary V 8 rfl, line.unary V 11 rfl, line.unary V 10 rfl, line.unary V 14 rfl, line.nullary V 13 rfl]
  rfl

theorem rd_v16 : rd V main_v16 = nodes (rd V main_v11) (rd V main_arg5) (rd V main_arg6) := by
  unfold rd
  rw [line.binary V 20 rfl, line.binary V 17 rfl, line.unary V 16 rfl, line.unary V 19 rfl, line.unary V 18 rfl]
  rfl

theorem rd_v20 : rd V main_v20 = heads (rd V main_v16) (rd V main_arg7) := by
  unfold rd
  rw [line.reshape V 24 rfl, line.binary V 23 rfl, line.reshape V 21 rfl, line.unary V 22 rfl]
  rfl

theorem rd_v24 : rd V main_v24 = attv (rd V main_v20) (rd V main_arg8) := by
  unfold rd
  rw [line.binary V 29 rfl, line.binary V 27 rfl, line.unary V 26 rfl, line.unary V 25 rfl, line.nullary V 28 rfl]
  rfl

theorem rd_v28 : rd V main_v28 = attv (rd V main_v20) (rd V main_arg9) := by
  unfold rd
  rw [line.binary V 34 rfl, line.binary V 32 rfl, line.unary V 31 rfl, line.unary V 30 rfl, line.nullary V 33 rfl]
  rfl

theorem rd_v33 : rd V main_v33 = pairs (rd V main_v24) (rd V main_v28) := by
  unfold rd
  rw [line.binary V 39 rfl, line.unary V 37 rfl, line.unary V 38 rfl, line.unary V 35 rfl, line.unary V 36 rfl]
  rfl

theorem rd_v34 : rd V main_v34 = leak (rd V main_v33) := by
  unfold rd
  rw [line.ternary V 47 rfl, line.binary V 43 rfl, line.unary V 42 rfl, line.nullary V 41 rfl, line.binary V 46 rfl, line.unary V 45 rfl, line.unary V 44 rfl, line.nullary V 40 rfl]
  rfl

theorem rd_v42 : rd V main_v42 = masked (rd V main_v34) := by
  unfold rd
  rw [line.ternary V 59 rfl, line.unary V 57 rfl, line.unary V 58 rfl, line.unary V 56 rfl, line.nullary V 55 rfl, line.unary V 54 rfl, line.binary V 53 rfl, line.unary V 51 rfl, line.unary V 52 rfl, line.unary V 49 rfl, line.unary V 50 rfl, line.nullary V 48 rfl]
  rfl

theorem rd_v47 : rd V main_v47 = expo (rd V main_v42) := by
  unfold rd
  rw [line.unary V 65 rfl, line.binary V 64 rfl, line.unary V 63 rfl, line.unary V 62 rfl, line.binary V 61 rfl, line.nullary V 60 rfl]
  rfl

theorem rd_v53 : rd V main_v53 = attn (rd V main_v47) := by
  unfold rd
  rw [line.binary V 73 rfl, line.unary V 72 rfl, line.binary V 71 rfl, line.unary V 68 rfl, line.binary V 67 rfl, line.nullary V 66 rfl, line.unary V 70 rfl, line.nullary V 69 rfl]
  rfl

theorem rd_v59 : rd V main_v59 = gath (rd V main_v20) (rd V main_v53) := by
  unfold rd
  rw [line.binary V 80 rfl, line.binary V 78 rfl, line.unary V 76 rfl, line.unary V 77 rfl, line.unary V 74 rfl, line.unary V 75 rfl, line.nullary V 79 rfl]
  rfl

theorem rd_v63 : rd V main_v63 = biased (rd V main_v59) (rd V main_arg10) := by
  unfold rd
  rw [line.binary V 84 rfl, line.reshape V 81 rfl, line.unary V 83 rfl, line.unary V 82 rfl]
  rfl

theorem rd_low : rd V main_call4_v4 = low (rd V main_v63) := by
  unfold rd
  rw [line.ternary V 94 rfl, line.binary V 90 rfl, line.unary V 89 rfl, line.nullary V 88 rfl, line.unary V 93 rfl, line.unary V 92 rfl, line.nullary V 91 rfl]
  rfl

theorem rd_v64 : rd V main_v64 = unit (rd V main_v63) (rd V main_call4_v4) := by
  unfold rd
  rw [line.ternary V 99 rfl, line.binary V 87 rfl, line.unary V 86 rfl, line.nullary V 85 rfl, line.binary V 98 rfl, line.unary V 97 rfl, line.nullary V 96 rfl, line.unary V 95 rfl]
  simp -implicitDefEqProofs only [TRef.toBuf, TRef.ofBuf, cast_cast, cast_eq]
  rfl

theorem rd_v69 : rd V main_v69 = last (rd V main_v64) (rd V main_arg11) (rd V main_arg12) := by
  unfold rd
  rw [line.binary V 104 rfl, line.binary V 101 rfl, line.unary V 100 rfl, line.unary V 103 rfl, line.unary V 102 rfl]
  rfl

theorem rd_v263 : rd V main_v263 = noise (rd V main_v247) := by
  unfold rd
  rw [line.unary V 361 rfl, line.unary V 360 rfl, line.unary V 359 rfl, line.unary V 358 rfl, line.binary V 357 rfl, line.unary V 356 rfl, line.nullary V 355 rfl, line.binary V 354 rfl, line.unary V 353 rfl, line.nullary V 352 rfl, line.binary V 351 rfl, line.unary V 350 rfl, line.nullary V 349 rfl, line.binary V 348 rfl, line.unary V 347 rfl, line.nullary V 346 rfl, line.unary V 345 rfl, line.unary V 344 rfl, line.binary V 343 rfl, line.unary V 342 rfl, line.nullary V 341 rfl]
  rfl

theorem rd_v266 : rd V main_v266 = tempered (rd V main_v69) (rd V main_v263) := by
  unfold rd
  rw [line.binary V 365 rfl, line.binary V 362 rfl, line.unary V 364 rfl, line.nullary V 363 rfl]
  rfl

theorem rd_v273 : rd V main_v273 = rowExp (rd V main_v266) := by
  unfold rd
  rw [line.unary V 374 rfl, line.binary V 373 rfl, line.unary V 372 rfl, line.unary V 371 rfl, line.binary V 370 rfl, line.unary V 369 rfl, line.nullary V 368 rfl, line.binary V 367 rfl, line.nullary V 366 rfl]
  rfl

theorem rd_v277 : rd V main_v277 = softmax (rd V main_v273) := by
  unfold rd
  rw [line.binary V 379 rfl, line.unary V 378 rfl, line.unary V 377 rfl, line.binary V 376 rfl, line.nullary V 375 rfl]
  rfl

theorem rd_v278 : rd V main_v278 = pick (rd V main_v277) := by
  unfold rd
  rw [line.quaternary V 384 rfl, line.nullary V 380 rfl, line.nullary V 381 rfl, line.nullary V 382 rfl]
  rfl

theorem rd_places : rd V main_call6_v3 = places := by
  unfold rd
  rw [line.unary V 388 rfl, line.nullary V 386 rfl]
  rfl

theorem rd_spread : rd V main_call6_v2 = spread (rd V main_v278) := by
  unfold rd
  rw [line.unary V 387 rfl, line.unary V 385 rfl]
  rfl

theorem rd_v279 : rd V main_v279 = oneHot (rd V main_call6_v2) (rd V main_call6_v3) := by
  unfold rd
  rw [line.unary V 390 rfl, line.binary V 389 rfl]
  simp -implicitDefEqProofs only [TRef.toBuf, TRef.ofBuf, cast_cast, cast_eq]
  rfl

theorem rd_v281 : rd V main_v281 = straight (rd V main_v279) (rd V main_v277) := by
  unfold rd
  rw [line.binary V 392 rfl, line.binary V 391 rfl]
  rfl

theorem rd_v284 : rd V main_v284 = adj (rd V main_v281) := by
  unfold rd
  rw [line.binary V 402 rfl, line.unary V 401 rfl, line.unary V 400 rfl, line.binary V 399 rfl, line.unary V 398 rfl, line.unary V 397 rfl, line.binary V 394 rfl, line.unary V 393 rfl, line.nullary V 395 rfl, line.nullary V 396 rfl]
  rfl

end Cert.ReferenceIdeal.Hand

end
-- ==== Proof.RRead.lean ====
module

public import proofs.«01_k».proof.Proof.RStage
public import proofs.«01_k».proof.Proof.Reads
public import Idealize.ShloMosaic.Lib.ValueLayout

@[expose] public section

set_option maxRecDepth 16384

noncomputable section

/-! The reference's stages at an index, as the mathematics of `Spec`. -/

namespace Cert.ReferenceIdeal.Hand

open Cert.ReferenceIdeal Cert.ReferenceIdeal.Facts₀ Cert.Spec Idealize.ShloMosaic

/-- The row of a graph's node among all. -/
def node (b : Fin 16) (k : Fin 256) : Fin 4096 := ⟨256 * b.val + k.val, by have := b.isLt; have := k.isLt; omega⟩

/-- The lane of a head's channel. -/
def lane (h : Fin 4) (d : Fin 32) : Fin 128 := ⟨32 * h.val + d.val, by have := h.isLt; have := d.isLt; omega⟩

/-- The place of a node's feature in the long row. -/
def feat (k : Fin 256) (t : Fin 128) : Fin 32768 := ⟨128 * k.val + t.val, by have := k.isLt; have := t.isLt; omega⟩

theorem hid_apply (x : FVec Ideal S16x128 .f32) (w : FVec Ideal S128x128 .f32) (b : FVec Ideal S128 .f32) (i : Fin 16) (j : Fin 128) :
    hid x w b (ix2 i j) = relu (fun i k => x (ix2 i k)) (fun j k => w (ix2 j k)) (fun j => b (ix1 j)) i j := by
  refine congrArg₂ max (congrArg₂ (· + ·) ((Reads.dot _ 128 rfl rfl _ _ _ (fun k => ix2 i k) (fun k => ix2 k j) (by intro k a; fin_cases a <;> rfl) (by intro k a; fin_cases a <;> rfl)).trans ?_) ?_) ?_
  · refine Finset.sum_congr rfl fun k _ => congrArg₂ (· * ·) rfl ?_
    exact transpose_apply _ _ _ _ (ix2 j k) (by intro a; fin_cases a <;> rfl)
  · refine (broadcastInDim_apply _ _ _ _ (ix2 0 j) (by intro a; fin_cases a <;> rfl)).trans ?_
    exact broadcastInDim_apply _ _ _ _ (ix1 j) (by intro a; fin_cases a <;> rfl)
  · exact (ValueIdx.broadcastInDim_scalar_apply _ _ _).trans Ideal.ofBits_zero_f32

theorem nodes_apply (h : FVec Ideal S16x128 .f32) (w : FVec Ideal S32768x128 .f32) (b : FVec Ideal S32768 .f32) (i : Fin 16) (j : Fin 32768) :
    nodes h w b (ix2 i j) = lin (fun i k => h (ix2 i k)) (fun j k => w (ix2 j k)) (fun j => b (ix1 j)) i j := by
  refine congrArg₂ (· + ·) ((Reads.dot _ 128 rfl rfl _ _ _ (fun k => ix2 i k) (fun k => ix2 k j) (by intro k a; fin_cases a <;> rfl) (by intro k a; fin_cases a <;> rfl)).trans ?_) ?_
  · refine Finset.sum_congr rfl fun k _ => congrArg₂ (· * ·) rfl ?_
    exact transpose_apply _ _ _ _ (ix2 j k) (by intro a; fin_cases a <;> rfl)
  · refine (broadcastInDim_apply _ _ _ _ (ix2 0 j) (by intro a; fin_cases a <;> rfl)).trans ?_
    exact broadcastInDim_apply _ _ _ _ (ix1 j) (by intro a; fin_cases a <;> rfl)

theorem heads_apply (n : FVec Ideal S16x32768 .f32) (w : FVec Ideal S128x128 .f32) (b : Fin 16) (k : Fin 256) (h : Fin 4) (d : Fin 32) :
    heads n w (ix4 b k h d) = ∑ t : Fin 128, n (ix2 b (feat k t)) * w (ix2 (lane h d) t) := by
  refine (shapeCast_apply _ _ _ (ix2 (node b k) (lane h d)) ?_).trans ?_
  · rw [Shape.rowMajor_val_two, Shape.rowMajor_val_four]
    show (256 * b.val + k.val) * 128 + (32 * h.val + d.val) = ((b.val * 256 + k.val) * 4 + h.val) * 32 + d.val
    omega
  refine ((Reads.dot _ 128 rfl rfl _ _ _ (fun t => ix2 (node b k) t) (fun t => ix2 t (lane h d)) (by intro k a; fin_cases a <;> rfl) (by intro k a; fin_cases a <;> rfl)).trans ?_)
  refine Finset.sum_congr rfl fun t _ => congrArg₂ (· * ·) ?_ ?_
  · refine shapeCast_apply _ _ _ (ix2 b (feat k t)) ?_
    rw [Shape.rowMajor_val_two, Shape.rowMajor_val_two]
    show b.val * 32768 + (128 * k.val + t.val) = (256 * b.val + k.val) * 128 + t.val
    omega
  · exact transpose_apply _ _ _ _ (ix2 (lane h d) t) (by intro a; fin_cases a <;> rfl)

theorem attv_apply (f : FVec Ideal S16x256x4x32 .f32) (a : FVec Ideal S4x32 .f32) (b : Fin 16) (k : Fin 256) (h : Fin 4) :
    attv f a (ix3 b k h) = ∑ d : Fin 32, f (ix4 b k h d) * a (ix2 h d) := by
  refine (Reads.hsum _ _ _ (by decide) _ (fun d => ix4 b k h d) (by intro d a; fin_cases a <;> rfl)).trans ?_
  refine Finset.sum_congr rfl fun d _ => congrArg₂ (· * ·) rfl ?_
  refine (broadcastInDim_apply _ _ _ _ (ix4 0 0 h d) (by intro a; fin_cases a <;> rfl)).trans ?_
  exact broadcastInDim_apply _ _ _ _ (ix2 h d) (by intro a; fin_cases a <;> rfl)

theorem pairs_apply (s d : FVec Ideal S16x256x4 .f32) (b : Fin 16) (i j : Fin 256) (h : Fin 4) :
    pairs s d (ix4 b i j h) = s (ix3 b i h) + d (ix3 b j h) := by
  refine congrArg₂ (· + ·) ?_ ?_
  · refine (broadcastInDim_apply _ _ _ _ (ix4 b i 0 h) (by intro a; fin_cases a <;> rfl)).trans ?_
    exact broadcastInDim_apply _ _ _ _ (ix3 b i h) (by intro a; fin_cases a <;> rfl)
  · refine (broadcastInDim_apply _ _ _ _ (ix4 b 0 j h) (by intro a; fin_cases a <;> rfl)).trans ?_
    exact broadcastInDim_apply _ _ _ _ (ix3 b j h) (by intro a; fin_cases a <;> rfl)

/-- A choice by a comparison's bit is a choice by the comparison. -/
theorem pick_bit {α : Type} (p : Prop) [Decidable p] (a b : α) : Scalar.select (BitVec.ofBool (decide p)) a b = if p then a else b := by
  unfold Scalar.select
  by_cases h : p <;> simp [h]

theorem leak_apply (s : FVec Ideal S16x256x256x4 .f32) (i : S16x256x256x4.Idx) : leak s i = leaky (s i) := by
  have hz : broadcastInDim S16x256x256x4 ![] bcast_S_S16x256x256x4 (constant (F := Ideal) S_ .f32 0x00000000#32) i = (0 : EReal) :=
    (ValueIdx.broadcastInDim_scalar_apply _ _ _).trans Ideal.ofBits_zero_f32
  have hs : broadcastInDim S16x256x256x4 ![] bcast_S_S16x256x256x4 (constant (F := Ideal) S_ .f32 0x3E4CCCCD#32) i = slope :=
    ValueIdx.broadcastInDim_scalar_apply _ _ _
  show Scalar.select (BitVec.ofBool (decide (broadcastInDim S16x256x256x4 ![] bcast_S_S16x256x256x4 (constant (F := Ideal) S_ .f32 0x00000000#32) i ≤ s i))) (s i)
    (broadcastInDim S16x256x256x4 ![] bcast_S_S16x256x256x4 (constant (F := Ideal) S_ .f32 0x3E4CCCCD#32) i * s i) = _
  rw [pick_bit, hz, hs]
  rfl

theorem edges_apply (i j : Fin 256) : edges (ix4 0 i j 0) = BitVec.ofBool (decide (i ≤ j)) := by
  refine (broadcastInDim_apply _ _ _ _ (ix2 i j) (by intro a; fin_cases a <;> rfl)).trans ?_
  have h1 : broadcastInDim S256x256 ![0, 1] bcast_S256x1_S256x256_0_1 (broadcastInDim S256x1 ![0] bcast_S256_S256x1_0 (iotaInDim S256 32 0)) (ix2 i j) = BitVec.ofNat 32 i.val :=
    (broadcastInDim_apply _ _ _ _ (ix2 i 0) (by intro a; fin_cases a <;> rfl)).trans (broadcastInDim_apply _ _ _ _ (ix1 i) (by intro a; fin_cases a <;> rfl))
  have h2 : broadcastInDim S256x256 ![0, 1] bcast_S1x256_S256x256_0_1 (broadcastInDim S1x256 ![1] bcast_S256_S1x256_1 (iotaInDim S256 32 0)) (ix2 i j) = BitVec.ofNat 32 j.val :=
    (broadcastInDim_apply _ _ _ _ (ix2 0 j) (by intro a; fin_cases a <;> rfl)).trans (broadcastInDim_apply _ _ _ _ (ix1 j) (by intro a; fin_cases a <;> rfl))
  show IntOp.cmpi .sle (broadcastInDim S256x256 ![0, 1] bcast_S256x1_S256x256_0_1 (broadcastInDim S256x1 ![0] bcast_S256_S256x1_0 (iotaInDim S256 32 0)) (ix2 i j))
    (broadcastInDim S256x256 ![0, 1] bcast_S1x256_S256x256_0_1 (broadcastInDim S1x256 ![1] bcast_S256_S1x256_1 (iotaInDim S256 32 0)) (ix2 i j)) = _
  rw [h1, h2]
  show BitVec.ofBool (BitVec.sle _ _) = _
  have : (BitVec.ofNat 32 i.val).sle (BitVec.ofNat 32 j.val) = decide (i ≤ j) := by
    rw [Bool.eq_iff_iff, BitVec.sle_iff_toInt_le, decide_eq_true_iff, Reads.small_toInt _ (by have := i.isLt; omega), Reads.small_toInt _ (by have := j.isLt; omega)]
    exact Int.ofNat_le
  rw [this]

theorem masked_apply (s : FVec Ideal S16x256x256x4 .f32) (b : Fin 16) (i j : Fin 256) (h : Fin 4) :
    masked s (ix4 b i j h) = if i ≤ j then s (ix4 b i j h) else ⊥ := by
  have h1 : broadcastInDim S16x256x256x4 ![0, 1, 2, 3] bcast_S1x256x256x1_S16x256x256x4_0_1_2_3 edges (ix4 b i j h) = BitVec.ofBool (decide (i ≤ j)) :=
    (broadcastInDim_apply _ _ _ _ (ix4 0 i j 0) (by intro a; fin_cases a <;> rfl)).trans (edges_apply i j)
  have h2 : broadcastInDim S16x256x256x4 ![] bcast_S_S16x256x256x4 (constant (F := Ideal) S_ .f32 0xFF800000#32) (ix4 b i j h) = (⊥ : EReal) :=
    (ValueIdx.broadcastInDim_scalar_apply _ _ _).trans ofBits_minus_inf
  show Scalar.select (broadcastInDim S16x256x256x4 ![0, 1, 2, 3] bcast_S1x256x256x1_S16x256x256x4_0_1_2_3 edges (ix4 b i j h)) (s (ix4 b i j h))
    (broadcastInDim S16x256x256x4 ![] bcast_S_S16x256x256x4 (constant (F := Ideal) S_ .f32 0xFF800000#32) (ix4 b i j h)) = _
  rw [h1, h2, pick_bit]

theorem expo_apply (s : FVec Ideal S16x256x256x4 .f32) (b : Fin 16) (i j : Fin 256) (h : Fin 4) :
    expo s (ix4 b i j h) = Ideal.exp (s (ix4 b i j h) - Finset.univ.sup fun i' => s (ix4 b i' j h)) := by
  refine congrArg Ideal.exp (congrArg₂ (· - ·) rfl ?_)
  refine (broadcastInDim_apply _ _ _ _ (ix4 b 0 j h) (by intro a; fin_cases a <;> rfl)).trans ?_
  refine (broadcastInDim_apply _ _ _ _ (ix3 b j h) (by intro a; fin_cases a <;> rfl)).trans ?_
  exact Reads.hmax s reducesTo_S16x256x256x4_S16x256x4_d1 h_S_ (by decide) (ix3 b j h) (fun i' => ix4 b i' j h) (by intro d a; fin_cases a <;> rfl)

theorem attn_apply (e : FVec Ideal S16x256x256x4 .f32) (b : Fin 16) (i j : Fin 256) (h : Fin 4) :
    attn e (ix4 b i j h) = Ideal.div (e (ix4 b i j h)) ((∑ i', e (ix4 b i' j h)) + eps) := by
  refine congrArg₂ Ideal.div rfl ?_
  refine (broadcastInDim_apply _ _ _ _ (ix4 b 0 j h) (by intro a; fin_cases a <;> rfl)).trans ?_
  refine congrArg₂ (· + ·) ?_ (ValueIdx.broadcastInDim_scalar_apply _ _ _)
  refine (broadcastInDim_apply _ _ _ _ (ix3 b j h) (by intro a; fin_cases a <;> rfl)).trans ?_
  exact Reads.hsum e reducesTo_S16x256x256x4_S16x256x4_d1 h_S_ (by decide) (ix3 b j h) (fun i' => ix4 b i' j h) (by intro d a; fin_cases a <;> rfl)

theorem gath_apply (f : FVec Ideal S16x256x4x32 .f32) (a : FVec Ideal S16x256x256x4 .f32) (b : Fin 16) (j : Fin 256) (h : Fin 4) (d : Fin 32) :
    gath f a (ix4 b j h d) = ∑ i : Fin 256, f (ix4 b i h d) * a (ix4 b i j h) := by
  refine (Reads.hsum _ _ _ (by decide) _ (fun i => ix5 b i j h d) (by intro d a; fin_cases a <;> rfl)).trans ?_
  refine Finset.sum_congr rfl fun i _ => congrArg₂ (· * ·) ?_ ?_
  · refine (broadcastInDim_apply _ _ _ _ (ix5 b i 0 h d) (by intro a; fin_cases a <;> rfl)).trans ?_
    exact broadcastInDim_apply _ _ _ _ (ix4 b i h d) (by intro a; fin_cases a <;> rfl)
  · refine (broadcastInDim_apply _ _ _ _ (ix5 b i j h 0) (by intro a; fin_cases a <;> rfl)).trans ?_
    exact broadcastInDim_apply _ _ _ _ (ix4 b i j h) (by intro a; fin_cases a <;> rfl)

theorem biased_apply (m : FVec Ideal S16x256x4x32 .f32) (v : FVec Ideal S128 .f32) (b : Fin 16) (j : Fin 256) (h : Fin 4) (d : Fin 32) :
    biased m v (ix3 b j (lane h d)) = m (ix4 b j h d) + v (ix1 (lane h d)) := by
  refine congrArg₂ (· + ·) (shapeCast_apply _ _ _ (ix4 b j h d) ?_) ?_
  · rw [Shape.rowMajor_val_three, Shape.rowMajor_val_four]
    show ((b.val * 256 + j.val) * 4 + h.val) * 32 + d.val = (b.val * 256 + j.val) * 128 + (32 * h.val + d.val)
    omega
  · refine (broadcastInDim_apply _ _ _ _ (ix3 0 0 (lane h d)) (by intro a; fin_cases a <;> rfl)).trans ?_
    exact broadcastInDim_apply _ _ _ _ (ix1 (lane h d)) (by intro a; fin_cases a <;> rfl)

theorem unit_apply (o : FVec Ideal S16x256x128 .f32) (i : S16x256x128.Idx) : unit o (low o) i = eluR (o i) := by
  have hz : broadcastInDim S16x256x128 ![] bcast_S_S16x256x128 (constant (F := Ideal) S_ .f32 0x00000000#32) i = (0 : EReal) :=
    (ValueIdx.broadcastInDim_scalar_apply _ _ _).trans Ideal.ofBits_zero_f32
  have hs : broadcastInDim S16x256x128 ![] bcast_S_S16x256x128 (constant (F := Ideal) S_ .f32 0x3F800000#32) i = (1 : EReal) :=
    (ValueIdx.broadcastInDim_scalar_apply _ _ _).trans Ideal.ofBits_one_f32
  have hl : low o i = if 0 < o i then 0 else o i := by
    show Scalar.select (BitVec.ofBool (decide (broadcastInDim S16x256x128 ![] bcast_S_S16x256x128 (constant (F := Ideal) S_ .f32 0x00000000#32) i < o i)))
      (broadcastInDim S16x256x128 ![] bcast_S_S16x256x128 (constant (F := Ideal) S_ .f32 0x00000000#32) i) (o i) = _
    rw [pick_bit, hz]
  show Scalar.select (BitVec.ofBool (decide (broadcastInDim S16x256x128 ![] bcast_S_S16x256x128 (constant (F := Ideal) S_ .f32 0x00000000#32) i < o i))) (o i)
    (broadcastInDim S16x256x128 ![] bcast_S_S16x256x128 (constant (F := Ideal) S_ .f32 0x3F800000#32) i * (Ideal.exp (low o i) - 1)) = _
  rw [pick_bit, hz, hs, hl]
  rfl

theorem last_apply (e : FVec Ideal S16x256x128 .f32) (w : FVec Ideal S256x128 .f32) (v : FVec Ideal S256 .f32) (b : Fin 16) (i j : Fin 256) :
    last e w v (ix3 b i j) = lin (fun i c => e (ix3 b i c)) (fun j c => w (ix2 j c)) (fun j => v (ix1 j)) i j := by
  refine congrArg₂ (· + ·) ((Reads.dot _ 128 rfl rfl _ _ _ (fun k => ix3 b i k) (fun k => ix2 k j) (by intro k a; fin_cases a <;> rfl) (by intro k a; fin_cases a <;> rfl)).trans ?_) ?_
  · refine Finset.sum_congr rfl fun k _ => congrArg₂ (· * ·) rfl ?_
    exact transpose_apply _ _ _ _ (ix2 j k) (by intro a; fin_cases a <;> rfl)
  · refine (broadcastInDim_apply _ _ _ _ (ix3 0 0 j) (by intro a; fin_cases a <;> rfl)).trans ?_
    exact broadcastInDim_apply _ _ _ _ (ix1 j) (by intro a; fin_cases a <;> rfl)

theorem tempered_apply (l g : FVec Ideal S16x256x256 .f32) (i : S16x256x256.Idx) : tempered l g i = Ideal.div (l i + g i) 1 :=
  congrArg₂ Ideal.div rfl ((ValueIdx.broadcastInDim_scalar_apply _ _ _).trans Ideal.ofBits_one_f32)

theorem rowExp_apply (z : FVec Ideal S16x256x256 .f32) (b : Fin 16) (i j : Fin 256) :
    rowExp z (ix3 b i j) = Ideal.exp (z (ix3 b i j) - Finset.univ.sup fun k => z (ix3 b i k)) := by
  refine congrArg Ideal.exp (congrArg₂ (· - ·) rfl ?_)
  refine (broadcastInDim_apply _ _ _ _ (ix3 b i 0) (by intro a; fin_cases a <;> rfl)).trans ?_
  refine (broadcastInDim_apply _ _ _ _ (ix2 b i) (by intro a; fin_cases a <;> rfl)).trans ?_
  have h1 : broadcastInDim S16x256 ![] bcast_S_S16x256 (constant (F := Ideal) S_ .f32 0xFF800000#32) (ix2 b i) = (⊥ : EReal) :=
    (ValueIdx.broadcastInDim_scalar_apply _ _ _).trans ofBits_minus_inf
  refine (congrArg₂ max h1 (Reads.hmax z reducesTo_S16x256x256_S16x256_d2 h_S_ (by decide) (ix2 b i) (fun k => ix3 b i k) (by intro d a; fin_cases a <;> rfl))).trans ?_
  exact max_eq_right bot_le

theorem softmax_apply (e : FVec Ideal S16x256x256 .f32) (b : Fin 16) (i j : Fin 256) :
    softmax e (ix3 b i j) = Ideal.div (e (ix3 b i j)) (∑ k, e (ix3 b i k)) := by
  refine congrArg₂ Ideal.div rfl ?_
  refine (broadcastInDim_apply _ _ _ _ (ix3 b i 0) (by intro a; fin_cases a <;> rfl)).trans ?_
  refine (broadcastInDim_apply _ _ _ _ (ix2 b i) (by intro a; fin_cases a <;> rfl)).trans ?_
  exact Reads.hsum e reducesTo_S16x256x256_S16x256_d2 h_S_ (by decide) (ix2 b i) (fun k => ix3 b i k) (by intro d a; fin_cases a <;> rfl)

theorem pick_apply (y : FVec Ideal S16x256x256 .f32) (b : Fin 16) (i : Fin 256) (hy : ∀ k, IsR (y (ix3 b i k))) :
    ∃ k : Fin 256, pick y (ix2 b i) = BitVec.ofNat 32 k.val ∧ First (fun k => y (ix3 b i k)) k := by
  unfold pick
  rw [Ideal.argReduce_eq_reduce2, Host.reduce2_eq_foldl_fiber]
  have e0 : (constant (F := Ideal) S_ .f32 0xFF800000#32 (Shape.Idx.first h_S_) : EReal) = ⊥ := ofBits_minus_inf
  rw [e0]
  refine Reads.best_first (by norm_num) _ ?_ ?_ ?_ (fun k => y (ix3 b i k)) hy 0 _ ?_ _
  · rintro ⟨a, m⟩ ⟨c, n⟩ h
    have h : c < a := h
    have h' : ¬ a = c := ne_of_gt h
    simp only [reducer_argmax_f32_i32, Ideal.cmpf_def, Ideal.cmp]
    simp [h, h', IntOp.ori, IntOp.andi, Scalar.select]
  · rintro ⟨a, m⟩ ⟨c, n⟩ h
    have h0 : a < c := h
    have h : ¬ c < a := not_lt.2 (le_of_lt h)
    have h' : ¬ a = c := ne_of_lt h0
    simp only [reducer_argmax_f32_i32, Ideal.cmpf_def, Ideal.cmp]
    simp [h, h', IntOp.ori, IntOp.andi, Scalar.select]
  · rintro ⟨a, m⟩ ⟨c, n⟩ h
    have h : a = c := h
    subst h
    simp only [reducer_argmax_f32_i32, Ideal.cmpf_def, Ideal.cmp]
    by_cases hl : m.toInt < n.toInt
    · have : m.slt n = true := BitVec.slt_iff_toInt_lt.2 hl
      simp [hl, this, IntOp.ori, IntOp.andi, IntOp.cmpi, Scalar.select]
    · have : m.slt n = false := by rw [← Bool.not_eq_true, BitVec.slt_iff_toInt_lt]; exact hl
      simp [hl, this, IntOp.ori, IntOp.andi, IntOp.cmpi, Scalar.select]
  · intro p
    unfold Host.argReduceFiber
    simp only [List.mem_map, List.mem_filter, List.mem_finRange, true_and, decide_eq_true_eq]
    constructor
    · rintro ⟨n, hn, rfl⟩
      obtain ⟨i', hi'⟩ : ∃ i', S16x256x256.rowMajor.symm n = i' := ⟨_, rfl⟩
      rw [hi'] at hn ⊢
      refine ⟨i' 2, ?_⟩
      have : i' = ix3 b i (i' 2) := by
        funext a
        fin_cases a
        · exact congrFun hn 0
        · exact congrFun hn 1
        · rfl
      rw [this]; rfl
    · rintro ⟨k, rfl⟩
      refine ⟨S16x256x256.rowMajor (ix3 b i k), ?_, ?_⟩
      · rw [Equiv.symm_apply_apply]; funext a; fin_cases a <;> rfl
      · rw [Equiv.symm_apply_apply]; rfl

theorem oneHot_apply (y : FVec Ideal S16x256x256 .f32) (b : Fin 16) (i j : Fin 256) (hy : ∀ k, IsR (y (ix3 b i k))) :
    oneHot (spread (pick y)) places (ix3 b i j) = hard (fun k => y (ix3 b i k)) j := by
  obtain ⟨k, hk, hf⟩ := pick_apply y b i hy
  rw [Reads.hard_of_first _ k hf j]
  have h1 : spread (pick y) (ix3 b i j) = BitVec.ofNat 32 k.val :=
    ((broadcastInDim_apply _ _ _ _ (ix3 b i 0) (by intro a; fin_cases a <;> rfl)).trans (broadcastInDim_apply _ _ _ _ (ix2 b i) (by intro a; fin_cases a <;> rfl))).trans hk
  have h2 : places (ix3 b i j) = BitVec.ofNat 32 j.val := broadcastInDim_apply _ _ _ _ (ix3 0 0 j) (by intro a; fin_cases a <;> rfl)
  show FloatOps.uitofp (F := Ideal) .f32 (IntOp.cmpi .eq (spread (pick y) (ix3 b i j)) (places (ix3 b i j))) = _
  rw [h1, h2]
  by_cases h : j = k
  · rw [if_pos h, h]
    show (((BitVec.ofBool (BitVec.ofNat 32 k.val == BitVec.ofNat 32 k.val)).toNat : ℝ) : EReal) = 1
    simp
  · rw [if_neg h]
    have hne : (BitVec.ofNat 32 k.val == BitVec.ofNat 32 j.val) = false := by
      rw [beq_eq_false_iff_ne]
      intro he
      have := congrArg BitVec.toInt he
      rw [Reads.small_toInt _ (by have := k.isLt; omega), Reads.small_toInt _ (by have := j.isLt; omega)] at this
      exact h (Fin.ext (by omega))
    show (((BitVec.ofBool (BitVec.ofNat 32 k.val == BitVec.ofNat 32 j.val)).toNat : ℝ) : EReal) = 0
    rw [hne]; simp

theorem adj_apply (a : FVec Ideal S16x256x256 .f32) (b : Fin 16) (i j : Fin 256) :
    adj a (ix3 b i j) = min 1 (max 0 (a (ix3 b i j) + a (ix3 b j i))) := by
  refine congrArg₂ min ((ValueIdx.broadcastInDim_scalar_apply _ _ _).trans Ideal.ofBits_one_f32)
    (congrArg₂ max ((ValueIdx.broadcastInDim_scalar_apply _ _ _).trans Ideal.ofBits_zero_f32) (congrArg₂ (· + ·) rfl ?_))
  exact transpose_apply _ _ _ _ (ix3 b j i) (by intro a; fin_cases a <;> rfl)

end Cert.ReferenceIdeal.Hand

end
-- ==== Proof.RNoise.lean ====
module

public import proofs.«01_k».proof.Proof.RStage
public import proofs.«01_k».proof.Proof.Noise

@[expose] public section

set_option maxRecDepth 16384

noncomputable section

/-! The random words of the reference's run. -/

namespace Cert.ReferenceIdeal.Hand

open Cert.ReferenceIdeal Cert.ReferenceIdeal.Facts₀ Cert.Ssa Cert.Noise Idealize.ShloMosaic Idealize.ShloMosaic.TcCoe Idealize.ShloMosaic.StableHlo

set_option maxHeartbeats 8000000 in
theorem word_apply (V : Valuation τ sig (Elt Ideal)) (b : Fin 16) (i j : Fin 256) :
    (rd V main_v247 : IVec S16x256x256 32) (ix3 b i j) = word (BitVec.ofNat 32 (65536 * b.val + 256 * i.val + j.val)) := by
  have x0 : (rd V main_v72 : IVec S16x256x256 32) (ix3 b i j) = IntOp.addi 0#32 0#32 := by
    unfold rd
    rw [line.binary V 109 rfl, line.unary V 106 rfl, line.nullary V 105 rfl, line.unary V 108 rfl, line.nullary V 107 rfl]
    rfl
  have x1 : (rd V main_v76 : IVec S16x256x256 32) (ix3 b i j) = IntOp.addi (BitVec.ofNat 32 (65536 * b.val + 256 * i.val + j.val)) 42#32 := by
    unfold rd
    rw [line.binary V 114 rfl, line.reshape V 111 rfl, line.nullary V 110 rfl, line.unary V 113 rfl, line.nullary V 112 rfl]
    refine congrArg₂ IntOp.addi ((shapeCast_apply _ _ _ (ix1 (⟨65536 * b.val + 256 * i.val + j.val, by have := b.isLt; have := i.isLt; have := j.isLt; omega⟩ : Fin 1048576)) ?_).trans rfl) rfl
    refine (Shape.rowMajor_val_one _).trans (Eq.trans ?_ (Shape.rowMajor_val_three (ix3 b i j)).symm)
    show 65536 * b.val + 256 * i.val + j.val = (b.val * 256 + i.val) * 256 + j.val
    omega
  have p := congrArg₂ Prod.mk x0 x1
  have p := round_of (h := bcast_S_S16x256x256) (ix3 b i j) p (line.binary V 115 rfl) (line.nullary V 116 rfl) (line.unary V 117 rfl) (line.binary V 118 rfl) (line.nullary V 119 rfl) (line.unary V 120 rfl) (line.binary V 121 rfl) (line.binary V 122 rfl) (.inl (line.binary V 123 rfl))
  have p := round_of (h := bcast_S_S16x256x256) (ix3 b i j) p (line.binary V 124 rfl) (line.nullary V 125 rfl) (line.unary V 126 rfl) (line.binary V 127 rfl) (line.nullary V 128 rfl) (line.unary V 129 rfl) (line.binary V 130 rfl) (line.binary V 131 rfl) (.inl (line.binary V 132 rfl))
  have p := round_of (h := bcast_S_S16x256x256) (ix3 b i j) p (line.binary V 133 rfl) (line.nullary V 134 rfl) (line.unary V 135 rfl) (line.binary V 136 rfl) (line.nullary V 137 rfl) (line.unary V 138 rfl) (line.binary V 139 rfl) (line.binary V 140 rfl) (.inl (line.binary V 141 rfl))
  have p := round_of (h := bcast_S_S16x256x256) (ix3 b i j) p (line.binary V 142 rfl) (line.nullary V 143 rfl) (line.unary V 144 rfl) (line.binary V 145 rfl) (line.nullary V 146 rfl) (line.unary V 147 rfl) (line.binary V 148 rfl) (line.binary V 149 rfl) (.inl (line.binary V 150 rfl))
  have p := inj_of (h := bcast_S_S16x256x256) (ix3 b i j) p (line.nullary V 151 rfl) (line.unary V 152 rfl) (line.binary V 153 rfl) (line.nullary V 154 rfl) (line.unary V 155 rfl) (line.binary V 156 rfl) (line.nullary V 157 rfl) (line.unary V 158 rfl) (line.binary V 159 rfl)
  have p := round_of (h := bcast_S_S16x256x256) (ix3 b i j) p (line.binary V 160 rfl) (line.nullary V 161 rfl) (line.unary V 162 rfl) (line.binary V 163 rfl) (line.nullary V 164 rfl) (line.unary V 165 rfl) (line.binary V 166 rfl) (line.binary V 167 rfl) (.inl (line.binary V 168 rfl))
  have p := round_of (h := bcast_S_S16x256x256) (ix3 b i j) p (line.binary V 169 rfl) (line.nullary V 170 rfl) (line.unary V 171 rfl) (line.binary V 172 rfl) (line.nullary V 173 rfl) (line.unary V 174 rfl) (line.binary V 175 rfl) (line.binary V 176 rfl) (.inl (line.binary V 177 rfl))
  have p := round_of (h := bcast_S_S16x256x256) (ix3 b i j) p (line.binary V 178 rfl) (line.nullary V 179 rfl) (line.unary V 180 rfl) (line.binary V 181 rfl) (line.nullary V 182 rfl) (line.unary V 183 rfl) (line.binary V 184 rfl) (line.binary V 185 rfl) (.inl (line.binary V 186 rfl))
  have p := round_of (h := bcast_S_S16x256x256) (ix3 b i j) p (line.binary V 187 rfl) (line.nullary V 188 rfl) (line.unary V 189 rfl) (line.binary V 190 rfl) (line.nullary V 191 rfl) (line.unary V 192 rfl) (line.binary V 193 rfl) (line.binary V 194 rfl) (.inl (line.binary V 195 rfl))
  have p := inj_of (h := bcast_S_S16x256x256) (ix3 b i j) p (line.nullary V 196 rfl) (line.unary V 197 rfl) (line.binary V 198 rfl) (line.nullary V 199 rfl) (line.unary V 200 rfl) (line.binary V 201 rfl) (line.nullary V 202 rfl) (line.unary V 203 rfl) (line.binary V 204 rfl)
  have p := round_of (h := bcast_S_S16x256x256) (ix3 b i j) p (line.binary V 205 rfl) (line.nullary V 206 rfl) (line.unary V 207 rfl) (line.binary V 208 rfl) (line.nullary V 209 rfl) (line.unary V 210 rfl) (line.binary V 211 rfl) (line.binary V 212 rfl) (.inl (line.binary V 213 rfl))
  have p := round_of (h := bcast_S_S16x256x256) (ix3 b i j) p (line.binary V 214 rfl) (line.nullary V 215 rfl) (line.unary V 216 rfl) (line.binary V 217 rfl) (line.nullary V 218 rfl) (line.unary V 219 rfl) (line.binary V 220 rfl) (line.binary V 221 rfl) (.inl (line.binary V 222 rfl))
  have p := round_of (h := bcast_S_S16x256x256) (ix3 b i j) p (line.binary V 223 rfl) (line.nullary V 224 rfl) (line.unary V 225 rfl) (line.binary V 226 rfl) (line.nullary V 227 rfl) (line.unary V 228 rfl) (line.binary V 229 rfl) (line.binary V 230 rfl) (.inl (line.binary V 231 rfl))
  have p := round_of (h := bcast_S_S16x256x256) (ix3 b i j) p (line.binary V 232 rfl) (line.nullary V 233 rfl) (line.unary V 234 rfl) (line.binary V 235 rfl) (line.nullary V 236 rfl) (line.unary V 237 rfl) (line.binary V 238 rfl) (line.binary V 239 rfl) (.inl (line.binary V 240 rfl))
  have p := inj_of (h := bcast_S_S16x256x256) (ix3 b i j) p (line.nullary V 241 rfl) (line.unary V 242 rfl) (line.binary V 243 rfl) (line.nullary V 244 rfl) (line.unary V 245 rfl) (line.binary V 246 rfl) (line.nullary V 247 rfl) (line.unary V 248 rfl) (line.binary V 249 rfl)
  have p := round_of (h := bcast_S_S16x256x256) (ix3 b i j) p (line.binary V 250 rfl) (line.nullary V 251 rfl) (line.unary V 252 rfl) (line.binary V 253 rfl) (line.nullary V 254 rfl) (line.unary V 255 rfl) (line.binary V 256 rfl) (line.binary V 257 rfl) (.inl (line.binary V 258 rfl))
  have p := round_of (h := bcast_S_S16x256x256) (ix3 b i j) p (line.binary V 259 rfl) (line.nullary V 260 rfl) (line.unary V 261 rfl) (line.binary V 262 rfl) (line.nullary V 263 rfl) (line.unary V 264 rfl) (line.binary V 265 rfl) (line.binary V 266 rfl) (.inl (line.binary V 267 rfl))
  have p := round_of (h := bcast_S_S16x256x256) (ix3 b i j) p (line.binary V 268 rfl) (line.nullary V 269 rfl) (line.unary V 270 rfl) (line.binary V 271 rfl) (line.nullary V 272 rfl) (line.unary V 273 rfl) (line.binary V 274 rfl) (line.binary V 275 rfl) (.inl (line.binary V 276 rfl))
  have p := round_of (h := bcast_S_S16x256x256) (ix3 b i j) p (line.binary V 277 rfl) (line.nullary V 278 rfl) (line.unary V 279 rfl) (line.binary V 280 rfl) (line.nullary V 281 rfl) (line.unary V 282 rfl) (line.binary V 283 rfl) (line.binary V 284 rfl) (.inl (line.binary V 285 rfl))
  have p := inj_of (h := bcast_S_S16x256x256) (ix3 b i j) p (line.nullary V 286 rfl) (line.unary V 287 rfl) (line.binary V 288 rfl) (line.nullary V 289 rfl) (line.unary V 290 rfl) (line.binary V 291 rfl) (line.nullary V 292 rfl) (line.unary V 293 rfl) (line.binary V 294 rfl)
  have p := round_of (h := bcast_S_S16x256x256) (ix3 b i j) p (line.binary V 295 rfl) (line.nullary V 296 rfl) (line.unary V 297 rfl) (line.binary V 298 rfl) (line.nullary V 299 rfl) (line.unary V 300 rfl) (line.binary V 301 rfl) (line.binary V 302 rfl) (.inl (line.binary V 303 rfl))
  have p := round_of (h := bcast_S_S16x256x256) (ix3 b i j) p (line.binary V 304 rfl) (line.nullary V 305 rfl) (line.unary V 306 rfl) (line.binary V 307 rfl) (line.nullary V 308 rfl) (line.unary V 309 rfl) (line.binary V 310 rfl) (line.binary V 311 rfl) (.inl (line.binary V 312 rfl))
  have p := round_of (h := bcast_S_S16x256x256) (ix3 b i j) p (line.binary V 313 rfl) (line.nullary V 314 rfl) (line.unary V 315 rfl) (line.binary V 316 rfl) (line.nullary V 317 rfl) (line.unary V 318 rfl) (line.binary V 319 rfl) (line.binary V 320 rfl) (.inl (line.binary V 321 rfl))
  have p := round_of (h := bcast_S_S16x256x256) (ix3 b i j) p (line.binary V 322 rfl) (line.nullary V 323 rfl) (line.unary V 324 rfl) (line.binary V 325 rfl) (line.nullary V 326 rfl) (line.unary V 327 rfl) (line.binary V 328 rfl) (line.binary V 329 rfl) (.inl (line.binary V 330 rfl))
  have p := inj_of (h := bcast_S_S16x256x256) (ix3 b i j) p (line.nullary V 331 rfl) (line.unary V 332 rfl) (line.binary V 333 rfl) (line.nullary V 334 rfl) (line.unary V 335 rfl) (line.binary V 336 rfl) (line.nullary V 337 rfl) (line.unary V 338 rfl) (line.binary V 339 rfl)
  exact Noise.word_of _ (congrFun (line.binary V 340 rfl) (ix3 b i j)) p

end Cert.ReferenceIdeal.Hand

end
-- ==== Proof.RFinal.lean ====
module

public import proofs.«01_k».proof.Proof.RStage
public import proofs.«01_k».proof.Proof.RRead
public import proofs.«01_k».proof.Proof.RNoise
public import proofs.«01_k».proof.Proof.Whole

@[expose] public section

set_option maxRecDepth 100000

noncomputable section

/-! What the reference leaves in its result, entry by entry. -/

namespace Cert.ReferenceIdeal.Hand

open Cert.ReferenceIdeal Cert.ReferenceIdeal.Facts₀ Cert.Ssa Cert.Spec Idealize.ShloMosaic Idealize.ShloMosaic.TcCoe Idealize.ShloMosaic.StableHlo

variable (V : Valuation τ sig (Elt Ideal))

/-- The network's numbers, out of the launch contents. -/
def argsOf : Args where
  x i j := (V (Proc.devRef .tc main_arg0) : FVec Ideal S16x128 .f32) (ix2 i j)
  w0 i j := (V (Proc.devRef .tc main_arg1) : FVec Ideal S128x128 .f32) (ix2 i j)
  b0 i := (V (Proc.devRef .tc main_arg2) : FVec Ideal S128 .f32) (ix1 i)
  w1 i j := (V (Proc.devRef .tc main_arg3) : FVec Ideal S128x128 .f32) (ix2 i j)
  b1 i := (V (Proc.devRef .tc main_arg4) : FVec Ideal S128 .f32) (ix1 i)
  w2 i j := (V (Proc.devRef .tc main_arg5) : FVec Ideal S32768x128 .f32) (ix2 i j)
  b2 i := (V (Proc.devRef .tc main_arg6) : FVec Ideal S32768 .f32) (ix1 i)
  gw i j := (V (Proc.devRef .tc main_arg7) : FVec Ideal S128x128 .f32) (ix2 i j)
  s h d := (V (Proc.devRef .tc main_arg8) : FVec Ideal S4x32 .f32) (ix2 h d)
  d h d := (V (Proc.devRef .tc main_arg9) : FVec Ideal S4x32 .f32) (ix2 h d)
  gb i := (V (Proc.devRef .tc main_arg10) : FVec Ideal S128 .f32) (ix1 i)
  wl i j := (V (Proc.devRef .tc main_arg11) : FVec Ideal S256x128 .f32) (ix2 i j)
  bl i := (V (Proc.devRef .tc main_arg12) : FVec Ideal S256 .f32) (ix1 i)

/-- An argument is what it was at launch. -/
theorem rd_arg {b : Ref sig .tc} (h : Lt 13 b) : rd V b = V (Proc.devRef .tc b) := arg_kept V h

/-- The first layer. -/
theorem v5_at (i : Fin 16) (j : Fin 128) : (rd V main_v5 : FVec Ideal S16x128 .f32) (ix2 i j) = relu (argsOf V).x (argsOf V).w0 (argsOf V).b0 i j := by
  rw [rd_v5 V, rd_arg V (b := main_arg0) ⟨rfl, by decide⟩, rd_arg V (b := main_arg1) ⟨rfl, by decide⟩, rd_arg V (b := main_arg2) ⟨rfl, by decide⟩]
  exact hid_apply _ _ _ i j

/-- The second layer. -/
theorem v11_at (i : Fin 16) (j : Fin 128) : (rd V main_v11 : FVec Ideal S16x128 .f32) (ix2 i j)
    = relu (relu (argsOf V).x (argsOf V).w0 (argsOf V).b0) (argsOf V).w1 (argsOf V).b1 i j := by
  rw [rd_v11 V, rd_arg V (b := main_arg3) ⟨rfl, by decide⟩, rd_arg V (b := main_arg4) ⟨rfl, by decide⟩]
  exact (hid_apply _ _ _ i j).trans (congrArg (fun f => relu f _ _ i j) (funext₂ (v5_at V)))

/-- The third layer. -/
theorem v16_at (i : Fin 16) (j : Fin 32768) : (rd V main_v16 : FVec Ideal S16x32768 .f32) (ix2 i j)
    = lin (relu (relu (argsOf V).x (argsOf V).w0 (argsOf V).b0) (argsOf V).w1 (argsOf V).b1) (argsOf V).w2 (argsOf V).b2 i j := by
  rw [rd_v16 V, rd_arg V (b := main_arg5) ⟨rfl, by decide⟩, rd_arg V (b := main_arg6) ⟨rfl, by decide⟩]
  exact (nodes_apply _ _ _ i j).trans (congrArg (fun f => lin f _ _ i j) (funext₂ (v11_at V)))

/-- The nodes' features. -/
theorem v20_at (b : Fin 16) (k : Fin 256) (h : Fin 4) (d : Fin 32) : (rd V main_v20 : FVec Ideal S16x256x4x32 .f32) (ix4 b k h d)
    = feature (argsOf V) b k (laneOf h d) := by
  rw [rd_v20 V, rd_arg V (b := main_arg7) ⟨rfl, by decide⟩]
  exact (heads_apply _ _ b k h d).trans (Finset.sum_congr rfl fun t _ => congrArg (· * _) (v16_at V b (featOf k t)))

/-- The source scores. -/
theorem v24_at (b : Fin 16) (k : Fin 256) (h : Fin 4) : (rd V main_v24 : FVec Ideal S16x256x4 .f32) (ix3 b k h)
    = scoreOf (feature (argsOf V) b) (argsOf V).s h k := by
  rw [rd_v24 V, rd_arg V (b := main_arg8) ⟨rfl, by decide⟩]
  exact (attv_apply _ _ b k h).trans (Finset.sum_congr rfl fun d _ => congrArg (· * _) (v20_at V b k h d))

/-- The target scores. -/
theorem v28_at (b : Fin 16) (k : Fin 256) (h : Fin 4) : (rd V main_v28 : FVec Ideal S16x256x4 .f32) (ix3 b k h)
    = scoreOf (feature (argsOf V) b) (argsOf V).d h k := by
  rw [rd_v28 V, rd_arg V (b := main_arg9) ⟨rfl, by decide⟩]
  exact (attv_apply _ _ b k h).trans (Finset.sum_congr rfl fun d _ => congrArg (· * _) (v20_at V b k h d))

/-- The masked scores of the edges. -/
theorem v42_at (b : Fin 16) (i j : Fin 256) (h : Fin 4) : (rd V main_v42 : FVec Ideal S16x256x256x4 .f32) (ix4 b i j h)
    = score (scoreOf (feature (argsOf V) b) (argsOf V).s h) (scoreOf (feature (argsOf V) b) (argsOf V).d h) i j := by
  rw [rd_v42 V, rd_v34 V, rd_v33 V]
  refine (masked_apply _ b i j h).trans ?_
  unfold score
  rw [leak_apply, pairs_apply, v24_at, v28_at]

/-- The weights of the edges. -/
theorem v47_at (b : Fin 16) (i j : Fin 256) (h : Fin 4) : (rd V main_v47 : FVec Ideal S16x256x256x4 .f32) (ix4 b i j h)
    = wt (scoreOf (feature (argsOf V) b) (argsOf V).s h) (scoreOf (feature (argsOf V) b) (argsOf V).d h) i j := by
  rw [rd_v47 V]
  exact (expo_apply _ b i j h).trans (congrArg Ideal.exp (congrArg₂ (· - ·) (v42_at V b i j h)
    (congrArg (Finset.sup Finset.univ) (funext fun i' => v42_at V b i' j h))))

/-- The attention's mean, at a head's channel. -/
theorem v59_at (b : Fin 16) (j : Fin 256) (h : Fin 4) (d : Fin 32) : (rd V main_v59 : FVec Ideal S16x256x4x32 .f32) (ix4 b j h d)
    = aggR (fun i => feature (argsOf V) b i (laneOf h d)) (scoreOf (feature (argsOf V) b) (argsOf V).s h) (scoreOf (feature (argsOf V) b) (argsOf V).d h) j := by
  rw [rd_v59 V, rd_v53 V]
  refine (gath_apply _ _ b j h d).trans (Finset.sum_congr rfl fun i _ => congrArg₂ (· * ·) (v20_at V b i h d) ((attn_apply _ b i j h).trans ?_))
  exact congrArg₂ Ideal.div (v47_at V b i j h) (congrArg (· + eps) (Finset.sum_congr rfl fun i' _ => v47_at V b i' j h))

/-- The attention's mean with its bias, at a lane. -/
theorem v63_at (b : Fin 16) (j : Fin 256) (k : Fin 128) : (rd V main_v63 : FVec Ideal S16x256x128 .f32) (ix3 b j k)
    = mix (feature (argsOf V) b) (argsOf V).s (argsOf V).d j k + (argsOf V).gb k := by
  rw [rd_v63 V, rd_arg V (b := main_arg10) ⟨rfl, by decide⟩]
  have h := biased_apply (rd V main_v59) (V (Proc.devRef .tc main_arg10)) b j (headOf k) (chanOf k)
  rw [v59_at] at h
  change _ = aggR (fun i => feature (argsOf V) b i (laneOf (headOf k) (chanOf k))) _ _ j + (argsOf V).gb (laneOf (headOf k) (chanOf k)) at h
  change biased _ _ (ix3 b j (laneOf (headOf k) (chanOf k))) = _ at h
  rw [lane_eta] at h
  exact h

/-- The exponential linear unit of it. -/
theorem v64_at (b : Fin 16) (j : Fin 256) (k : Fin 128) : (rd V main_v64 : FVec Ideal S16x256x128 .f32) (ix3 b j k)
    = elu (mix (feature (argsOf V) b) (argsOf V).s (argsOf V).d j k + (argsOf V).gb k) := by
  rw [rd_v64 V, rd_low V]
  exact (unit_apply _ _).trans ((eluR_eq _).trans (congrArg elu (v63_at V b j k)))

/-- The noise of a word. -/
theorem noise_apply (r : IVec S16x256x256 32) (i : S16x256x256.Idx) : noise r i = Noise.gum (r i) := by
  have h1 : ∀ w, (scal w : FVec Ideal S16x256x256 .f32) i = Ideal.ofBits .f32 w := fun w => ValueIdx.broadcastInDim_scalar_apply _ _ _
  have h2 : ∀ q, (scali q : IVec S16x256x256 32) i = q := fun q => ValueIdx.broadcastInDim_scalar_apply _ _ _
  show -Ideal.log (-Ideal.log (max ((scal 0x00800000#32 : FVec Ideal S16x256x256 .f32) i) (FloatOps.sitofp (F := Ideal) .f32 (IntOp.shrui .host (r i) ((scali 9#32 : IVec S16x256x256 32) i))
    * (scal 0x34000000#32 : FVec Ideal S16x256x256 .f32) i * (scal 0x3F800000#32 : FVec Ideal S16x256x256 .f32) i + (scal 0x00800000#32 : FVec Ideal S16x256x256 .f32) i))) = _
  rw [h1, h1, h1, h2]
  rfl

/-- The noise. -/
theorem v263_at (b : Fin 16) (i j : Fin 256) : (rd V main_v263 : FVec Ideal S16x256x256 .f32) (ix3 b i j) = noiseAt b i j := by
  rw [rd_v263 V]
  refine (noise_apply _ _).trans (congrArg Noise.gum (word_apply V b i j))

/-- The noisy logits. -/
theorem v266_at (b : Fin 16) (i j : Fin 256) : (rd V main_v266 : FVec Ideal S16x256x256 .f32) (ix3 b i j) = Ideal.div (logit (argsOf V) b i j) 1 := by
  rw [rd_v266 V, rd_v69 V, rd_arg V (b := main_arg11) ⟨rfl, by decide⟩, rd_arg V (b := main_arg12) ⟨rfl, by decide⟩]
  refine (tempered_apply _ _ _).trans (congrArg (Ideal.div · 1) (congrArg₂ (· + ·) ?_ (v263_at V b i j)))
  exact (last_apply _ _ _ b i j).trans (congrArg (fun f => lin f _ _ i j) (funext₂ (v64_at V b)))

/-- The rows of the softmax. -/
theorem v277_at (b : Fin 16) (i j : Fin 256) : (rd V main_v277 : FVec Ideal S16x256x256 .f32) (ix3 b i j) = soft (logit (argsOf V) b i) j := by
  have e : ∀ k, (rd V main_v273 : FVec Ideal S16x256x256 .f32) (ix3 b i k)
      = Ideal.exp (Ideal.div (logit (argsOf V) b i k) 1 - Finset.univ.sup fun k => Ideal.div (logit (argsOf V) b i k) 1) := fun k => by
    rw [rd_v273 V]
    exact (rowExp_apply _ b i k).trans (congrArg Ideal.exp (congrArg₂ (· - ·) (v266_at V b i k)
      (congrArg (Finset.sup Finset.univ) (funext fun k => v266_at V b i k))))
  rw [rd_v277 V]
  exact (softmax_apply _ b i j).trans (congrArg₂ Ideal.div (e j) (Finset.sum_congr rfl fun k _ => e k))

/-- The one-hot rows. -/
theorem v279_at (hA : (argsOf V).Real) (b : Fin 16) (i j : Fin 256) : (rd V main_v279 : FVec Ideal S16x256x256 .f32) (ix3 b i j)
    = hard (soft (logit (argsOf V) b i)) j := by
  rw [rd_v279 V, rd_spread V, rd_places V, rd_v278 V]
  refine (oneHot_apply _ b i j fun k => ?_).trans (congrArg (fun f => hard f j) (funext fun k => v277_at V b i k))
  rw [v277_at]
  exact soft_isR (logit_isR hA b i) k

/-- The result, entry by entry. -/
theorem v284_at (hA : (argsOf V).Real) (b : Fin 16) (i j : Fin 256) : (rd V main_v284 : FVec Ideal S16x256x256 .f32) (ix3 b i j)
    = answer (argsOf V) b i j := by
  have e : ∀ i j, (rd V main_v281 : FVec Ideal S16x256x256 .f32) (ix3 b i j)
      = hard (soft (logit (argsOf V) b i)) j + soft (logit (argsOf V) b i) j - soft (logit (argsOf V) b i) j := fun i j => by
    rw [rd_v281 V]
    exact congrArg₂ (· - ·) (congrArg₂ (· + ·) (v279_at V hA b i j) (v277_at V b i j)) (v277_at V b i j)
  rw [rd_v284 V]
  refine (adj_apply _ b i j).trans ?_
  rw [e, e]
  exact adj_eq (logit_isR hA b) i j

end Cert.ReferenceIdeal.Hand

end
-- ==== Proof.Finite.lean ====
module

public import proofs.«01_k».proof.Defs
public import proofs.«01_k».proof.Proof.KFinal
public import proofs.«01_k».proof.Proof.RFinal
public import Idealize.ShloMosaic.Lib.Pointwise.Select

@[expose] public section

noncomputable section

/-! What the precondition says of the arguments: that each entry is a real number. -/

namespace Cert.Pre_finite.Hand

open Idealize.ShloMosaic Cert.Spec

/-- The side conditions of the precondition's operations. -/
theorem facts : Cert.Pre_finite.Facts := by constructor <;> decide

/-- A number whose absolute value lies below infinity is real. -/
theorem isR_of_abs_lt {x : EReal} (h : max x (-x) < ⊤) : IsR x := by
  induction x using EReal.rec with
  | bot => exact absurd h (by simp)
  | coe r => exact ⟨r, rfl⟩
  | top => exact absurd h (by simp)

/-- An array of which every entry compares below infinity is real. -/
theorem isR_of_cmp {s : Shape} (x : FVec Ideal s .f32) (hb) (h : cmpf .olt (Host.absf x) (broadcastInDim s ![] hb (constant (⟨0, ![]⟩ : Shape) .f32 0x7F800000#32)) = fun _ => 1#1)
    (i : s.Idx) : IsR (x i) := by
  have e := congrFun h i
  change Ideal.cmp .olt (max (x i) (-(x i))) (Ideal.ofBits .f32 0x7F800000#32) = 1 at e
  rw [Ideal.cmp_olt_eq_one, show Ideal.ofBits .f32 0x7F800000#32 = ⊤ by simp [Ideal.ofBits, Ideal.ieee]] at e
  exact isR_of_abs_lt e

variable (m : (ℓ : Loc Cert.KernelIdeal.nD Cert.KernelIdeal.τ Cert.KernelIdeal.sig) → Buf (Elt Ideal) ℓ)

/-- Under the precondition the numbers the network is given are real. -/
theorem real_of_pre [Cert.Pre_finite.Facts] (h : Cert.Pre_KernelIdeal_finite m) (c : Dev Cert.KernelIdeal.nD) :
    (Cert.KernelIdeal.Hand.argsOf (Cert.KernelIdeal.Hand.at0 m c)).Real := by
  obtain ⟨h0, h1, h2, h3, h4, h5, h6, h7, h10, h11, h12⟩ := h c
  exact {
    x := fun i j => isR_of_cmp _ _ h0 (ix2 i j)
    w0 := fun i j => isR_of_cmp _ _ h1 (ix2 i j)
    b0 := fun i => isR_of_cmp _ _ h2 (ix1 i)
    w1 := fun i j => isR_of_cmp _ _ h3 (ix2 i j)
    b1 := fun i => isR_of_cmp _ _ h4 (ix1 i)
    w2 := fun i j => isR_of_cmp _ _ h5 (ix2 i j)
    b2 := fun i => isR_of_cmp _ _ h6 (ix1 i)
    gw := fun i j => isR_of_cmp _ _ h7 (ix2 i j)
    gb := fun i => isR_of_cmp _ _ h10 (ix1 i)
    wl := fun i j => isR_of_cmp _ _ h11 (ix2 i j)
    bl := fun i => isR_of_cmp _ _ h12 (ix1 i) }

end Cert.Pre_finite.Hand

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.KFrame
public import proofs.«01_k».proof.Proof.WordKFrame
public import proofs.«01_k».proof.Proof.KFinal
public import proofs.«01_k».proof.Proof.RFacts
public import proofs.«01_k».proof.Proof.RRun
public import proofs.«01_k».proof.Proof.RFinal
public import proofs.«01_k».proof.Proof.Finite
public import Idealize.ShloMosaic.Lib.Quiescent

@[expose] public section

set_option maxRecDepth 16384

noncomputable section

namespace Cert.Proof

open Idealize.ShloMosaic Idealize.ShloMosaic.StableHlo Idealize.SL.Sem Cert.Spec

/-! ## The kernel's run -/

section KernelSide

open Cert.KernelIdeal Cert.KernelIdeal.Gen Cert.KernelIdeal.Hand

/-- The idealized kernel ends with the network's answer in its result and its arguments unchanged. -/
theorem kernel_run (m : (ℓ : Loc nD τ sig) → Buf (Elt Ideal) ℓ) (ρ : Dev nD → PrngReg) (hA : ∀ c, (Cert.KernelIdeal.Hand.argsOf (at0 m c)).Real) :
    θ_run (defs (F := Ideal)) (onTc (τ := τ) (main (F := Ideal))) ⟨m, fun _ => 0, ρ⟩ (fun r => ∀ c : Dev nD,
      r.2.mem ((c.tc : Thread nD τ).loc main_v0) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨((h.1 c).1 13).trans (final m c (hA c)), args_kept m r h.1 c⟩)
    (Cert.KernelIdeal.Hand.run_main m ρ)

end KernelSide

/-! ## The reference's run -/

section ReferenceSide

open Cert.ReferenceIdeal Cert.ReferenceIdeal.Hand

/-- The reference's result, where its numbers are real. -/
theorem reference_result (V : Valuation τ sig (Elt Ideal)) (hA : (Cert.ReferenceIdeal.Hand.argsOf V).Real) :
    (rd V main_v284 : FVec Ideal S16x256x256 .f32) = fun y => answer (Cert.ReferenceIdeal.Hand.argsOf V) (y 0) (y 1) (y 2) :=
  funext fun y => (congrArg (rd V main_v284 : FVec Ideal S16x256x256 .f32) (show y = ix3 (y 0) (y 1) (y 2) from funext fun a => by fin_cases a <;> rfl)).trans
    (v284_at V hA (y 0) (y 1) (y 2))

instance instFacts : Cert.ReferenceIdeal.Facts := Cert.ReferenceIdeal.Hand.facts

/-- Every argument of the reference ends as it was launched. -/
theorem ref_kept (m : (ℓ : Loc nD τ sig) → Buf (Elt Ideal) ℓ) (r : Unit × MemSt nD τ sig (Elt Ideal)) (c : Dev nD)
    (h : ∀ b : Ref sig .tc, r.2.mem ((c.tc : Thread nD τ).loc b) = after ops (launchContents m c) (Proc.devRef .tc b)) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  ⟨(h main_arg0).trans (arg_kept (launchContents m c) ⟨rfl, by decide⟩),
    (h main_arg1).trans (arg_kept (launchContents m c) ⟨rfl, by decide⟩),
    (h main_arg2).trans (arg_kept (launchContents m c) ⟨rfl, by decide⟩),
    (h main_arg3).trans (arg_kept (launchContents m c) ⟨rfl, by decide⟩),
    (h main_arg4).trans (arg_kept (launchContents m c) ⟨rfl, by decide⟩),
    (h main_arg5).trans (arg_kept (launchContents m c) ⟨rfl, by decide⟩),
    (h main_arg6).trans (arg_kept (launchContents m c) ⟨rfl, by decide⟩),
    (h main_arg7).trans (arg_kept (launchContents m c) ⟨rfl, by decide⟩),
    (h main_arg8).trans (arg_kept (launchContents m c) ⟨rfl, by decide⟩),
    (h main_arg9).trans (arg_kept (launchContents m c) ⟨rfl, by decide⟩),
    (h main_arg10).trans (arg_kept (launchContents m c) ⟨rfl, by decide⟩),
    (h main_arg11).trans (arg_kept (launchContents m c) ⟨rfl, by decide⟩),
    (h main_arg12).trans (arg_kept (launchContents m c) ⟨rfl, by decide⟩)⟩

/-- The reference leaves its arguments as they were and every counter at zero. -/
theorem reference_frame : Cert.quiescent_ReferenceIdeal := fun m ρ _ =>
  (θ_run (defs (F := Ideal)) _ _).mono (fun r h => ⟨fun c => ref_kept m r c (h c), sem_eq_zero_of_no_sems (by decide) r.2⟩) (Cert.ReferenceIdeal.Hand.run_main m ρ)

end ReferenceSide

/-! ## The two together -/

instance preFacts : Cert.Pre_finite.Facts := Cert.Pre_finite.Hand.facts

/-- Where the arguments are real numbers, the idealized kernel's result is the reference's. -/
theorem values : Cert.algebraic_KernelIdeal_ReferenceIdeal_pre_finite := fun m g m' g' hpre hargs => by
  have hA := Cert.Pre_finite.Hand.real_of_pre m hpre
  have e : ∀ c, Cert.ReferenceIdeal.Hand.argsOf (launchContents m' c) = Cert.KernelIdeal.Hand.argsOf (Cert.KernelIdeal.Hand.at0 m c) := fun c => by
    obtain ⟨h0, h1, h2, h3, h4, h5, h6, h7, h8, h9, h10, h11, h12⟩ := hargs c
    exact Args.ext (funext₂ fun i j => congrFun h0 (ix2 i j)) (funext₂ fun i j => congrFun h1 (ix2 i j)) (funext fun i => congrFun h2 (ix1 i))
      (funext₂ fun i j => congrFun h3 (ix2 i j)) (funext fun i => congrFun h4 (ix1 i)) (funext₂ fun i j => congrFun h5 (ix2 i j)) (funext fun i => congrFun h6 (ix1 i))
      (funext₂ fun i j => congrFun h7 (ix2 i j)) (funext₂ fun i j => congrFun h8 (ix2 i j)) (funext₂ fun i j => congrFun h9 (ix2 i j)) (funext fun i => congrFun h10 (ix1 i))
      (funext₂ fun i j => congrFun h11 (ix2 i j)) (funext fun i => congrFun h12 (ix1 i))
  refine ⟨fun c => Cert.KernelIdeal.Hand.res m c, kernel_run m g hA, ?_⟩
  refine (θ_run (Cert.ReferenceIdeal.defs (F := Ideal)) _ _).mono (fun r h c => ⟨(h c Cert.ReferenceIdeal.main_v284).trans ?_, ref_kept m' r c (h c)⟩)
    (Cert.ReferenceIdeal.Hand.run_main m' g')
  refine (reference_result (launchContents m' c) ((e c).symm ▸ hA c)).trans ?_
  rw [e c]
  rfl

/-- Everything that is claimed. -/
theorem claim : Cert.Claim :=
  ⟨Cert.Kernel.Gen.facts, Cert.KernelIdeal.Gen.facts, Cert.ReferenceIdeal.Hand.facts, Cert.Pre_finite.Hand.facts,
    fun m ρ _ => Cert.Kernel.Hand.frame m ρ, fun m ρ _ => Cert.KernelIdeal.Hand.frame m ρ, fun m ρ _ => Cert.KernelIdeal.Hand.frame m ρ,
    reference_frame, fun m ρ _ => reference_frame m ρ trivial, trivial, values⟩

end Cert.Proof

end
